-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8192x64 : Shape := ⟨2, ![8192, 64]⟩
abbrev S8192x64x64 : Shape := ⟨3, ![8192, 64, 64]⟩
abbrev S8192 : Shape := ⟨1, ![8192]⟩
abbrev S65 : Shape := ⟨1, ![65]⟩
abbrev S16 : Shape := ⟨1, ![16]⟩
abbrev S5 : Shape := ⟨1, ![5]⟩
abbrev S190 : Shape := ⟨1, ![190]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x64x64 : S_.BroadcastsInDim S8192x64x64 (![] : Fin 0 → Fin S8192x64x64.rank)
  reducesTo_S8192x64x64_S_d0_1_2 : S8192x64x64.ReducesTo [0, 1, 2] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg2 : IVec S8192 32) (main_v12 : IVec S_ 1) (main_v14 : IVec S8192 1) (main_v15 : IVec S8192 32) : IVec S_ 1 :=
  let main_v16 : IVec S8192 1 := cmpi .sle main_arg2 main_v15
  let main_v17 : IVec S8192 1 := andi main_v14 main_v16
  let main_c_7 : IVec S_ 1 := constantI S_ 1 1#1
  let main_v18 : IVec S_ 1 := (fun x v => Host.reduce IntOp.andi x v reducesTo_S8192_S_d0 h_S_) main_v17 main_c_7
  let main_v19 : IVec S_ 1 := andi main_v12 main_v18
  main_v19

def fn {F : FTy → Type} [FloatOps F] (main_arg0 : IVec S8192x64 32) (main_arg1 : IVec S8192x64x64 32) (main_arg2 : IVec S8192 32) (main_arg3 : FVec F S65 .f32) (main_arg4 : FVec F S16 .f32) (main_arg5 : FVec F S5 .f32) (main_arg6 : FVec F S190 .f32) : IVec S_ 1 :=
  let main_c : IVec S_ 32 := constantI S_ 32 0#32
  let main_v0 : IVec S8192x64 32 := broadcastInDim S8192x64 ![] bcast_S_S8192x64 main_c
  let main_v1 : IVec S8192x64 1 := cmpi .sge main_arg0 main_v0
  let main_c_0 : IVec S_ 32 := constantI S_ 32 16#32
  let main_v2 : IVec S8192x64 32 := broadcastInDim S8192x64 ![] bcast_S_S8192x64 main_c_0
  let main_v3 : IVec S8192x64 1 := cmpi .slt main_arg0 main_v2
  let main_v4 : IVec S8192x64 1 := andi main_v1 main_v3
  let main_c_1 : IVec S_ 1 := constantI S_ 1 1#1
  let main_v5 : IVec S_ 1 := (fun x v => Host.reduce IntOp.andi x v reducesTo_S8192x64_S_d0_1 h_S_) main_v4 main_c_1
  let main_c_2 : IVec S_ 32 := constantI S_ 32 0#32
  let main_v6 : IVec S8192x64x64 32 := broadcastInDim S8192x64x64 ![] bcast_S_S8192x64x64 main_c_2
  let main_v7 : IVec S8192x64x64 1 := cmpi .sge main_arg1 main_v6
  let main_c_3 : IVec S_ 32 := constantI S_ 32 5#32
  let main_v8 : IVec S8192x64x64 32 := broadcastInDim S8192x64x64 ![] bcast_S_S8192x64x64 main_c_3
  let main_v9 : IVec S8192x64x64 1 := cmpi .slt main_arg1 main_v8
  let main_v10 : IVec S8192x64x64 1 := andi main_v7 main_v9
  let main_c_4 : IVec S_ 1 := constantI S_ 1 1#1
  let main_v11 : IVec S_ 1 := (fun x v => Host.reduce IntOp.andi x v reducesTo_S8192x64x64_S_d0_1_2 h_S_) main_v10 main_c_4
  let main_v12 : IVec S_ 1 := andi main_v5 main_v11
  let main_c_5 : IVec S_ 32 := constantI S_ 32 0#32
  let main_v13 : IVec S8192 32 := broadcastInDim S8192 ![] bcast_S_S8192 main_c_5
  let main_v14 : IVec S8192 1 := cmpi .sge main_arg2 main_v13
  let main_c_6 : IVec S_ 32 := constantI S_ 32 64#32
  let main_v15 : IVec S8192 32 := broadcastInDim S8192 ![] bcast_S_S8192 main_c_6
  fn_part1 (F := F) main_arg2 main_v12 main_v14 main_v15
-- ==== Kernel.lean ====
abbrev S8192x64 : Shape := ⟨2, ![8192, 64]⟩
abbrev S8192x64x64 : Shape := ⟨3, ![8192, 64, 64]⟩
abbrev S8192 : Shape := ⟨1, ![8192]⟩
abbrev S65 : Shape := ⟨1, ![65]⟩
abbrev S16 : Shape := ⟨1, ![16]⟩
abbrev S5 : Shape := ⟨1, ![5]⟩
abbrev S190 : Shape := ⟨1, ![190]⟩
abbrev S524288 : Shape := ⟨1, ![524288]⟩
abbrev S8192x4096 : Shape := ⟨2, ![8192, 4096]⟩
abbrev S32x4608 : Shape := ⟨2, ![32, 4608]⟩
abbrev S4096 : Shape := ⟨1, ![4096]⟩
abbrev S16384 : Shape := ⟨1, ![16384]⟩
abbrev S256 : Shape := ⟨1, ![256]⟩
abbrev S4608 : Shape := ⟨1, ![4608]⟩
abbrev S_ : Shape := ⟨0, ![]⟩
abbrev S1x4096 : Shape := ⟨2, ![1, 4096]⟩
abbrev S1x4608 : Shape := ⟨2, ![1, 4608]⟩
abbrev S32x288x16 : Shape := ⟨3, ![32, 288, 16]⟩
abbrev S4 : Shape := ⟨1, ![4]⟩
abbrev S288x16 : Shape := ⟨2, ![288, 16]⟩
abbrev S288 : Shape := ⟨1, ![288]⟩
abbrev S1x65 : Shape := ⟨2, ![1, 65]⟩
abbrev S1x1x65 : Shape := ⟨3, ![1, 1, 65]⟩
abbrev S1 : Shape := ⟨1, ![1]⟩
abbrev S1x1x1 : Shape := ⟨3, ![1, 1, 1]⟩
abbrev S1x1 : Shape := ⟨2, ![1, 1]⟩
abbrev S1x16 : Shape := ⟨2, ![1, 16]⟩
abbrev S1x5 : Shape := ⟨2, ![1, 5]⟩
abbrev S1x190 : Shape := ⟨2, ![1, 190]⟩

abbrev nBuf : Table → Nat
  | .hbm => 16
  | .local .tc .vmem => 10
  | .local .scVector .vmem => 12
  | _ => 0

abbrev bufTy : (tb : Table) → Fin (nBuf tb) → BufTy
  | .hbm, ⟨0, _⟩ => ⟨S8192x64, .i32⟩
  | .hbm, ⟨1, _⟩ => ⟨S8192x64x64, .i32⟩
  | .hbm, ⟨2, _⟩ => ⟨S8192, .i32⟩
  | .hbm, ⟨3, _⟩ => ⟨S65, .f32⟩
  | .hbm, ⟨4, _⟩ => ⟨S16, .f32⟩
  | .hbm, ⟨5, _⟩ => ⟨S5, .f32⟩
  | .hbm, ⟨6, _⟩ => ⟨S190, .f32⟩
  | .hbm, ⟨7, _⟩ => ⟨S524288, .i32⟩
  | .hbm, ⟨8, _⟩ => ⟨S8192x4096, .i32⟩
  | .hbm, ⟨9, _⟩ => ⟨S32x4608, .f32⟩
  | .hbm, ⟨10, _⟩ => ⟨S32x288x16, .f32⟩
  | .hbm, ⟨11, _⟩ => ⟨S65, .f32⟩
  | .hbm, ⟨12, _⟩ => ⟨S16, .f32⟩
  | .hbm, ⟨13, _⟩ => ⟨S5, .f32⟩
  | .hbm, ⟨14, _⟩ => ⟨S190, .f32⟩
  | .hbm, ⟨15, _⟩ => ⟨S4, .f32⟩
  | .local .tc .vmem, ⟨0, _⟩ => ⟨S32x288x16, .f32⟩
  | .local .tc .vmem, ⟨1, _⟩ => ⟨S65, .f32⟩
  | .local .tc .vmem, ⟨2, _⟩ => ⟨S16, .f32⟩
  | .local .tc .vmem, ⟨3, _⟩ => ⟨S5, .f32⟩
  | .local .tc .vmem, ⟨4, _⟩ => ⟨S190, .f32⟩
  | .local .tc .vmem, ⟨5, _⟩ => ⟨S65, .f32⟩
  | .local .tc .vmem, ⟨6, _⟩ => ⟨S16, .f32⟩
  | .local .tc .vmem, ⟨7, _⟩ => ⟨S5, .f32⟩
  | .local .tc .vmem, ⟨8, _⟩ => ⟨S190, .f32⟩
  | .local .tc .vmem, ⟨9, _⟩ => ⟨S4, .f32⟩
  | .local .scVector .vmem, ⟨0, _⟩ => ⟨S4096, .i32⟩
  | .local .scVector .vmem, ⟨1, _⟩ => ⟨S4096, .i32⟩
  | .local .scVector .vmem, ⟨2, _⟩ => ⟨S4096, .i32⟩
  | .local .scVector .vmem, ⟨3, _⟩ => ⟨S4096, .i32⟩
  | .local .scVector .vmem, ⟨4, _⟩ => ⟨S4096, .i32⟩
  | .local .scVector .vmem, ⟨5, _⟩ => ⟨S4096, .i32⟩
  | .local .scVector .vmem, ⟨6, _⟩ => ⟨S4096, .i32⟩
  | .local .scVector .vmem, ⟨7, _⟩ => ⟨S4096, .i32⟩
  | .local .scVector .vmem, ⟨8, _⟩ => ⟨S16384, .i32⟩
  | .local .scVector .vmem, ⟨9, _⟩ => ⟨S256, .i32⟩
  | .local .scVector .vmem, ⟨10, _⟩ => ⟨S4608, .f32⟩
  | .local .scVector .vmem, ⟨11, _⟩ => ⟨S16, .i32⟩
  | _, _ => ⟨S8192x64, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v1_scv : Ref sig .scVector := ⟨.hbm, 8, rfl⟩
abbrev main_v0_scv : Ref sig .scVector := ⟨.hbm, 7, rfl⟩
abbrev main_arg2_scv : Ref sig .scVector := ⟨.hbm, 2, rfl⟩
abbrev main_v2_scv : Ref sig .scVector := ⟨.hbm, 9, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c288_i32 : BitVec 32 := 288#32
  let v6 : BitVec 32 := Scalar.addi c0_i32_1 c288_i32
  let c1_i32 : BitVec 32 := 1#32
  ⟨c0_i32_1, v6, c1_i32⟩
def k0_off1 (k0_t1 : Fin k0_t1_loop.trips) : Fin 1 → Nat :=
  let c0_i32_1 : BitVec 32 := 0#32
  let c1_i32 : BitVec 32 := 1#32
  let arg26 : BitVec 32 := Scf.iv c0_i32_1 c1_i32 k0_t1
  let c16_i32_61 : BitVec 32 := 16#32
  let v117 : BitVec 32 := Scalar.muli arg26 c16_i32_61
  let v118 : Index := Scalar.indexCast v117
  ![v118.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c64_i32 : BitVec 32 := 64#32
  let v8 : BitVec 32 := Scalar.muli v2 c64_i32
  ![v8.toNat]
@[reducible] def k0_t2_loop : Scf.Loop 32 :=
  let c0_i32_9 : BitVec 32 := 0#32
  let c16_i32_10 : BitVec 32 := 16#32
  let v26 : BitVec 32 := Scalar.addi c0_i32_9 c16_i32_10
  let c1_i32_11 : BitVec 32 := 1#32
  ⟨c0_i32_9, v26, c1_i32_11⟩
def k0_off4 (k0_t2 : Fin k0_t2_loop.trips) : Fin 1 → Nat :=
  let c0_i32_9 : BitVec 32 := 0#32
  let c1_i32_11 : BitVec 32 := 1#32
  let arg26 : BitVec 32 := Scf.iv c0_i32_9 c1_i32_11 k0_t2
  let c16_i32_61 : BitVec 32 := 16#32
  let v117 : BitVec 32 := Scalar.muli arg26 c16_i32_61
  let v118 : Index := Scalar.indexCast v117
  ![v118.toNat]

def k0_chk1 (v124 : IVec S16 32) : Prop :=
  (∀ a x, ((![v124] : Fin 1 → IVec S16 32) a x).toNat < S4608.size a)
theorem k0_idx1_inb : ∀ (v124 : IVec S16 32) (k0_hw1 : k0_chk1 v124), ∀ a x, ((![v124] : Fin 1 → IVec S16 32) a x).toNat < S4608.size a := fun v124 k0_hw1 => k0_hw1
def k0_off5 (i : grid0.Coords) (c0_i32_20 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v41 : BitVec 32 := Scalar.addi v2 c0_i32_20
  let c8191_i32 : BitVec 32 := 8191#32
  let v42 : BitVec 32 := Scalar.minsi v41 c8191_i32
  let c0_i32_21 : BitVec 32 := 0#32
  ![v42.toNat, 0]
@[reducible] def k0_t3_loop : Scf.Loop 32 :=
  let c0_i32_43 : BitVec 32 := 0#32
  let c32_i32_44 : BitVec 32 := 32#32
  let v83 : BitVec 32 := Scalar.addi c0_i32_43 c32_i32_44
  let c1_i32_45 : BitVec 32 := 1#32
  ⟨c0_i32_43, v83, c1_i32_45⟩
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_62 : BitVec 32 := 0#32
  ![v2.toNat, 0]
def k0_off7 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c0_i32_64 : BitVec 32 := 0#32
  let v122 : BitVec 32 := Scalar.addi v117 c0_i32_64
  let c8_i32_65 : BitVec 32 := 8#32
  let v123 : BitVec 32 := Scalar.addi v122 c8_i32_65
  let c1_i32_66 : BitVec 32 := 1#32
  let v124 : BitVec 32 := Scalar.subi v123 c1_i32_66
  let v125 : BitVec 32 := Scalar.addi v2 v124
  let c8191_i32_67 : BitVec 32 := 8191#32
  let v126 : BitVec 32 := Scalar.minsi v125 c8191_i32_67
  let c0_i32_68 : BitVec 32 := 0#32
  ![v126.toNat, 0]

def k0_chk2 (v132 : IVec S16 32) : Prop :=
  (∀ a x, ((![v132] : Fin 1 → IVec S16 32) a x).toNat < S256.size a)
theorem k0_idx2_inb : ∀ (v132 : IVec S16 32) (k0_hw2 : k0_chk2 v132), ∀ a x, ((![v132] : Fin 1 → IVec S16 32) a x).toNat < S256.size a := fun v132 k0_hw2 => k0_hw2
@[reducible] def k0_t4_loop (v139 : BitVec 32) : Scf.Loop 32 :=
  let c0_i32_71 : BitVec 32 := 0#32
  let v144 : BitVec 32 := Scalar.subi v139 c0_i32_71
  let c1_i32_72 : BitVec 32 := 1#32
  let v146 : BitVec 32 := Scalar.divsi v144 c1_i32_72
  let v147 : BitVec 32 := Scalar.muli v146 c1_i32_72
  let v148 : BitVec 32 := Scalar.addi c0_i32_71 v147
  let c1_i32_73 : BitVec 32 := 1#32
  ⟨c0_i32_71, v148, c1_i32_73⟩

def k0_off8 (v139 : BitVec 32) (k0_t4 : Fin (k0_t4_loop v139).trips) : Fin 1 → Nat :=
  let c0_i32_71 : BitVec 32 := 0#32
  let c1_i32_73 : BitVec 32 := 1#32
  let arg31 : BitVec 32 := Scf.iv c0_i32_71 c1_i32_73 k0_t4
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk4 (v1170 : IVec S16 32) : Prop :=
  (∀ a x, ((![v1170] : Fin 1 → IVec S16 32) a x).toNat < S16.size a)
theorem k0_idx3_inb : ∀ (v1170 : IVec S16 32) (k0_hw4 : k0_chk4 v1170), ∀ a x, ((![v1170] : Fin 1 → IVec S16 32) a x).toNat < S16.size a := fun v1170 k0_hw4 => k0_hw4
def k0_off9 (v139 : BitVec 32) (k0_t4 : Fin (k0_t4_loop v139).trips) : Fin 1 → Nat :=
  let c0_i32_71 : BitVec 32 := 0#32
  let c1_i32_73 : BitVec 32 := 1#32
  let arg31 : BitVec 32 := Scf.iv c0_i32_71 c1_i32_73 k0_t4
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk5 (v1185 : IVec S16 32) : Prop :=
  (∀ a x, ((![v1185] : Fin 1 → IVec S16 32) a x).toNat < S16.size a)
theorem k0_idx4_inb : ∀ (v1185 : IVec S16 32) (k0_hw5 : k0_chk5 v1185), ∀ a x, ((![v1185] : Fin 1 → IVec S16 32) a x).toNat < S16.size a := fun v1185 k0_hw5 => k0_hw5
def k0_off10 (v139 : BitVec 32) (k0_t4 : Fin (k0_t4_loop v139).trips) : Fin 1 → Nat :=
  let c0_i32_71 : BitVec 32 := 0#32
  let c1_i32_73 : BitVec 32 := 1#32
  let arg31 : BitVec 32 := Scf.iv c0_i32_71 c1_i32_73 k0_t4
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk6 (v1200 : IVec S16 32) : Prop :=
  (∀ a x, ((![v1200] : Fin 1 → IVec S16 32) a x).toNat < S16.size a)
theorem k0_idx5_inb : ∀ (v1200 : IVec S16 32) (k0_hw6 : k0_chk6 v1200), ∀ a x, ((![v1200] : Fin 1 → IVec S16 32) a x).toNat < S16.size a := fun v1200 k0_hw6 => k0_hw6
def k0_off11 (v139 : BitVec 32) (k0_t4 : Fin (k0_t4_loop v139).trips) : Fin 1 → Nat :=
  let c0_i32_71 : BitVec 32 := 0#32
  let c1_i32_73 : BitVec 32 := 1#32
  let arg31 : BitVec 32 := Scf.iv c0_i32_71 c1_i32_73 k0_t4
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk7 (v1215 : IVec S16 32) : Prop :=
  (∀ a x, ((![v1215] : Fin 1 → IVec S16 32) a x).toNat < S16.size a)
theorem k0_idx6_inb : ∀ (v1215 : IVec S16 32) (k0_hw7 : k0_chk7 v1215), ∀ a x, ((![v1215] : Fin 1 → IVec S16 32) a x).toNat < S16.size a := fun v1215 k0_hw7 => k0_hw7
@[reducible] def k0_t5_loop (v139 : BitVec 32) : Scf.Loop 32 :=
  let c0_i32_71 : BitVec 32 := 0#32
  let v144 : BitVec 32 := Scalar.subi v139 c0_i32_71
  let c1_i32_72 : BitVec 32 := 1#32
  let v146 : BitVec 32 := Scalar.divsi v144 c1_i32_72
  let v147 : BitVec 32 := Scalar.muli v146 c1_i32_72
  let v148 : BitVec 32 := Scalar.addi c0_i32_71 v147
  let v145 : BitVec 32 := Scalar.addi c0_i32_71 v144
  let c1_i32_74 : BitVec 32 := 1#32
  ⟨v148, v145, c1_i32_74⟩
def k0_off12 (v139 : BitVec 32) (k0_t5 : Fin (k0_t5_loop v139).trips) : Fin 1 → Nat :=
  let c0_i32_71 : BitVec 32 := 0#32
  let v144 : BitVec 32 := Scalar.subi v139 c0_i32_71
  let c1_i32_72 : BitVec 32 := 1#32
  let v146 : BitVec 32 := Scalar.divsi v144 c1_i32_72
  let v147 : BitVec 32 := Scalar.muli v146 c1_i32_72
  let v148 : BitVec 32 := Scalar.addi c0_i32_71 v147
  let c1_i32_74 : BitVec 32 := 1#32
  let arg31 : BitVec 32 := Scf.iv v148 c1_i32_74 k0_t5
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk8 (v1170 : IVec S16 32) : Prop :=
  (∀ a x, ((![v1170] : Fin 1 → IVec S16 32) a x).toNat < S16.size a)
theorem k0_idx7_inb : ∀ (v1170 : IVec S16 32) (k0_hw8 : k0_chk8 v1170), ∀ a x, ((![v1170] : Fin 1 → IVec S16 32) a x).toNat < S16.size a := fun v1170 k0_hw8 => k0_hw8
def k0_off13 (v139 : BitVec 32) (k0_t5 : Fin (k0_t5_loop v139).trips) : Fin 1 → Nat :=
  let c0_i32_71 : BitVec 32 := 0#32
  let v144 : BitVec 32 := Scalar.subi v139 c0_i32_71
  let c1_i32_72 : BitVec 32 := 1#32
  let v146 : BitVec 32 := Scalar.divsi v144 c1_i32_72
  let v147 : BitVec 32 := Scalar.muli v146 c1_i32_72
  let v148 : BitVec 32 := Scalar.addi c0_i32_71 v147
  let c1_i32_74 : BitVec 32 := 1#32
  let arg31 : BitVec 32 := Scf.iv v148 c1_i32_74 k0_t5
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk9 (v1185 : IVec S16 32) : Prop :=
  (∀ a x, ((![v1185] : Fin 1 → IVec S16 32) a x).toNat < S16.size a)
theorem k0_idx8_inb : ∀ (v1185 : IVec S16 32) (k0_hw9 : k0_chk9 v1185), ∀ a x, ((![v1185] : Fin 1 → IVec S16 32) a x).toNat < S16.size a := fun v1185 k0_hw9 => k0_hw9
def k0_off14 (v139 : BitVec 32) (k0_t5 : Fin (k0_t5_loop v139).trips) : Fin 1 → Nat :=
  let c0_i32_71 : BitVec 32 := 0#32
  let v144 : BitVec 32 := Scalar.subi v139 c0_i32_71
  let c1_i32_72 : BitVec 32 := 1#32
  let v146 : BitVec 32 := Scalar.divsi v144 c1_i32_72
  let v147 : BitVec 32 := Scalar.muli v146 c1_i32_72
  let v148 : BitVec 32 := Scalar.addi c0_i32_71 v147
  let c1_i32_74 : BitVec 32 := 1#32
  let arg31 : BitVec 32 := Scf.iv v148 c1_i32_74 k0_t5
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk10 (v1200 : IVec S16 32) : Prop :=
  (∀ a x, ((![v1200] : Fin 1 → IVec S16 32) a x).toNat < S16.size a)
theorem k0_idx9_inb : ∀ (v1200 : IVec S16 32) (k0_hw10 : k0_chk10 v1200), ∀ a x, ((![v1200] : Fin 1 → IVec S16 32) a x).toNat < S16.size a := fun v1200 k0_hw10 => k0_hw10
def k0_off15 (v139 : BitVec 32) (k0_t5 : Fin (k0_t5_loop v139).trips) : Fin 1 → Nat :=
  let c0_i32_71 : BitVec 32 := 0#32
  let v144 : BitVec 32 := Scalar.subi v139 c0_i32_71
  let c1_i32_72 : BitVec 32 := 1#32
  let v146 : BitVec 32 := Scalar.divsi v144 c1_i32_72
  let v147 : BitVec 32 := Scalar.muli v146 c1_i32_72
  let v148 : BitVec 32 := Scalar.addi c0_i32_71 v147
  let c1_i32_74 : BitVec 32 := 1#32
  let arg31 : BitVec 32 := Scf.iv v148 c1_i32_74 k0_t5
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk3 (v139 : BitVec 32) : Prop :=
  ((k0_t4_loop v139).OK) ∧
  (∀ k0_t4 : Fin (k0_t4_loop v139).trips, ∀ a, (k0_off8 v139 k0_t4) a + S16.size a ≤ S4096.size a) ∧
  (∀ k0_t4 : Fin (k0_t4_loop v139).trips, ∀ a, (k0_off9 v139 k0_t4) a + S16.size a ≤ S4096.size a) ∧
  (∀ k0_t4 : Fin (k0_t4_loop v139).trips, ∀ a, (k0_off10 v139 k0_t4) a + S16.size a ≤ S4096.size a) ∧
  (∀ k0_t4 : Fin (k0_t4_loop v139).trips, ∀ a, (k0_off11 v139 k0_t4) a + S16.size a ≤ S4096.size a) ∧
  ((k0_t5_loop v139).OK) ∧
  (∀ k0_t5 : Fin (k0_t5_loop v139).trips, ∀ a, (k0_off12 v139 k0_t5) a + S16.size a ≤ S4096.size a) ∧
  (∀ k0_t5 : Fin (k0_t5_loop v139).trips, ∀ a, (k0_off13 v139 k0_t5) a + S16.size a ≤ S4096.size a) ∧
  (∀ k0_t5 : Fin (k0_t5_loop v139).trips, ∀ a, (k0_off14 v139 k0_t5) a + S16.size a ≤ S4096.size a) ∧
  (∀ k0_t5 : Fin (k0_t5_loop v139).trips, ∀ a, (k0_off15 v139 k0_t5) a + S16.size a ≤ S4096.size a)
theorem k0_t4_ok : ∀ (v139 : BitVec 32) (k0_hw3 : k0_chk3 v139), (k0_t4_loop v139).OK := fun v139 k0_hw3 => k0_hw3.1
theorem k0_off8_inb : ∀ (v139 : BitVec 32) (k0_hw3 : k0_chk3 v139) (k0_t4 : Fin (k0_t4_loop v139).trips), ∀ a, (k0_off8 v139 k0_t4) a + S16.size a ≤ S4096.size a := fun v139 k0_hw3 k0_t4 => k0_hw3.2.1 k0_t4
theorem k0_off9_inb : ∀ (v139 : BitVec 32) (k0_hw3 : k0_chk3 v139) (k0_t4 : Fin (k0_t4_loop v139).trips), ∀ a, (k0_off9 v139 k0_t4) a + S16.size a ≤ S4096.size a := fun v139 k0_hw3 k0_t4 => k0_hw3.2.2.1 k0_t4
theorem k0_off10_inb : ∀ (v139 : BitVec 32) (k0_hw3 : k0_chk3 v139) (k0_t4 : Fin (k0_t4_loop v139).trips), ∀ a, (k0_off10 v139 k0_t4) a + S16.size a ≤ S4096.size a := fun v139 k0_hw3 k0_t4 => k0_hw3.2.2.2.1 k0_t4
theorem k0_off11_inb : ∀ (v139 : BitVec 32) (k0_hw3 : k0_chk3 v139) (k0_t4 : Fin (k0_t4_loop v139).trips), ∀ a, (k0_off11 v139 k0_t4) a + S16.size a ≤ S4096.size a := fun v139 k0_hw3 k0_t4 => k0_hw3.2.2.2.2.1 k0_t4
theorem k0_t5_ok : ∀ (v139 : BitVec 32) (k0_hw3 : k0_chk3 v139), (k0_t5_loop v139).OK := fun v139 k0_hw3 => k0_hw3.2.2.2.2.2.1
theorem k0_off12_inb : ∀ (v139 : BitVec 32) (k0_hw3 : k0_chk3 v139) (k0_t5 : Fin (k0_t5_loop v139).trips), ∀ a, (k0_off12 v139 k0_t5) a + S16.size a ≤ S4096.size a := fun v139 k0_hw3 k0_t5 => k0_hw3.2.2.2.2.2.2.1 k0_t5
theorem k0_off13_inb : ∀ (v139 : BitVec 32) (k0_hw3 : k0_chk3 v139) (k0_t5 : Fin (k0_t5_loop v139).trips), ∀ a, (k0_off13 v139 k0_t5) a + S16.size a ≤ S4096.size a := fun v139 k0_hw3 k0_t5 => k0_hw3.2.2.2.2.2.2.2.1 k0_t5
theorem k0_off14_inb : ∀ (v139 : BitVec 32) (k0_hw3 : k0_chk3 v139) (k0_t5 : Fin (k0_t5_loop v139).trips), ∀ a, (k0_off14 v139 k0_t5) a + S16.size a ≤ S4096.size a := fun v139 k0_hw3 k0_t5 => k0_hw3.2.2.2.2.2.2.2.2.1 k0_t5
theorem k0_off15_inb : ∀ (v139 : BitVec 32) (k0_hw3 : k0_chk3 v139) (k0_t5 : Fin (k0_t5_loop v139).trips), ∀ a, (k0_off15 v139 k0_t5) a + S16.size a ≤ S4096.size a := fun v139 k0_hw3 k0_t5 => k0_hw3.2.2.2.2.2.2.2.2.2 k0_t5

def k0_chk11 (v1215 : IVec S16 32) : Prop :=
  (∀ a x, ((![v1215] : Fin 1 → IVec S16 32) a x).toNat < S16.size a)
theorem k0_idx10_inb : ∀ (v1215 : IVec S16 32) (k0_hw11 : k0_chk11 v1215), ∀ a x, ((![v1215] : Fin 1 → IVec S16 32) a x).toNat < S16.size a := fun v1215 k0_hw11 => k0_hw11

def k0_chk12 (v182 : IVec S16 32) : Prop :=
  (∀ a x, ((![v182] : Fin 1 → IVec S16 32) a x).toNat < S4608.size a)
theorem k0_idx11_inb : ∀ (v182 : IVec S16 32) (k0_hw12 : k0_chk12 v182), ∀ a x, ((![v182] : Fin 1 → IVec S16 32) a x).toNat < S4608.size a := fun v182 k0_hw12 => k0_hw12
def k0_off16 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c0_i32_70 : BitVec 32 := 0#32
  let v131 : BitVec 32 := Scalar.addi v117 c0_i32_70
  let c64_i32_83 : BitVec 32 := 64#32
  let v183 : BitVec 32 := Scalar.muli v131 c64_i32_83
  let c0_i32_84 : BitVec 32 := 0#32
  let v184 : BitVec 32 := Scalar.addi v183 c0_i32_84
  let v185 : Index := Scalar.indexCast v184
  ![v185.toNat]

def k0_chk13 (v191 : IVec S16 32) : Prop :=
  (∀ a x, ((![v191] : Fin 1 → IVec S16 32) a x).toNat < S4608.size a)
theorem k0_idx12_inb : ∀ (v191 : IVec S16 32) (k0_hw13 : k0_chk13 v191), ∀ a x, ((![v191] : Fin 1 → IVec S16 32) a x).toNat < S4608.size a := fun v191 k0_hw13 => k0_hw13

def k0_chk14 (v201 : IVec S16 32) : Prop :=
  (∀ a x, ((![v201] : Fin 1 → IVec S16 32) a x).toNat < S4608.size a)
theorem k0_idx13_inb : ∀ (v201 : IVec S16 32) (k0_hw14 : k0_chk14 v201), ∀ a x, ((![v201] : Fin 1 → IVec S16 32) a x).toNat < S4608.size a := fun v201 k0_hw14 => k0_hw14
def k0_off17 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c0_i32_70 : BitVec 32 := 0#32
  let v131 : BitVec 32 := Scalar.addi v117 c0_i32_70
  let c64_i32_90 : BitVec 32 := 64#32
  let v202 : BitVec 32 := Scalar.muli v131 c64_i32_90
  let c16_i32_91 : BitVec 32 := 16#32
  let v203 : BitVec 32 := Scalar.addi v202 c16_i32_91
  let v204 : Index := Scalar.indexCast v203
  ![v204.toNat]

def k0_chk15 (v210 : IVec S16 32) : Prop :=
  (∀ a x, ((![v210] : Fin 1 → IVec S16 32) a x).toNat < S4608.size a)
theorem k0_idx14_inb : ∀ (v210 : IVec S16 32) (k0_hw15 : k0_chk15 v210), ∀ a x, ((![v210] : Fin 1 → IVec S16 32) a x).toNat < S4608.size a := fun v210 k0_hw15 => k0_hw15

def k0_chk16 (v220 : IVec S16 32) : Prop :=
  (∀ a x, ((![v220] : Fin 1 → IVec S16 32) a x).toNat < S4608.size a)
theorem k0_idx15_inb : ∀ (v220 : IVec S16 32) (k0_hw16 : k0_chk16 v220), ∀ a x, ((![v220] : Fin 1 → IVec S16 32) a x).toNat < S4608.size a := fun v220 k0_hw16 => k0_hw16
def k0_off18 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c0_i32_70 : BitVec 32 := 0#32
  let v131 : BitVec 32 := Scalar.addi v117 c0_i32_70
  let c64_i32_98 : BitVec 32 := 64#32
  let v221 : BitVec 32 := Scalar.muli v131 c64_i32_98
  let c32_i32_99 : BitVec 32 := 32#32
  let v222 : BitVec 32 := Scalar.addi v221 c32_i32_99
  let v223 : Index := Scalar.indexCast v222
  ![v223.toNat]

def k0_chk17 (v229 : IVec S16 32) : Prop :=
  (∀ a x, ((![v229] : Fin 1 → IVec S16 32) a x).toNat < S4608.size a)
theorem k0_idx16_inb : ∀ (v229 : IVec S16 32) (k0_hw17 : k0_chk17 v229), ∀ a x, ((![v229] : Fin 1 → IVec S16 32) a x).toNat < S4608.size a := fun v229 k0_hw17 => k0_hw17

def k0_chk18 (v239 : IVec S16 32) : Prop :=
  (∀ a x, ((![v239] : Fin 1 → IVec S16 32) a x).toNat < S4608.size a)
theorem k0_idx17_inb : ∀ (v239 : IVec S16 32) (k0_hw18 : k0_chk18 v239), ∀ a x, ((![v239] : Fin 1 → IVec S16 32) a x).toNat < S4608.size a := fun v239 k0_hw18 => k0_hw18
def k0_off19 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c0_i32_70 : BitVec 32 := 0#32
  let v131 : BitVec 32 := Scalar.addi v117 c0_i32_70
  let c64_i32_106 : BitVec 32 := 64#32
  let v240 : BitVec 32 := Scalar.muli v131 c64_i32_106
  let c48_i32_107 : BitVec 32 := 48#32
  let v241 : BitVec 32 := Scalar.addi v240 c48_i32_107
  let v242 : Index := Scalar.indexCast v241
  ![v242.toNat]

def k0_chk19 (v248 : IVec S16 32) : Prop :=
  (∀ a x, ((![v248] : Fin 1 → IVec S16 32) a x).toNat < S4608.size a)
theorem k0_idx18_inb : ∀ (v248 : IVec S16 32) (k0_hw19 : k0_chk19 v248), ∀ a x, ((![v248] : Fin 1 → IVec S16 32) a x).toNat < S4608.size a := fun v248 k0_hw19 => k0_hw19
def k0_off20 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_110 : BitVec 32 := 0#32
  ![v2.toNat, 0]
def k0_off21 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c1_i32_112 : BitVec 32 := 1#32
  let v253 : BitVec 32 := Scalar.addi v117 c1_i32_112
  let c8_i32_113 : BitVec 32 := 8#32
  let v254 : BitVec 32 := Scalar.addi v253 c8_i32_113
  let c1_i32_114 : BitVec 32 := 1#32
  let v255 : BitVec 32 := Scalar.subi v254 c1_i32_114
  let v256 : BitVec 32 := Scalar.addi v2 v255
  let c8191_i32_115 : BitVec 32 := 8191#32
  let v257 : BitVec 32 := Scalar.minsi v256 c8191_i32_115
  let c0_i32_116 : BitVec 32 := 0#32
  ![v257.toNat, 0]

def k0_chk20 (v263 : IVec S16 32) : Prop :=
  (∀ a x, ((![v263] : Fin 1 → IVec S16 32) a x).toNat < S256.size a)
theorem k0_idx19_inb : ∀ (v263 : IVec S16 32) (k0_hw20 : k0_chk20 v263), ∀ a x, ((![v263] : Fin 1 → IVec S16 32) a x).toNat < S256.size a := fun v263 k0_hw20 => k0_hw20
@[reducible] def k0_t6_loop (v270 : BitVec 32) : Scf.Loop 32 :=
  let c0_i32_121 : BitVec 32 := 0#32
  let v275 : BitVec 32 := Scalar.subi v270 c0_i32_121
  let c1_i32_122 : BitVec 32 := 1#32
  let v277 : BitVec 32 := Scalar.divsi v275 c1_i32_122
  let v278 : BitVec 32 := Scalar.muli v277 c1_i32_122
  let v279 : BitVec 32 := Scalar.addi c0_i32_121 v278
  let c1_i32_123 : BitVec 32 := 1#32
  ⟨c0_i32_121, v279, c1_i32_123⟩

def k0_off22 (v270 : BitVec 32) (k0_t6 : Fin (k0_t6_loop v270).trips) : Fin 1 → Nat :=
  let c0_i32_121 : BitVec 32 := 0#32
  let c1_i32_123 : BitVec 32 := 1#32
  let arg31 : BitVec 32 := Scf.iv c0_i32_121 c1_i32_123 k0_t6
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk22 (v1170 : IVec S16 32) : Prop :=
  (∀ a x, ((![v1170] : Fin 1 → IVec S16 32) a x).toNat < S16.size a)
theorem k0_idx20_inb : ∀ (v1170 : IVec S16 32) (k0_hw22 : k0_chk22 v1170), ∀ a x, ((![v1170] : Fin 1 → IVec S16 32) a x).toNat < S16.size a := fun v1170 k0_hw22 => k0_hw22
def k0_off23 (v270 : BitVec 32) (k0_t6 : Fin (k0_t6_loop v270).trips) : Fin 1 → Nat :=
  let c0_i32_121 : BitVec 32 := 0#32
  let c1_i32_123 : BitVec 32 := 1#32
  let arg31 : BitVec 32 := Scf.iv c0_i32_121 c1_i32_123 k0_t6
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk23 (v1185 : IVec S16 32) : Prop :=
  (∀ a x, ((![v1185] : Fin 1 → IVec S16 32) a x).toNat < S16.size a)
theorem k0_idx21_inb : ∀ (v1185 : IVec S16 32) (k0_hw23 : k0_chk23 v1185), ∀ a x, ((![v1185] : Fin 1 → IVec S16 32) a x).toNat < S16.size a := fun v1185 k0_hw23 => k0_hw23
def k0_off24 (v270 : BitVec 32) (k0_t6 : Fin (k0_t6_loop v270).trips) : Fin 1 → Nat :=
  let c0_i32_121 : BitVec 32 := 0#32
  let c1_i32_123 : BitVec 32 := 1#32
  let arg31 : BitVec 32 := Scf.iv c0_i32_121 c1_i32_123 k0_t6
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk24 (v1200 : IVec S16 32) : Prop :=
  (∀ a x, ((![v1200] : Fin 1 → IVec S16 32) a x).toNat < S16.size a)
theorem k0_idx22_inb : ∀ (v1200 : IVec S16 32) (k0_hw24 : k0_chk24 v1200), ∀ a x, ((![v1200] : Fin 1 → IVec S16 32) a x).toNat < S16.size a := fun v1200 k0_hw24 => k0_hw24
def k0_off25 (v270 : BitVec 32) (k0_t6 : Fin (k0_t6_loop v270).trips) : Fin 1 → Nat :=
  let c0_i32_121 : BitVec 32 := 0#32
  let c1_i32_123 : BitVec 32 := 1#32
  let arg31 : BitVec 32 := Scf.iv c0_i32_121 c1_i32_123 k0_t6
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk25 (v1215 : IVec S16 32) : Prop :=
  (∀ a x, ((![v1215] : Fin 1 → IVec S16 32) a x).toNat < S16.size a)
theorem k0_idx23_inb : ∀ (v1215 : IVec S16 32) (k0_hw25 : k0_chk25 v1215), ∀ a x, ((![v1215] : Fin 1 → IVec S16 32) a x).toNat < S16.size a := fun v1215 k0_hw25 => k0_hw25
@[reducible] def k0_t7_loop (v270 : BitVec 32) : Scf.Loop 32 :=
  let c0_i32_121 : BitVec 32 := 0#32
  let v275 : BitVec 32 := Scalar.subi v270 c0_i32_121
  let c1_i32_122 : BitVec 32 := 1#32
  let v277 : BitVec 32 := Scalar.divsi v275 c1_i32_122
  let v278 : BitVec 32 := Scalar.muli v277 c1_i32_122
  let v279 : BitVec 32 := Scalar.addi c0_i32_121 v278
  let v276 : BitVec 32 := Scalar.addi c0_i32_121 v275
  let c1_i32_124 : BitVec 32 := 1#32
  ⟨v279, v276, c1_i32_124⟩
def k0_off26 (v270 : BitVec 32) (k0_t7 : Fin (k0_t7_loop v270).trips) : Fin 1 → Nat :=
  let c0_i32_121 : BitVec 32 := 0#32
  let v275 : BitVec 32 := Scalar.subi v270 c0_i32_121
  let c1_i32_122 : BitVec 32 := 1#32
  let v277 : BitVec 32 := Scalar.divsi v275 c1_i32_122
  let v278 : BitVec 32 := Scalar.muli v277 c1_i32_122
  let v279 : BitVec 32 := Scalar.addi c0_i32_121 v278
  let c1_i32_124 : BitVec 32 := 1#32
  let arg31 : BitVec 32 := Scf.iv v279 c1_i32_124 k0_t7
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk26 (v1170 : IVec S16 32) : Prop :=
  (∀ a x, ((![v1170] : Fin 1 → IVec S16 32) a x).toNat < S16.size a)
theorem k0_idx24_inb : ∀ (v1170 : IVec S16 32) (k0_hw26 : k0_chk26 v1170), ∀ a x, ((![v1170] : Fin 1 → IVec S16 32) a x).toNat < S16.size a := fun v1170 k0_hw26 => k0_hw26
def k0_off27 (v270 : BitVec 32) (k0_t7 : Fin (k0_t7_loop v270).trips) : Fin 1 → Nat :=
  let c0_i32_121 : BitVec 32 := 0#32
  let v275 : BitVec 32 := Scalar.subi v270 c0_i32_121
  let c1_i32_122 : BitVec 32 := 1#32
  let v277 : BitVec 32 := Scalar.divsi v275 c1_i32_122
  let v278 : BitVec 32 := Scalar.muli v277 c1_i32_122
  let v279 : BitVec 32 := Scalar.addi c0_i32_121 v278
  let c1_i32_124 : BitVec 32 := 1#32
  let arg31 : BitVec 32 := Scf.iv v279 c1_i32_124 k0_t7
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk27 (v1185 : IVec S16 32) : Prop :=
  (∀ a x, ((![v1185] : Fin 1 → IVec S16 32) a x).toNat < S16.size a)
theorem k0_idx25_inb : ∀ (v1185 : IVec S16 32) (k0_hw27 : k0_chk27 v1185), ∀ a x, ((![v1185] : Fin 1 → IVec S16 32) a x).toNat < S16.size a := fun v1185 k0_hw27 => k0_hw27
def k0_off28 (v270 : BitVec 32) (k0_t7 : Fin (k0_t7_loop v270).trips) : Fin 1 → Nat :=
  let c0_i32_121 : BitVec 32 := 0#32
  let v275 : BitVec 32 := Scalar.subi v270 c0_i32_121
  let c1_i32_122 : BitVec 32 := 1#32
  let v277 : BitVec 32 := Scalar.divsi v275 c1_i32_122
  let v278 : BitVec 32 := Scalar.muli v277 c1_i32_122
  let v279 : BitVec 32 := Scalar.addi c0_i32_121 v278
  let c1_i32_124 : BitVec 32 := 1#32
  let arg31 : BitVec 32 := Scf.iv v279 c1_i32_124 k0_t7
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk28 (v1200 : IVec S16 32) : Prop :=
  (∀ a x, ((![v1200] : Fin 1 → IVec S16 32) a x).toNat < S16.size a)
theorem k0_idx26_inb : ∀ (v1200 : IVec S16 32) (k0_hw28 : k0_chk28 v1200), ∀ a x, ((![v1200] : Fin 1 → IVec S16 32) a x).toNat < S16.size a := fun v1200 k0_hw28 => k0_hw28
def k0_off29 (v270 : BitVec 32) (k0_t7 : Fin (k0_t7_loop v270).trips) : Fin 1 → Nat :=
  let c0_i32_121 : BitVec 32 := 0#32
  let v275 : BitVec 32 := Scalar.subi v270 c0_i32_121
  let c1_i32_122 : BitVec 32 := 1#32
  let v277 : BitVec 32 := Scalar.divsi v275 c1_i32_122
  let v278 : BitVec 32 := Scalar.muli v277 c1_i32_122
  let v279 : BitVec 32 := Scalar.addi c0_i32_121 v278
  let c1_i32_124 : BitVec 32 := 1#32
  let arg31 : BitVec 32 := Scf.iv v279 c1_i32_124 k0_t7
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk21 (v270 : BitVec 32) : Prop :=
  ((k0_t6_loop v270).OK) ∧
  (∀ k0_t6 : Fin (k0_t6_loop v270).trips, ∀ a, (k0_off22 v270 k0_t6) a + S16.size a ≤ S4096.size a) ∧
  (∀ k0_t6 : Fin (k0_t6_loop v270).trips, ∀ a, (k0_off23 v270 k0_t6) a + S16.size a ≤ S4096.size a) ∧
  (∀ k0_t6 : Fin (k0_t6_loop v270).trips, ∀ a, (k0_off24 v270 k0_t6) a + S16.size a ≤ S4096.size a) ∧
  (∀ k0_t6 : Fin (k0_t6_loop v270).trips, ∀ a, (k0_off25 v270 k0_t6) a + S16.size a ≤ S4096.size a) ∧
  ((k0_t7_loop v270).OK) ∧
  (∀ k0_t7 : Fin (k0_t7_loop v270).trips, ∀ a, (k0_off26 v270 k0_t7) a + S16.size a ≤ S4096.size a) ∧
  (∀ k0_t7 : Fin (k0_t7_loop v270).trips, ∀ a, (k0_off27 v270 k0_t7) a + S16.size a ≤ S4096.size a) ∧
  (∀ k0_t7 : Fin (k0_t7_loop v270).trips, ∀ a, (k0_off28 v270 k0_t7) a + S16.size a ≤ S4096.size a) ∧
  (∀ k0_t7 : Fin (k0_t7_loop v270).trips, ∀ a, (k0_off29 v270 k0_t7) a + S16.size a ≤ S4096.size a)
theorem k0_t6_ok : ∀ (v270 : BitVec 32) (k0_hw21 : k0_chk21 v270), (k0_t6_loop v270).OK := fun v270 k0_hw21 => k0_hw21.1
theorem k0_off22_inb : ∀ (v270 : BitVec 32) (k0_hw21 : k0_chk21 v270) (k0_t6 : Fin (k0_t6_loop v270).trips), ∀ a, (k0_off22 v270 k0_t6) a + S16.size a ≤ S4096.size a := fun v270 k0_hw21 k0_t6 => k0_hw21.2.1 k0_t6
theorem k0_off23_inb : ∀ (v270 : BitVec 32) (k0_hw21 : k0_chk21 v270) (k0_t6 : Fin (k0_t6_loop v270).trips), ∀ a, (k0_off23 v270 k0_t6) a + S16.size a ≤ S4096.size a := fun v270 k0_hw21 k0_t6 => k0_hw21.2.2.1 k0_t6
theorem k0_off24_inb : ∀ (v270 : BitVec 32) (k0_hw21 : k0_chk21 v270) (k0_t6 : Fin (k0_t6_loop v270).trips), ∀ a, (k0_off24 v270 k0_t6) a + S16.size a ≤ S4096.size a := fun v270 k0_hw21 k0_t6 => k0_hw21.2.2.2.1 k0_t6
theorem k0_off25_inb : ∀ (v270 : BitVec 32) (k0_hw21 : k0_chk21 v270) (k0_t6 : Fin (k0_t6_loop v270).trips), ∀ a, (k0_off25 v270 k0_t6) a + S16.size a ≤ S4096.size a := fun v270 k0_hw21 k0_t6 => k0_hw21.2.2.2.2.1 k0_t6
theorem k0_t7_ok : ∀ (v270 : BitVec 32) (k0_hw21 : k0_chk21 v270), (k0_t7_loop v270).OK := fun v270 k0_hw21 => k0_hw21.2.2.2.2.2.1
theorem k0_off26_inb : ∀ (v270 : BitVec 32) (k0_hw21 : k0_chk21 v270) (k0_t7 : Fin (k0_t7_loop v270).trips), ∀ a, (k0_off26 v270 k0_t7) a + S16.size a ≤ S4096.size a := fun v270 k0_hw21 k0_t7 => k0_hw21.2.2.2.2.2.2.1 k0_t7
theorem k0_off27_inb : ∀ (v270 : BitVec 32) (k0_hw21 : k0_chk21 v270) (k0_t7 : Fin (k0_t7_loop v270).trips), ∀ a, (k0_off27 v270 k0_t7) a + S16.size a ≤ S4096.size a := fun v270 k0_hw21 k0_t7 => k0_hw21.2.2.2.2.2.2.2.1 k0_t7
theorem k0_off28_inb : ∀ (v270 : BitVec 32) (k0_hw21 : k0_chk21 v270) (k0_t7 : Fin (k0_t7_loop v270).trips), ∀ a, (k0_off28 v270 k0_t7) a + S16.size a ≤ S4096.size a := fun v270 k0_hw21 k0_t7 => k0_hw21.2.2.2.2.2.2.2.2.1 k0_t7
theorem k0_off29_inb : ∀ (v270 : BitVec 32) (k0_hw21 : k0_chk21 v270) (k0_t7 : Fin (k0_t7_loop v270).trips), ∀ a, (k0_off29 v270 k0_t7) a + S16.size a ≤ S4096.size a := fun v270 k0_hw21 k0_t7 => k0_hw21.2.2.2.2.2.2.2.2.2 k0_t7

def k0_chk29 (v1215 : IVec S16 32) : Prop :=
  (∀ a x, ((![v1215] : Fin 1 → IVec S16 32) a x).toNat < S16.size a)
theorem k0_idx27_inb : ∀ (v1215 : IVec S16 32) (k0_hw29 : k0_chk29 v1215), ∀ a x, ((![v1215] : Fin 1 → IVec S16 32) a x).toNat < S16.size a := fun v1215 k0_hw29 => k0_hw29

def k0_chk30 (v313 : IVec S16 32) : Prop :=
  (∀ a x, ((![v313] : Fin 1 → IVec S16 32) a x).toNat < S4608.size a)
theorem k0_idx28_inb : ∀ (v313 : IVec S16 32) (k0_hw30 : k0_chk30 v313), ∀ a x, ((![v313] : Fin 1 → IVec S16 32) a x).toNat < S4608.size a := fun v313 k0_hw30 => k0_hw30
def k0_off30 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c1_i32_118 : BitVec 32 := 1#32
  let v262 : BitVec 32 := Scalar.addi v117 c1_i32_118
  let c64_i32_136 : BitVec 32 := 64#32
  let v314 : BitVec 32 := Scalar.muli v262 c64_i32_136
  let c0_i32_137 : BitVec 32 := 0#32
  let v315 : BitVec 32 := Scalar.addi v314 c0_i32_137
  let v316 : Index := Scalar.indexCast v315
  ![v316.toNat]

def k0_chk31 (v322 : IVec S16 32) : Prop :=
  (∀ a x, ((![v322] : Fin 1 → IVec S16 32) a x).toNat < S4608.size a)
theorem k0_idx29_inb : ∀ (v322 : IVec S16 32) (k0_hw31 : k0_chk31 v322), ∀ a x, ((![v322] : Fin 1 → IVec S16 32) a x).toNat < S4608.size a := fun v322 k0_hw31 => k0_hw31

def k0_chk32 (v332 : IVec S16 32) : Prop :=
  (∀ a x, ((![v332] : Fin 1 → IVec S16 32) a x).toNat < S4608.size a)
theorem k0_idx30_inb : ∀ (v332 : IVec S16 32) (k0_hw32 : k0_chk32 v332), ∀ a x, ((![v332] : Fin 1 → IVec S16 32) a x).toNat < S4608.size a := fun v332 k0_hw32 => k0_hw32
def k0_off31 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c1_i32_118 : BitVec 32 := 1#32
  let v262 : BitVec 32 := Scalar.addi v117 c1_i32_118
  let c64_i32_144 : BitVec 32 := 64#32
  let v333 : BitVec 32 := Scalar.muli v262 c64_i32_144
  let c16_i32_145 : BitVec 32 := 16#32
  let v334 : BitVec 32 := Scalar.addi v333 c16_i32_145
  let v335 : Index := Scalar.indexCast v334
  ![v335.toNat]

def k0_chk33 (v341 : IVec S16 32) : Prop :=
  (∀ a x, ((![v341] : Fin 1 → IVec S16 32) a x).toNat < S4608.size a)
theorem k0_idx31_inb : ∀ (v341 : IVec S16 32) (k0_hw33 : k0_chk33 v341), ∀ a x, ((![v341] : Fin 1 → IVec S16 32) a x).toNat < S4608.size a := fun v341 k0_hw33 => k0_hw33

def k0_chk34 (v351 : IVec S16 32) : Prop :=
  (∀ a x, ((![v351] : Fin 1 → IVec S16 32) a x).toNat < S4608.size a)
theorem k0_idx32_inb : ∀ (v351 : IVec S16 32) (k0_hw34 : k0_chk34 v351), ∀ a x, ((![v351] : Fin 1 → IVec S16 32) a x).toNat < S4608.size a := fun v351 k0_hw34 => k0_hw34
def k0_off32 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c1_i32_118 : BitVec 32 := 1#32
  let v262 : BitVec 32 := Scalar.addi v117 c1_i32_118
  let c64_i32_152 : BitVec 32 := 64#32
  let v352 : BitVec 32 := Scalar.muli v262 c64_i32_152
  let c32_i32_153 : BitVec 32 := 32#32
  let v353 : BitVec 32 := Scalar.addi v352 c32_i32_153
  let v354 : Index := Scalar.indexCast v353
  ![v354.toNat]

def k0_chk35 (v360 : IVec S16 32) : Prop :=
  (∀ a x, ((![v360] : Fin 1 → IVec S16 32) a x).toNat < S4608.size a)
theorem k0_idx33_inb : ∀ (v360 : IVec S16 32) (k0_hw35 : k0_chk35 v360), ∀ a x, ((![v360] : Fin 1 → IVec S16 32) a x).toNat < S4608.size a := fun v360 k0_hw35 => k0_hw35

def k0_chk36 (v370 : IVec S16 32) : Prop :=
  (∀ a x, ((![v370] : Fin 1 → IVec S16 32) a x).toNat < S4608.size a)
theorem k0_idx34_inb : ∀ (v370 : IVec S16 32) (k0_hw36 : k0_chk36 v370), ∀ a x, ((![v370] : Fin 1 → IVec S16 32) a x).toNat < S4608.size a := fun v370 k0_hw36 => k0_hw36
def k0_off33 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c1_i32_118 : BitVec 32 := 1#32
  let v262 : BitVec 32 := Scalar.addi v117 c1_i32_118
  let c64_i32_160 : BitVec 32 := 64#32
  let v371 : BitVec 32 := Scalar.muli v262 c64_i32_160
  let c48_i32_161 : BitVec 32 := 48#32
  let v372 : BitVec 32 := Scalar.addi v371 c48_i32_161
  let v373 : Index := Scalar.indexCast v372
  ![v373.toNat]

def k0_chk37 (v379 : IVec S16 32) : Prop :=
  (∀ a x, ((![v379] : Fin 1 → IVec S16 32) a x).toNat < S4608.size a)
theorem k0_idx35_inb : ∀ (v379 : IVec S16 32) (k0_hw37 : k0_chk37 v379), ∀ a x, ((![v379] : Fin 1 → IVec S16 32) a x).toNat < S4608.size a := fun v379 k0_hw37 => k0_hw37
def k0_off34 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_164 : BitVec 32 := 0#32
  ![v2.toNat, 0]
def k0_off35 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c2_i32_166 : BitVec 32 := 2#32
  let v384 : BitVec 32 := Scalar.addi v117 c2_i32_166
  let c8_i32_167 : BitVec 32 := 8#32
  let v385 : BitVec 32 := Scalar.addi v384 c8_i32_167
  let c1_i32_168 : BitVec 32 := 1#32
  let v386 : BitVec 32 := Scalar.subi v385 c1_i32_168
  let v387 : BitVec 32 := Scalar.addi v2 v386
  let c8191_i32_169 : BitVec 32 := 8191#32
  let v388 : BitVec 32 := Scalar.minsi v387 c8191_i32_169
  let c0_i32_170 : BitVec 32 := 0#32
  ![v388.toNat, 0]

def k0_chk38 (v394 : IVec S16 32) : Prop :=
  (∀ a x, ((![v394] : Fin 1 → IVec S16 32) a x).toNat < S256.size a)
theorem k0_idx36_inb : ∀ (v394 : IVec S16 32) (k0_hw38 : k0_chk38 v394), ∀ a x, ((![v394] : Fin 1 → IVec S16 32) a x).toNat < S256.size a := fun v394 k0_hw38 => k0_hw38
@[reducible] def k0_t8_loop (v401 : BitVec 32) : Scf.Loop 32 :=
  let c0_i32_175 : BitVec 32 := 0#32
  let v406 : BitVec 32 := Scalar.subi v401 c0_i32_175
  let c1_i32_176 : BitVec 32 := 1#32
  let v408 : BitVec 32 := Scalar.divsi v406 c1_i32_176
  let v409 : BitVec 32 := Scalar.muli v408 c1_i32_176
  let v410 : BitVec 32 := Scalar.addi c0_i32_175 v409
  let c1_i32_177 : BitVec 32 := 1#32
  ⟨c0_i32_175, v410, c1_i32_177⟩

def k0_off36 (v401 : BitVec 32) (k0_t8 : Fin (k0_t8_loop v401).trips) : Fin 1 → Nat :=
  let c0_i32_175 : BitVec 32 := 0#32
  let c1_i32_177 : BitVec 32 := 1#32
  let arg31 : BitVec 32 := Scf.iv c0_i32_175 c1_i32_177 k0_t8
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk40 (v1170 : IVec S16 32) : Prop :=
  (∀ a x, ((![v1170] : Fin 1 → IVec S16 32) a x).toNat < S16.size a)
theorem k0_idx37_inb : ∀ (v1170 : IVec S16 32) (k0_hw40 : k0_chk40 v1170), ∀ a x, ((![v1170] : Fin 1 → IVec S16 32) a x).toNat < S16.size a := fun v1170 k0_hw40 => k0_hw40
def k0_off37 (v401 : BitVec 32) (k0_t8 : Fin (k0_t8_loop v401).trips) : Fin 1 → Nat :=
  let c0_i32_175 : BitVec 32 := 0#32
  let c1_i32_177 : BitVec 32 := 1#32
  let arg31 : BitVec 32 := Scf.iv c0_i32_175 c1_i32_177 k0_t8
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk41 (v1185 : IVec S16 32) : Prop :=
  (∀ a x, ((![v1185] : Fin 1 → IVec S16 32) a x).toNat < S16.size a)
theorem k0_idx38_inb : ∀ (v1185 : IVec S16 32) (k0_hw41 : k0_chk41 v1185), ∀ a x, ((![v1185] : Fin 1 → IVec S16 32) a x).toNat < S16.size a := fun v1185 k0_hw41 => k0_hw41
def k0_off38 (v401 : BitVec 32) (k0_t8 : Fin (k0_t8_loop v401).trips) : Fin 1 → Nat :=
  let c0_i32_175 : BitVec 32 := 0#32
  let c1_i32_177 : BitVec 32 := 1#32
  let arg31 : BitVec 32 := Scf.iv c0_i32_175 c1_i32_177 k0_t8
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk42 (v1200 : IVec S16 32) : Prop :=
  (∀ a x, ((![v1200] : Fin 1 → IVec S16 32) a x).toNat < S16.size a)
theorem k0_idx39_inb : ∀ (v1200 : IVec S16 32) (k0_hw42 : k0_chk42 v1200), ∀ a x, ((![v1200] : Fin 1 → IVec S16 32) a x).toNat < S16.size a := fun v1200 k0_hw42 => k0_hw42
def k0_off39 (v401 : BitVec 32) (k0_t8 : Fin (k0_t8_loop v401).trips) : Fin 1 → Nat :=
  let c0_i32_175 : BitVec 32 := 0#32
  let c1_i32_177 : BitVec 32 := 1#32
  let arg31 : BitVec 32 := Scf.iv c0_i32_175 c1_i32_177 k0_t8
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk43 (v1215 : IVec S16 32) : Prop :=
  (∀ a x, ((![v1215] : Fin 1 → IVec S16 32) a x).toNat < S16.size a)
theorem k0_idx40_inb : ∀ (v1215 : IVec S16 32) (k0_hw43 : k0_chk43 v1215), ∀ a x, ((![v1215] : Fin 1 → IVec S16 32) a x).toNat < S16.size a := fun v1215 k0_hw43 => k0_hw43
@[reducible] def k0_t9_loop (v401 : BitVec 32) : Scf.Loop 32 :=
  let c0_i32_175 : BitVec 32 := 0#32
  let v406 : BitVec 32 := Scalar.subi v401 c0_i32_175
  let c1_i32_176 : BitVec 32 := 1#32
  let v408 : BitVec 32 := Scalar.divsi v406 c1_i32_176
  let v409 : BitVec 32 := Scalar.muli v408 c1_i32_176
  let v410 : BitVec 32 := Scalar.addi c0_i32_175 v409
  let v407 : BitVec 32 := Scalar.addi c0_i32_175 v406
  let c1_i32_178 : BitVec 32 := 1#32
  ⟨v410, v407, c1_i32_178⟩
def k0_off40 (v401 : BitVec 32) (k0_t9 : Fin (k0_t9_loop v401).trips) : Fin 1 → Nat :=
  let c0_i32_175 : BitVec 32 := 0#32
  let v406 : BitVec 32 := Scalar.subi v401 c0_i32_175
  let c1_i32_176 : BitVec 32 := 1#32
  let v408 : BitVec 32 := Scalar.divsi v406 c1_i32_176
  let v409 : BitVec 32 := Scalar.muli v408 c1_i32_176
  let v410 : BitVec 32 := Scalar.addi c0_i32_175 v409
  let c1_i32_178 : BitVec 32 := 1#32
  let arg31 : BitVec 32 := Scf.iv v410 c1_i32_178 k0_t9
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk44 (v1170 : IVec S16 32) : Prop :=
  (∀ a x, ((![v1170] : Fin 1 → IVec S16 32) a x).toNat < S16.size a)
theorem k0_idx41_inb : ∀ (v1170 : IVec S16 32) (k0_hw44 : k0_chk44 v1170), ∀ a x, ((![v1170] : Fin 1 → IVec S16 32) a x).toNat < S16.size a := fun v1170 k0_hw44 => k0_hw44
def k0_off41 (v401 : BitVec 32) (k0_t9 : Fin (k0_t9_loop v401).trips) : Fin 1 → Nat :=
  let c0_i32_175 : BitVec 32 := 0#32
  let v406 : BitVec 32 := Scalar.subi v401 c0_i32_175
  let c1_i32_176 : BitVec 32 := 1#32
  let v408 : BitVec 32 := Scalar.divsi v406 c1_i32_176
  let v409 : BitVec 32 := Scalar.muli v408 c1_i32_176
  let v410 : BitVec 32 := Scalar.addi c0_i32_175 v409
  let c1_i32_178 : BitVec 32 := 1#32
  let arg31 : BitVec 32 := Scf.iv v410 c1_i32_178 k0_t9
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk45 (v1185 : IVec S16 32) : Prop :=
  (∀ a x, ((![v1185] : Fin 1 → IVec S16 32) a x).toNat < S16.size a)
theorem k0_idx42_inb : ∀ (v1185 : IVec S16 32) (k0_hw45 : k0_chk45 v1185), ∀ a x, ((![v1185] : Fin 1 → IVec S16 32) a x).toNat < S16.size a := fun v1185 k0_hw45 => k0_hw45
def k0_off42 (v401 : BitVec 32) (k0_t9 : Fin (k0_t9_loop v401).trips) : Fin 1 → Nat :=
  let c0_i32_175 : BitVec 32 := 0#32
  let v406 : BitVec 32 := Scalar.subi v401 c0_i32_175
  let c1_i32_176 : BitVec 32 := 1#32
  let v408 : BitVec 32 := Scalar.divsi v406 c1_i32_176
  let v409 : BitVec 32 := Scalar.muli v408 c1_i32_176
  let v410 : BitVec 32 := Scalar.addi c0_i32_175 v409
  let c1_i32_178 : BitVec 32 := 1#32
  let arg31 : BitVec 32 := Scf.iv v410 c1_i32_178 k0_t9
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk46 (v1200 : IVec S16 32) : Prop :=
  (∀ a x, ((![v1200] : Fin 1 → IVec S16 32) a x).toNat < S16.size a)
theorem k0_idx43_inb : ∀ (v1200 : IVec S16 32) (k0_hw46 : k0_chk46 v1200), ∀ a x, ((![v1200] : Fin 1 → IVec S16 32) a x).toNat < S16.size a := fun v1200 k0_hw46 => k0_hw46
def k0_off43 (v401 : BitVec 32) (k0_t9 : Fin (k0_t9_loop v401).trips) : Fin 1 → Nat :=
  let c0_i32_175 : BitVec 32 := 0#32
  let v406 : BitVec 32 := Scalar.subi v401 c0_i32_175
  let c1_i32_176 : BitVec 32 := 1#32
  let v408 : BitVec 32 := Scalar.divsi v406 c1_i32_176
  let v409 : BitVec 32 := Scalar.muli v408 c1_i32_176
  let v410 : BitVec 32 := Scalar.addi c0_i32_175 v409
  let c1_i32_178 : BitVec 32 := 1#32
  let arg31 : BitVec 32 := Scf.iv v410 c1_i32_178 k0_t9
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk39 (v401 : BitVec 32) : Prop :=
  ((k0_t8_loop v401).OK) ∧
  (∀ k0_t8 : Fin (k0_t8_loop v401).trips, ∀ a, (k0_off36 v401 k0_t8) a + S16.size a ≤ S4096.size a) ∧
  (∀ k0_t8 : Fin (k0_t8_loop v401).trips, ∀ a, (k0_off37 v401 k0_t8) a + S16.size a ≤ S4096.size a) ∧
  (∀ k0_t8 : Fin (k0_t8_loop v401).trips, ∀ a, (k0_off38 v401 k0_t8) a + S16.size a ≤ S4096.size a) ∧
  (∀ k0_t8 : Fin (k0_t8_loop v401).trips, ∀ a, (k0_off39 v401 k0_t8) a + S16.size a ≤ S4096.size a) ∧
  ((k0_t9_loop v401).OK) ∧
  (∀ k0_t9 : Fin (k0_t9_loop v401).trips, ∀ a, (k0_off40 v401 k0_t9) a + S16.size a ≤ S4096.size a) ∧
  (∀ k0_t9 : Fin (k0_t9_loop v401).trips, ∀ a, (k0_off41 v401 k0_t9) a + S16.size a ≤ S4096.size a) ∧
  (∀ k0_t9 : Fin (k0_t9_loop v401).trips, ∀ a, (k0_off42 v401 k0_t9) a + S16.size a ≤ S4096.size a) ∧
  (∀ k0_t9 : Fin (k0_t9_loop v401).trips, ∀ a, (k0_off43 v401 k0_t9) a + S16.size a ≤ S4096.size a)
theorem k0_t8_ok : ∀ (v401 : BitVec 32) (k0_hw39 : k0_chk39 v401), (k0_t8_loop v401).OK := fun v401 k0_hw39 => k0_hw39.1
theorem k0_off36_inb : ∀ (v401 : BitVec 32) (k0_hw39 : k0_chk39 v401) (k0_t8 : Fin (k0_t8_loop v401).trips), ∀ a, (k0_off36 v401 k0_t8) a + S16.size a ≤ S4096.size a := fun v401 k0_hw39 k0_t8 => k0_hw39.2.1 k0_t8
theorem k0_off37_inb : ∀ (v401 : BitVec 32) (k0_hw39 : k0_chk39 v401) (k0_t8 : Fin (k0_t8_loop v401).trips), ∀ a, (k0_off37 v401 k0_t8) a + S16.size a ≤ S4096.size a := fun v401 k0_hw39 k0_t8 => k0_hw39.2.2.1 k0_t8
theorem k0_off38_inb : ∀ (v401 : BitVec 32) (k0_hw39 : k0_chk39 v401) (k0_t8 : Fin (k0_t8_loop v401).trips), ∀ a, (k0_off38 v401 k0_t8) a + S16.size a ≤ S4096.size a := fun v401 k0_hw39 k0_t8 => k0_hw39.2.2.2.1 k0_t8
theorem k0_off39_inb : ∀ (v401 : BitVec 32) (k0_hw39 : k0_chk39 v401) (k0_t8 : Fin (k0_t8_loop v401).trips), ∀ a, (k0_off39 v401 k0_t8) a + S16.size a ≤ S4096.size a := fun v401 k0_hw39 k0_t8 => k0_hw39.2.2.2.2.1 k0_t8
theorem k0_t9_ok : ∀ (v401 : BitVec 32) (k0_hw39 : k0_chk39 v401), (k0_t9_loop v401).OK := fun v401 k0_hw39 => k0_hw39.2.2.2.2.2.1
theorem k0_off40_inb : ∀ (v401 : BitVec 32) (k0_hw39 : k0_chk39 v401) (k0_t9 : Fin (k0_t9_loop v401).trips), ∀ a, (k0_off40 v401 k0_t9) a + S16.size a ≤ S4096.size a := fun v401 k0_hw39 k0_t9 => k0_hw39.2.2.2.2.2.2.1 k0_t9
theorem k0_off41_inb : ∀ (v401 : BitVec 32) (k0_hw39 : k0_chk39 v401) (k0_t9 : Fin (k0_t9_loop v401).trips), ∀ a, (k0_off41 v401 k0_t9) a + S16.size a ≤ S4096.size a := fun v401 k0_hw39 k0_t9 => k0_hw39.2.2.2.2.2.2.2.1 k0_t9
theorem k0_off42_inb : ∀ (v401 : BitVec 32) (k0_hw39 : k0_chk39 v401) (k0_t9 : Fin (k0_t9_loop v401).trips), ∀ a, (k0_off42 v401 k0_t9) a + S16.size a ≤ S4096.size a := fun v401 k0_hw39 k0_t9 => k0_hw39.2.2.2.2.2.2.2.2.1 k0_t9
theorem k0_off43_inb : ∀ (v401 : BitVec 32) (k0_hw39 : k0_chk39 v401) (k0_t9 : Fin (k0_t9_loop v401).trips), ∀ a, (k0_off43 v401 k0_t9) a + S16.size a ≤ S4096.size a := fun v401 k0_hw39 k0_t9 => k0_hw39.2.2.2.2.2.2.2.2.2 k0_t9

def k0_chk47 (v1215 : IVec S16 32) : Prop :=
  (∀ a x, ((![v1215] : Fin 1 → IVec S16 32) a x).toNat < S16.size a)
theorem k0_idx44_inb : ∀ (v1215 : IVec S16 32) (k0_hw47 : k0_chk47 v1215), ∀ a x, ((![v1215] : Fin 1 → IVec S16 32) a x).toNat < S16.size a := fun v1215 k0_hw47 => k0_hw47

def k0_chk48 (v444 : IVec S16 32) : Prop :=
  (∀ a x, ((![v444] : Fin 1 → IVec S16 32) a x).toNat < S4608.size a)
theorem k0_idx45_inb : ∀ (v444 : IVec S16 32) (k0_hw48 : k0_chk48 v444), ∀ a x, ((![v444] : Fin 1 → IVec S16 32) a x).toNat < S4608.size a := fun v444 k0_hw48 => k0_hw48
def k0_off44 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c2_i32_172 : BitVec 32 := 2#32
  let v393 : BitVec 32 := Scalar.addi v117 c2_i32_172
  let c64_i32_190 : BitVec 32 := 64#32
  let v445 : BitVec 32 := Scalar.muli v393 c64_i32_190
  let c0_i32_191 : BitVec 32 := 0#32
  let v446 : BitVec 32 := Scalar.addi v445 c0_i32_191
  let v447 : Index := Scalar.indexCast v446
  ![v447.toNat]

def k0_chk49 (v453 : IVec S16 32) : Prop :=
  (∀ a x, ((![v453] : Fin 1 → IVec S16 32) a x).toNat < S4608.size a)
theorem k0_idx46_inb : ∀ (v453 : IVec S16 32) (k0_hw49 : k0_chk49 v453), ∀ a x, ((![v453] : Fin 1 → IVec S16 32) a x).toNat < S4608.size a := fun v453 k0_hw49 => k0_hw49

def k0_chk50 (v463 : IVec S16 32) : Prop :=
  (∀ a x, ((![v463] : Fin 1 → IVec S16 32) a x).toNat < S4608.size a)
theorem k0_idx47_inb : ∀ (v463 : IVec S16 32) (k0_hw50 : k0_chk50 v463), ∀ a x, ((![v463] : Fin 1 → IVec S16 32) a x).toNat < S4608.size a := fun v463 k0_hw50 => k0_hw50
def k0_off45 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c2_i32_172 : BitVec 32 := 2#32
  let v393 : BitVec 32 := Scalar.addi v117 c2_i32_172
  let c64_i32_198 : BitVec 32 := 64#32
  let v464 : BitVec 32 := Scalar.muli v393 c64_i32_198
  let c16_i32_199 : BitVec 32 := 16#32
  let v465 : BitVec 32 := Scalar.addi v464 c16_i32_199
  let v466 : Index := Scalar.indexCast v465
  ![v466.toNat]

def k0_chk51 (v472 : IVec S16 32) : Prop :=
  (∀ a x, ((![v472] : Fin 1 → IVec S16 32) a x).toNat < S4608.size a)
theorem k0_idx48_inb : ∀ (v472 : IVec S16 32) (k0_hw51 : k0_chk51 v472), ∀ a x, ((![v472] : Fin 1 → IVec S16 32) a x).toNat < S4608.size a := fun v472 k0_hw51 => k0_hw51

def k0_chk52 (v482 : IVec S16 32) : Prop :=
  (∀ a x, ((![v482] : Fin 1 → IVec S16 32) a x).toNat < S4608.size a)
theorem k0_idx49_inb : ∀ (v482 : IVec S16 32) (k0_hw52 : k0_chk52 v482), ∀ a x, ((![v482] : Fin 1 → IVec S16 32) a x).toNat < S4608.size a := fun v482 k0_hw52 => k0_hw52
def k0_off46 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c2_i32_172 : BitVec 32 := 2#32
  let v393 : BitVec 32 := Scalar.addi v117 c2_i32_172
  let c64_i32_206 : BitVec 32 := 64#32
  let v483 : BitVec 32 := Scalar.muli v393 c64_i32_206
  let c32_i32_207 : BitVec 32 := 32#32
  let v484 : BitVec 32 := Scalar.addi v483 c32_i32_207
  let v485 : Index := Scalar.indexCast v484
  ![v485.toNat]

def k0_chk53 (v491 : IVec S16 32) : Prop :=
  (∀ a x, ((![v491] : Fin 1 → IVec S16 32) a x).toNat < S4608.size a)
theorem k0_idx50_inb : ∀ (v491 : IVec S16 32) (k0_hw53 : k0_chk53 v491), ∀ a x, ((![v491] : Fin 1 → IVec S16 32) a x).toNat < S4608.size a := fun v491 k0_hw53 => k0_hw53

def k0_chk54 (v501 : IVec S16 32) : Prop :=
  (∀ a x, ((![v501] : Fin 1 → IVec S16 32) a x).toNat < S4608.size a)
theorem k0_idx51_inb : ∀ (v501 : IVec S16 32) (k0_hw54 : k0_chk54 v501), ∀ a x, ((![v501] : Fin 1 → IVec S16 32) a x).toNat < S4608.size a := fun v501 k0_hw54 => k0_hw54
def k0_off47 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c2_i32_172 : BitVec 32 := 2#32
  let v393 : BitVec 32 := Scalar.addi v117 c2_i32_172
  let c64_i32_214 : BitVec 32 := 64#32
  let v502 : BitVec 32 := Scalar.muli v393 c64_i32_214
  let c48_i32_215 : BitVec 32 := 48#32
  let v503 : BitVec 32 := Scalar.addi v502 c48_i32_215
  let v504 : Index := Scalar.indexCast v503
  ![v504.toNat]

def k0_chk55 (v510 : IVec S16 32) : Prop :=
  (∀ a x, ((![v510] : Fin 1 → IVec S16 32) a x).toNat < S4608.size a)
theorem k0_idx52_inb : ∀ (v510 : IVec S16 32) (k0_hw55 : k0_chk55 v510), ∀ a x, ((![v510] : Fin 1 → IVec S16 32) a x).toNat < S4608.size a := fun v510 k0_hw55 => k0_hw55
def k0_off48 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_218 : BitVec 32 := 0#32
  ![v2.toNat, 0]
def k0_off49 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c3_i32_220 : BitVec 32 := 3#32
  let v515 : BitVec 32 := Scalar.addi v117 c3_i32_220
  let c8_i32_221 : BitVec 32 := 8#32
  let v516 : BitVec 32 := Scalar.addi v515 c8_i32_221
  let c1_i32_222 : BitVec 32 := 1#32
  let v517 : BitVec 32 := Scalar.subi v516 c1_i32_222
  let v518 : BitVec 32 := Scalar.addi v2 v517
  let c8191_i32_223 : BitVec 32 := 8191#32
  let v519 : BitVec 32 := Scalar.minsi v518 c8191_i32_223
  let c0_i32_224 : BitVec 32 := 0#32
  ![v519.toNat, 0]

def k0_chk56 (v525 : IVec S16 32) : Prop :=
  (∀ a x, ((![v525] : Fin 1 → IVec S16 32) a x).toNat < S256.size a)
theorem k0_idx53_inb : ∀ (v525 : IVec S16 32) (k0_hw56 : k0_chk56 v525), ∀ a x, ((![v525] : Fin 1 → IVec S16 32) a x).toNat < S256.size a := fun v525 k0_hw56 => k0_hw56
@[reducible] def k0_t10_loop (v532 : BitVec 32) : Scf.Loop 32 :=
  let c0_i32_229 : BitVec 32 := 0#32
  let v537 : BitVec 32 := Scalar.subi v532 c0_i32_229
  let c1_i32_230 : BitVec 32 := 1#32
  let v539 : BitVec 32 := Scalar.divsi v537 c1_i32_230
  let v540 : BitVec 32 := Scalar.muli v539 c1_i32_230
  let v541 : BitVec 32 := Scalar.addi c0_i32_229 v540
  let c1_i32_231 : BitVec 32 := 1#32
  ⟨c0_i32_229, v541, c1_i32_231⟩

def k0_off50 (v532 : BitVec 32) (k0_t10 : Fin (k0_t10_loop v532).trips) : Fin 1 → Nat :=
  let c0_i32_229 : BitVec 32 := 0#32
  let c1_i32_231 : BitVec 32 := 1#32
  let arg31 : BitVec 32 := Scf.iv c0_i32_229 c1_i32_231 k0_t10
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk58 (v1170 : IVec S16 32) : Prop :=
  (∀ a x, ((![v1170] : Fin 1 → IVec S16 32) a x).toNat < S16.size a)
theorem k0_idx54_inb : ∀ (v1170 : IVec S16 32) (k0_hw58 : k0_chk58 v1170), ∀ a x, ((![v1170] : Fin 1 → IVec S16 32) a x).toNat < S16.size a := fun v1170 k0_hw58 => k0_hw58
def k0_off51 (v532 : BitVec 32) (k0_t10 : Fin (k0_t10_loop v532).trips) : Fin 1 → Nat :=
  let c0_i32_229 : BitVec 32 := 0#32
  let c1_i32_231 : BitVec 32 := 1#32
  let arg31 : BitVec 32 := Scf.iv c0_i32_229 c1_i32_231 k0_t10
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk59 (v1185 : IVec S16 32) : Prop :=
  (∀ a x, ((![v1185] : Fin 1 → IVec S16 32) a x).toNat < S16.size a)
theorem k0_idx55_inb : ∀ (v1185 : IVec S16 32) (k0_hw59 : k0_chk59 v1185), ∀ a x, ((![v1185] : Fin 1 → IVec S16 32) a x).toNat < S16.size a := fun v1185 k0_hw59 => k0_hw59
def k0_off52 (v532 : BitVec 32) (k0_t10 : Fin (k0_t10_loop v532).trips) : Fin 1 → Nat :=
  let c0_i32_229 : BitVec 32 := 0#32
  let c1_i32_231 : BitVec 32 := 1#32
  let arg31 : BitVec 32 := Scf.iv c0_i32_229 c1_i32_231 k0_t10
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk60 (v1200 : IVec S16 32) : Prop :=
  (∀ a x, ((![v1200] : Fin 1 → IVec S16 32) a x).toNat < S16.size a)
theorem k0_idx56_inb : ∀ (v1200 : IVec S16 32) (k0_hw60 : k0_chk60 v1200), ∀ a x, ((![v1200] : Fin 1 → IVec S16 32) a x).toNat < S16.size a := fun v1200 k0_hw60 => k0_hw60
def k0_off53 (v532 : BitVec 32) (k0_t10 : Fin (k0_t10_loop v532).trips) : Fin 1 → Nat :=
  let c0_i32_229 : BitVec 32 := 0#32
  let c1_i32_231 : BitVec 32 := 1#32
  let arg31 : BitVec 32 := Scf.iv c0_i32_229 c1_i32_231 k0_t10
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk61 (v1215 : IVec S16 32) : Prop :=
  (∀ a x, ((![v1215] : Fin 1 → IVec S16 32) a x).toNat < S16.size a)
theorem k0_idx57_inb : ∀ (v1215 : IVec S16 32) (k0_hw61 : k0_chk61 v1215), ∀ a x, ((![v1215] : Fin 1 → IVec S16 32) a x).toNat < S16.size a := fun v1215 k0_hw61 => k0_hw61
@[reducible] def k0_t11_loop (v532 : BitVec 32) : Scf.Loop 32 :=
  let c0_i32_229 : BitVec 32 := 0#32
  let v537 : BitVec 32 := Scalar.subi v532 c0_i32_229
  let c1_i32_230 : BitVec 32 := 1#32
  let v539 : BitVec 32 := Scalar.divsi v537 c1_i32_230
  let v540 : BitVec 32 := Scalar.muli v539 c1_i32_230
  let v541 : BitVec 32 := Scalar.addi c0_i32_229 v540
  let v538 : BitVec 32 := Scalar.addi c0_i32_229 v537
  let c1_i32_232 : BitVec 32 := 1#32
  ⟨v541, v538, c1_i32_232⟩
def k0_off54 (v532 : BitVec 32) (k0_t11 : Fin (k0_t11_loop v532).trips) : Fin 1 → Nat :=
  let c0_i32_229 : BitVec 32 := 0#32
  let v537 : BitVec 32 := Scalar.subi v532 c0_i32_229
  let c1_i32_230 : BitVec 32 := 1#32
  let v539 : BitVec 32 := Scalar.divsi v537 c1_i32_230
  let v540 : BitVec 32 := Scalar.muli v539 c1_i32_230
  let v541 : BitVec 32 := Scalar.addi c0_i32_229 v540
  let c1_i32_232 : BitVec 32 := 1#32
  let arg31 : BitVec 32 := Scf.iv v541 c1_i32_232 k0_t11
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk62 (v1170 : IVec S16 32) : Prop :=
  (∀ a x, ((![v1170] : Fin 1 → IVec S16 32) a x).toNat < S16.size a)
theorem k0_idx58_inb : ∀ (v1170 : IVec S16 32) (k0_hw62 : k0_chk62 v1170), ∀ a x, ((![v1170] : Fin 1 → IVec S16 32) a x).toNat < S16.size a := fun v1170 k0_hw62 => k0_hw62
def k0_off55 (v532 : BitVec 32) (k0_t11 : Fin (k0_t11_loop v532).trips) : Fin 1 → Nat :=
  let c0_i32_229 : BitVec 32 := 0#32
  let v537 : BitVec 32 := Scalar.subi v532 c0_i32_229
  let c1_i32_230 : BitVec 32 := 1#32
  let v539 : BitVec 32 := Scalar.divsi v537 c1_i32_230
  let v540 : BitVec 32 := Scalar.muli v539 c1_i32_230
  let v541 : BitVec 32 := Scalar.addi c0_i32_229 v540
  let c1_i32_232 : BitVec 32 := 1#32
  let arg31 : BitVec 32 := Scf.iv v541 c1_i32_232 k0_t11
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk63 (v1185 : IVec S16 32) : Prop :=
  (∀ a x, ((![v1185] : Fin 1 → IVec S16 32) a x).toNat < S16.size a)
theorem k0_idx59_inb : ∀ (v1185 : IVec S16 32) (k0_hw63 : k0_chk63 v1185), ∀ a x, ((![v1185] : Fin 1 → IVec S16 32) a x).toNat < S16.size a := fun v1185 k0_hw63 => k0_hw63
def k0_off56 (v532 : BitVec 32) (k0_t11 : Fin (k0_t11_loop v532).trips) : Fin 1 → Nat :=
  let c0_i32_229 : BitVec 32 := 0#32
  let v537 : BitVec 32 := Scalar.subi v532 c0_i32_229
  let c1_i32_230 : BitVec 32 := 1#32
  let v539 : BitVec 32 := Scalar.divsi v537 c1_i32_230
  let v540 : BitVec 32 := Scalar.muli v539 c1_i32_230
  let v541 : BitVec 32 := Scalar.addi c0_i32_229 v540
  let c1_i32_232 : BitVec 32 := 1#32
  let arg31 : BitVec 32 := Scf.iv v541 c1_i32_232 k0_t11
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk64 (v1200 : IVec S16 32) : Prop :=
  (∀ a x, ((![v1200] : Fin 1 → IVec S16 32) a x).toNat < S16.size a)
theorem k0_idx60_inb : ∀ (v1200 : IVec S16 32) (k0_hw64 : k0_chk64 v1200), ∀ a x, ((![v1200] : Fin 1 → IVec S16 32) a x).toNat < S16.size a := fun v1200 k0_hw64 => k0_hw64
def k0_off57 (v532 : BitVec 32) (k0_t11 : Fin (k0_t11_loop v532).trips) : Fin 1 → Nat :=
  let c0_i32_229 : BitVec 32 := 0#32
  let v537 : BitVec 32 := Scalar.subi v532 c0_i32_229
  let c1_i32_230 : BitVec 32 := 1#32
  let v539 : BitVec 32 := Scalar.divsi v537 c1_i32_230
  let v540 : BitVec 32 := Scalar.muli v539 c1_i32_230
  let v541 : BitVec 32 := Scalar.addi c0_i32_229 v540
  let c1_i32_232 : BitVec 32 := 1#32
  let arg31 : BitVec 32 := Scf.iv v541 c1_i32_232 k0_t11
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk57 (v532 : BitVec 32) : Prop :=
  ((k0_t10_loop v532).OK) ∧
  (∀ k0_t10 : Fin (k0_t10_loop v532).trips, ∀ a, (k0_off50 v532 k0_t10) a + S16.size a ≤ S4096.size a) ∧
  (∀ k0_t10 : Fin (k0_t10_loop v532).trips, ∀ a, (k0_off51 v532 k0_t10) a + S16.size a ≤ S4096.size a) ∧
  (∀ k0_t10 : Fin (k0_t10_loop v532).trips, ∀ a, (k0_off52 v532 k0_t10) a + S16.size a ≤ S4096.size a) ∧
  (∀ k0_t10 : Fin (k0_t10_loop v532).trips, ∀ a, (k0_off53 v532 k0_t10) a + S16.size a ≤ S4096.size a) ∧
  ((k0_t11_loop v532).OK) ∧
  (∀ k0_t11 : Fin (k0_t11_loop v532).trips, ∀ a, (k0_off54 v532 k0_t11) a + S16.size a ≤ S4096.size a) ∧
  (∀ k0_t11 : Fin (k0_t11_loop v532).trips, ∀ a, (k0_off55 v532 k0_t11) a + S16.size a ≤ S4096.size a) ∧
  (∀ k0_t11 : Fin (k0_t11_loop v532).trips, ∀ a, (k0_off56 v532 k0_t11) a + S16.size a ≤ S4096.size a) ∧
  (∀ k0_t11 : Fin (k0_t11_loop v532).trips, ∀ a, (k0_off57 v532 k0_t11) a + S16.size a ≤ S4096.size a)
theorem k0_t10_ok : ∀ (v532 : BitVec 32) (k0_hw57 : k0_chk57 v532), (k0_t10_loop v532).OK := fun v532 k0_hw57 => k0_hw57.1
theorem k0_off50_inb : ∀ (v532 : BitVec 32) (k0_hw57 : k0_chk57 v532) (k0_t10 : Fin (k0_t10_loop v532).trips), ∀ a, (k0_off50 v532 k0_t10) a + S16.size a ≤ S4096.size a := fun v532 k0_hw57 k0_t10 => k0_hw57.2.1 k0_t10
theorem k0_off51_inb : ∀ (v532 : BitVec 32) (k0_hw57 : k0_chk57 v532) (k0_t10 : Fin (k0_t10_loop v532).trips), ∀ a, (k0_off51 v532 k0_t10) a + S16.size a ≤ S4096.size a := fun v532 k0_hw57 k0_t10 => k0_hw57.2.2.1 k0_t10
theorem k0_off52_inb : ∀ (v532 : BitVec 32) (k0_hw57 : k0_chk57 v532) (k0_t10 : Fin (k0_t10_loop v532).trips), ∀ a, (k0_off52 v532 k0_t10) a + S16.size a ≤ S4096.size a := fun v532 k0_hw57 k0_t10 => k0_hw57.2.2.2.1 k0_t10
theorem k0_off53_inb : ∀ (v532 : BitVec 32) (k0_hw57 : k0_chk57 v532) (k0_t10 : Fin (k0_t10_loop v532).trips), ∀ a, (k0_off53 v532 k0_t10) a + S16.size a ≤ S4096.size a := fun v532 k0_hw57 k0_t10 => k0_hw57.2.2.2.2.1 k0_t10
theorem k0_t11_ok : ∀ (v532 : BitVec 32) (k0_hw57 : k0_chk57 v532), (k0_t11_loop v532).OK := fun v532 k0_hw57 => k0_hw57.2.2.2.2.2.1
theorem k0_off54_inb : ∀ (v532 : BitVec 32) (k0_hw57 : k0_chk57 v532) (k0_t11 : Fin (k0_t11_loop v532).trips), ∀ a, (k0_off54 v532 k0_t11) a + S16.size a ≤ S4096.size a := fun v532 k0_hw57 k0_t11 => k0_hw57.2.2.2.2.2.2.1 k0_t11
theorem k0_off55_inb : ∀ (v532 : BitVec 32) (k0_hw57 : k0_chk57 v532) (k0_t11 : Fin (k0_t11_loop v532).trips), ∀ a, (k0_off55 v532 k0_t11) a + S16.size a ≤ S4096.size a := fun v532 k0_hw57 k0_t11 => k0_hw57.2.2.2.2.2.2.2.1 k0_t11
theorem k0_off56_inb : ∀ (v532 : BitVec 32) (k0_hw57 : k0_chk57 v532) (k0_t11 : Fin (k0_t11_loop v532).trips), ∀ a, (k0_off56 v532 k0_t11) a + S16.size a ≤ S4096.size a := fun v532 k0_hw57 k0_t11 => k0_hw57.2.2.2.2.2.2.2.2.1 k0_t11
theorem k0_off57_inb : ∀ (v532 : BitVec 32) (k0_hw57 : k0_chk57 v532) (k0_t11 : Fin (k0_t11_loop v532).trips), ∀ a, (k0_off57 v532 k0_t11) a + S16.size a ≤ S4096.size a := fun v532 k0_hw57 k0_t11 => k0_hw57.2.2.2.2.2.2.2.2.2 k0_t11

def k0_chk65 (v1215 : IVec S16 32) : Prop :=
  (∀ a x, ((![v1215] : Fin 1 → IVec S16 32) a x).toNat < S16.size a)
theorem k0_idx61_inb : ∀ (v1215 : IVec S16 32) (k0_hw65 : k0_chk65 v1215), ∀ a x, ((![v1215] : Fin 1 → IVec S16 32) a x).toNat < S16.size a := fun v1215 k0_hw65 => k0_hw65

def k0_chk66 (v575 : IVec S16 32) : Prop :=
  (∀ a x, ((![v575] : Fin 1 → IVec S16 32) a x).toNat < S4608.size a)
theorem k0_idx62_inb : ∀ (v575 : IVec S16 32) (k0_hw66 : k0_chk66 v575), ∀ a x, ((![v575] : Fin 1 → IVec S16 32) a x).toNat < S4608.size a := fun v575 k0_hw66 => k0_hw66
def k0_off58 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c3_i32_226 : BitVec 32 := 3#32
  let v524 : BitVec 32 := Scalar.addi v117 c3_i32_226
  let c64_i32_244 : BitVec 32 := 64#32
  let v576 : BitVec 32 := Scalar.muli v524 c64_i32_244
  let c0_i32_245 : BitVec 32 := 0#32
  let v577 : BitVec 32 := Scalar.addi v576 c0_i32_245
  let v578 : Index := Scalar.indexCast v577
  ![v578.toNat]

def k0_chk67 (v584 : IVec S16 32) : Prop :=
  (∀ a x, ((![v584] : Fin 1 → IVec S16 32) a x).toNat < S4608.size a)
theorem k0_idx63_inb : ∀ (v584 : IVec S16 32) (k0_hw67 : k0_chk67 v584), ∀ a x, ((![v584] : Fin 1 → IVec S16 32) a x).toNat < S4608.size a := fun v584 k0_hw67 => k0_hw67

def k0_chk68 (v594 : IVec S16 32) : Prop :=
  (∀ a x, ((![v594] : Fin 1 → IVec S16 32) a x).toNat < S4608.size a)
theorem k0_idx64_inb : ∀ (v594 : IVec S16 32) (k0_hw68 : k0_chk68 v594), ∀ a x, ((![v594] : Fin 1 → IVec S16 32) a x).toNat < S4608.size a := fun v594 k0_hw68 => k0_hw68
def k0_off59 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c3_i32_226 : BitVec 32 := 3#32
  let v524 : BitVec 32 := Scalar.addi v117 c3_i32_226
  let c64_i32_252 : BitVec 32 := 64#32
  let v595 : BitVec 32 := Scalar.muli v524 c64_i32_252
  let c16_i32_253 : BitVec 32 := 16#32
  let v596 : BitVec 32 := Scalar.addi v595 c16_i32_253
  let v597 : Index := Scalar.indexCast v596
  ![v597.toNat]

def k0_chk69 (v603 : IVec S16 32) : Prop :=
  (∀ a x, ((![v603] : Fin 1 → IVec S16 32) a x).toNat < S4608.size a)
theorem k0_idx65_inb : ∀ (v603 : IVec S16 32) (k0_hw69 : k0_chk69 v603), ∀ a x, ((![v603] : Fin 1 → IVec S16 32) a x).toNat < S4608.size a := fun v603 k0_hw69 => k0_hw69

def k0_chk70 (v613 : IVec S16 32) : Prop :=
  (∀ a x, ((![v613] : Fin 1 → IVec S16 32) a x).toNat < S4608.size a)
theorem k0_idx66_inb : ∀ (v613 : IVec S16 32) (k0_hw70 : k0_chk70 v613), ∀ a x, ((![v613] : Fin 1 → IVec S16 32) a x).toNat < S4608.size a := fun v613 k0_hw70 => k0_hw70
def k0_off60 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c3_i32_226 : BitVec 32 := 3#32
  let v524 : BitVec 32 := Scalar.addi v117 c3_i32_226
  let c64_i32_260 : BitVec 32 := 64#32
  let v614 : BitVec 32 := Scalar.muli v524 c64_i32_260
  let c32_i32_261 : BitVec 32 := 32#32
  let v615 : BitVec 32 := Scalar.addi v614 c32_i32_261
  let v616 : Index := Scalar.indexCast v615
  ![v616.toNat]

def k0_chk71 (v622 : IVec S16 32) : Prop :=
  (∀ a x, ((![v622] : Fin 1 → IVec S16 32) a x).toNat < S4608.size a)
theorem k0_idx67_inb : ∀ (v622 : IVec S16 32) (k0_hw71 : k0_chk71 v622), ∀ a x, ((![v622] : Fin 1 → IVec S16 32) a x).toNat < S4608.size a := fun v622 k0_hw71 => k0_hw71

def k0_chk72 (v632 : IVec S16 32) : Prop :=
  (∀ a x, ((![v632] : Fin 1 → IVec S16 32) a x).toNat < S4608.size a)
theorem k0_idx68_inb : ∀ (v632 : IVec S16 32) (k0_hw72 : k0_chk72 v632), ∀ a x, ((![v632] : Fin 1 → IVec S16 32) a x).toNat < S4608.size a := fun v632 k0_hw72 => k0_hw72
def k0_off61 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c3_i32_226 : BitVec 32 := 3#32
  let v524 : BitVec 32 := Scalar.addi v117 c3_i32_226
  let c64_i32_268 : BitVec 32 := 64#32
  let v633 : BitVec 32 := Scalar.muli v524 c64_i32_268
  let c48_i32_269 : BitVec 32 := 48#32
  let v634 : BitVec 32 := Scalar.addi v633 c48_i32_269
  let v635 : Index := Scalar.indexCast v634
  ![v635.toNat]

def k0_chk73 (v641 : IVec S16 32) : Prop :=
  (∀ a x, ((![v641] : Fin 1 → IVec S16 32) a x).toNat < S4608.size a)
theorem k0_idx69_inb : ∀ (v641 : IVec S16 32) (k0_hw73 : k0_chk73 v641), ∀ a x, ((![v641] : Fin 1 → IVec S16 32) a x).toNat < S4608.size a := fun v641 k0_hw73 => k0_hw73
def k0_off62 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_272 : BitVec 32 := 0#32
  ![v2.toNat, 0]
def k0_off63 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c4_i32_274 : BitVec 32 := 4#32
  let v646 : BitVec 32 := Scalar.addi v117 c4_i32_274
  let c8_i32_275 : BitVec 32 := 8#32
  let v647 : BitVec 32 := Scalar.addi v646 c8_i32_275
  let c1_i32_276 : BitVec 32 := 1#32
  let v648 : BitVec 32 := Scalar.subi v647 c1_i32_276
  let v649 : BitVec 32 := Scalar.addi v2 v648
  let c8191_i32_277 : BitVec 32 := 8191#32
  let v650 : BitVec 32 := Scalar.minsi v649 c8191_i32_277
  let c0_i32_278 : BitVec 32 := 0#32
  ![v650.toNat, 0]

def k0_chk74 (v656 : IVec S16 32) : Prop :=
  (∀ a x, ((![v656] : Fin 1 → IVec S16 32) a x).toNat < S256.size a)
theorem k0_idx70_inb : ∀ (v656 : IVec S16 32) (k0_hw74 : k0_chk74 v656), ∀ a x, ((![v656] : Fin 1 → IVec S16 32) a x).toNat < S256.size a := fun v656 k0_hw74 => k0_hw74
@[reducible] def k0_t12_loop (v663 : BitVec 32) : Scf.Loop 32 :=
  let c0_i32_283 : BitVec 32 := 0#32
  let v668 : BitVec 32 := Scalar.subi v663 c0_i32_283
  let c1_i32_284 : BitVec 32 := 1#32
  let v670 : BitVec 32 := Scalar.divsi v668 c1_i32_284
  let v671 : BitVec 32 := Scalar.muli v670 c1_i32_284
  let v672 : BitVec 32 := Scalar.addi c0_i32_283 v671
  let c1_i32_285 : BitVec 32 := 1#32
  ⟨c0_i32_283, v672, c1_i32_285⟩

def k0_off64 (v663 : BitVec 32) (k0_t12 : Fin (k0_t12_loop v663).trips) : Fin 1 → Nat :=
  let c0_i32_283 : BitVec 32 := 0#32
  let c1_i32_285 : BitVec 32 := 1#32
  let arg31 : BitVec 32 := Scf.iv c0_i32_283 c1_i32_285 k0_t12
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk76 (v1170 : IVec S16 32) : Prop :=
  (∀ a x, ((![v1170] : Fin 1 → IVec S16 32) a x).toNat < S16.size a)
theorem k0_idx71_inb : ∀ (v1170 : IVec S16 32) (k0_hw76 : k0_chk76 v1170), ∀ a x, ((![v1170] : Fin 1 → IVec S16 32) a x).toNat < S16.size a := fun v1170 k0_hw76 => k0_hw76
def k0_off65 (v663 : BitVec 32) (k0_t12 : Fin (k0_t12_loop v663).trips) : Fin 1 → Nat :=
  let c0_i32_283 : BitVec 32 := 0#32
  let c1_i32_285 : BitVec 32 := 1#32
  let arg31 : BitVec 32 := Scf.iv c0_i32_283 c1_i32_285 k0_t12
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk77 (v1185 : IVec S16 32) : Prop :=
  (∀ a x, ((![v1185] : Fin 1 → IVec S16 32) a x).toNat < S16.size a)
theorem k0_idx72_inb : ∀ (v1185 : IVec S16 32) (k0_hw77 : k0_chk77 v1185), ∀ a x, ((![v1185] : Fin 1 → IVec S16 32) a x).toNat < S16.size a := fun v1185 k0_hw77 => k0_hw77
def k0_off66 (v663 : BitVec 32) (k0_t12 : Fin (k0_t12_loop v663).trips) : Fin 1 → Nat :=
  let c0_i32_283 : BitVec 32 := 0#32
  let c1_i32_285 : BitVec 32 := 1#32
  let arg31 : BitVec 32 := Scf.iv c0_i32_283 c1_i32_285 k0_t12
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk78 (v1200 : IVec S16 32) : Prop :=
  (∀ a x, ((![v1200] : Fin 1 → IVec S16 32) a x).toNat < S16.size a)
theorem k0_idx73_inb : ∀ (v1200 : IVec S16 32) (k0_hw78 : k0_chk78 v1200), ∀ a x, ((![v1200] : Fin 1 → IVec S16 32) a x).toNat < S16.size a := fun v1200 k0_hw78 => k0_hw78
def k0_off67 (v663 : BitVec 32) (k0_t12 : Fin (k0_t12_loop v663).trips) : Fin 1 → Nat :=
  let c0_i32_283 : BitVec 32 := 0#32
  let c1_i32_285 : BitVec 32 := 1#32
  let arg31 : BitVec 32 := Scf.iv c0_i32_283 c1_i32_285 k0_t12
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk79 (v1215 : IVec S16 32) : Prop :=
  (∀ a x, ((![v1215] : Fin 1 → IVec S16 32) a x).toNat < S16.size a)
theorem k0_idx74_inb : ∀ (v1215 : IVec S16 32) (k0_hw79 : k0_chk79 v1215), ∀ a x, ((![v1215] : Fin 1 → IVec S16 32) a x).toNat < S16.size a := fun v1215 k0_hw79 => k0_hw79
@[reducible] def k0_t13_loop (v663 : BitVec 32) : Scf.Loop 32 :=
  let c0_i32_283 : BitVec 32 := 0#32
  let v668 : BitVec 32 := Scalar.subi v663 c0_i32_283
  let c1_i32_284 : BitVec 32 := 1#32
  let v670 : BitVec 32 := Scalar.divsi v668 c1_i32_284
  let v671 : BitVec 32 := Scalar.muli v670 c1_i32_284
  let v672 : BitVec 32 := Scalar.addi c0_i32_283 v671
  let v669 : BitVec 32 := Scalar.addi c0_i32_283 v668
  let c1_i32_286 : BitVec 32 := 1#32
  ⟨v672, v669, c1_i32_286⟩
def k0_off68 (v663 : BitVec 32) (k0_t13 : Fin (k0_t13_loop v663).trips) : Fin 1 → Nat :=
  let c0_i32_283 : BitVec 32 := 0#32
  let v668 : BitVec 32 := Scalar.subi v663 c0_i32_283
  let c1_i32_284 : BitVec 32 := 1#32
  let v670 : BitVec 32 := Scalar.divsi v668 c1_i32_284
  let v671 : BitVec 32 := Scalar.muli v670 c1_i32_284
  let v672 : BitVec 32 := Scalar.addi c0_i32_283 v671
  let c1_i32_286 : BitVec 32 := 1#32
  let arg31 : BitVec 32 := Scf.iv v672 c1_i32_286 k0_t13
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk80 (v1170 : IVec S16 32) : Prop :=
  (∀ a x, ((![v1170] : Fin 1 → IVec S16 32) a x).toNat < S16.size a)
theorem k0_idx75_inb : ∀ (v1170 : IVec S16 32) (k0_hw80 : k0_chk80 v1170), ∀ a x, ((![v1170] : Fin 1 → IVec S16 32) a x).toNat < S16.size a := fun v1170 k0_hw80 => k0_hw80
def k0_off69 (v663 : BitVec 32) (k0_t13 : Fin (k0_t13_loop v663).trips) : Fin 1 → Nat :=
  let c0_i32_283 : BitVec 32 := 0#32
  let v668 : BitVec 32 := Scalar.subi v663 c0_i32_283
  let c1_i32_284 : BitVec 32 := 1#32
  let v670 : BitVec 32 := Scalar.divsi v668 c1_i32_284
  let v671 : BitVec 32 := Scalar.muli v670 c1_i32_284
  let v672 : BitVec 32 := Scalar.addi c0_i32_283 v671
  let c1_i32_286 : BitVec 32 := 1#32
  let arg31 : BitVec 32 := Scf.iv v672 c1_i32_286 k0_t13
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk81 (v1185 : IVec S16 32) : Prop :=
  (∀ a x, ((![v1185] : Fin 1 → IVec S16 32) a x).toNat < S16.size a)
theorem k0_idx76_inb : ∀ (v1185 : IVec S16 32) (k0_hw81 : k0_chk81 v1185), ∀ a x, ((![v1185] : Fin 1 → IVec S16 32) a x).toNat < S16.size a := fun v1185 k0_hw81 => k0_hw81
def k0_off70 (v663 : BitVec 32) (k0_t13 : Fin (k0_t13_loop v663).trips) : Fin 1 → Nat :=
  let c0_i32_283 : BitVec 32 := 0#32
  let v668 : BitVec 32 := Scalar.subi v663 c0_i32_283
  let c1_i32_284 : BitVec 32 := 1#32
  let v670 : BitVec 32 := Scalar.divsi v668 c1_i32_284
  let v671 : BitVec 32 := Scalar.muli v670 c1_i32_284
  let v672 : BitVec 32 := Scalar.addi c0_i32_283 v671
  let c1_i32_286 : BitVec 32 := 1#32
  let arg31 : BitVec 32 := Scf.iv v672 c1_i32_286 k0_t13
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk82 (v1200 : IVec S16 32) : Prop :=
  (∀ a x, ((![v1200] : Fin 1 → IVec S16 32) a x).toNat < S16.size a)
theorem k0_idx77_inb : ∀ (v1200 : IVec S16 32) (k0_hw82 : k0_chk82 v1200), ∀ a x, ((![v1200] : Fin 1 → IVec S16 32) a x).toNat < S16.size a := fun v1200 k0_hw82 => k0_hw82
def k0_off71 (v663 : BitVec 32) (k0_t13 : Fin (k0_t13_loop v663).trips) : Fin 1 → Nat :=
  let c0_i32_283 : BitVec 32 := 0#32
  let v668 : BitVec 32 := Scalar.subi v663 c0_i32_283
  let c1_i32_284 : BitVec 32 := 1#32
  let v670 : BitVec 32 := Scalar.divsi v668 c1_i32_284
  let v671 : BitVec 32 := Scalar.muli v670 c1_i32_284
  let v672 : BitVec 32 := Scalar.addi c0_i32_283 v671
  let c1_i32_286 : BitVec 32 := 1#32
  let arg31 : BitVec 32 := Scf.iv v672 c1_i32_286 k0_t13
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk75 (v663 : BitVec 32) : Prop :=
  ((k0_t12_loop v663).OK) ∧
  (∀ k0_t12 : Fin (k0_t12_loop v663).trips, ∀ a, (k0_off64 v663 k0_t12) a + S16.size a ≤ S4096.size a) ∧
  (∀ k0_t12 : Fin (k0_t12_loop v663).trips, ∀ a, (k0_off65 v663 k0_t12) a + S16.size a ≤ S4096.size a) ∧
  (∀ k0_t12 : Fin (k0_t12_loop v663).trips, ∀ a, (k0_off66 v663 k0_t12) a + S16.size a ≤ S4096.size a) ∧
  (∀ k0_t12 : Fin (k0_t12_loop v663).trips, ∀ a, (k0_off67 v663 k0_t12) a + S16.size a ≤ S4096.size a) ∧
  ((k0_t13_loop v663).OK) ∧
  (∀ k0_t13 : Fin (k0_t13_loop v663).trips, ∀ a, (k0_off68 v663 k0_t13) a + S16.size a ≤ S4096.size a) ∧
  (∀ k0_t13 : Fin (k0_t13_loop v663).trips, ∀ a, (k0_off69 v663 k0_t13) a + S16.size a ≤ S4096.size a) ∧
  (∀ k0_t13 : Fin (k0_t13_loop v663).trips, ∀ a, (k0_off70 v663 k0_t13) a + S16.size a ≤ S4096.size a) ∧
  (∀ k0_t13 : Fin (k0_t13_loop v663).trips, ∀ a, (k0_off71 v663 k0_t13) a + S16.size a ≤ S4096.size a)
theorem k0_t12_ok : ∀ (v663 : BitVec 32) (k0_hw75 : k0_chk75 v663), (k0_t12_loop v663).OK := fun v663 k0_hw75 => k0_hw75.1
theorem k0_off64_inb : ∀ (v663 : BitVec 32) (k0_hw75 : k0_chk75 v663) (k0_t12 : Fin (k0_t12_loop v663).trips), ∀ a, (k0_off64 v663 k0_t12) a + S16.size a ≤ S4096.size a := fun v663 k0_hw75 k0_t12 => k0_hw75.2.1 k0_t12
theorem k0_off65_inb : ∀ (v663 : BitVec 32) (k0_hw75 : k0_chk75 v663) (k0_t12 : Fin (k0_t12_loop v663).trips), ∀ a, (k0_off65 v663 k0_t12) a + S16.size a ≤ S4096.size a := fun v663 k0_hw75 k0_t12 => k0_hw75.2.2.1 k0_t12
theorem k0_off66_inb : ∀ (v663 : BitVec 32) (k0_hw75 : k0_chk75 v663) (k0_t12 : Fin (k0_t12_loop v663).trips), ∀ a, (k0_off66 v663 k0_t12) a + S16.size a ≤ S4096.size a := fun v663 k0_hw75 k0_t12 => k0_hw75.2.2.2.1 k0_t12
theorem k0_off67_inb : ∀ (v663 : BitVec 32) (k0_hw75 : k0_chk75 v663) (k0_t12 : Fin (k0_t12_loop v663).trips), ∀ a, (k0_off67 v663 k0_t12) a + S16.size a ≤ S4096.size a := fun v663 k0_hw75 k0_t12 => k0_hw75.2.2.2.2.1 k0_t12
theorem k0_t13_ok : ∀ (v663 : BitVec 32) (k0_hw75 : k0_chk75 v663), (k0_t13_loop v663).OK := fun v663 k0_hw75 => k0_hw75.2.2.2.2.2.1
theorem k0_off68_inb : ∀ (v663 : BitVec 32) (k0_hw75 : k0_chk75 v663) (k0_t13 : Fin (k0_t13_loop v663).trips), ∀ a, (k0_off68 v663 k0_t13) a + S16.size a ≤ S4096.size a := fun v663 k0_hw75 k0_t13 => k0_hw75.2.2.2.2.2.2.1 k0_t13
theorem k0_off69_inb : ∀ (v663 : BitVec 32) (k0_hw75 : k0_chk75 v663) (k0_t13 : Fin (k0_t13_loop v663).trips), ∀ a, (k0_off69 v663 k0_t13) a + S16.size a ≤ S4096.size a := fun v663 k0_hw75 k0_t13 => k0_hw75.2.2.2.2.2.2.2.1 k0_t13
theorem k0_off70_inb : ∀ (v663 : BitVec 32) (k0_hw75 : k0_chk75 v663) (k0_t13 : Fin (k0_t13_loop v663).trips), ∀ a, (k0_off70 v663 k0_t13) a + S16.size a ≤ S4096.size a := fun v663 k0_hw75 k0_t13 => k0_hw75.2.2.2.2.2.2.2.2.1 k0_t13
theorem k0_off71_inb : ∀ (v663 : BitVec 32) (k0_hw75 : k0_chk75 v663) (k0_t13 : Fin (k0_t13_loop v663).trips), ∀ a, (k0_off71 v663 k0_t13) a + S16.size a ≤ S4096.size a := fun v663 k0_hw75 k0_t13 => k0_hw75.2.2.2.2.2.2.2.2.2 k0_t13

def k0_chk83 (v1215 : IVec S16 32) : Prop :=
  (∀ a x, ((![v1215] : Fin 1 → IVec S16 32) a x).toNat < S16.size a)
theorem k0_idx78_inb : ∀ (v1215 : IVec S16 32) (k0_hw83 : k0_chk83 v1215), ∀ a x, ((![v1215] : Fin 1 → IVec S16 32) a x).toNat < S16.size a := fun v1215 k0_hw83 => k0_hw83

def k0_chk84 (v706 : IVec S16 32) : Prop :=
  (∀ a x, ((![v706] : Fin 1 → IVec S16 32) a x).toNat < S4608.size a)
theorem k0_idx79_inb : ∀ (v706 : IVec S16 32) (k0_hw84 : k0_chk84 v706), ∀ a x, ((![v706] : Fin 1 → IVec S16 32) a x).toNat < S4608.size a := fun v706 k0_hw84 => k0_hw84
def k0_off72 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c4_i32_280 : BitVec 32 := 4#32
  let v655 : BitVec 32 := Scalar.addi v117 c4_i32_280
  let c64_i32_298 : BitVec 32 := 64#32
  let v707 : BitVec 32 := Scalar.muli v655 c64_i32_298
  let c0_i32_299 : BitVec 32 := 0#32
  let v708 : BitVec 32 := Scalar.addi v707 c0_i32_299
  let v709 : Index := Scalar.indexCast v708
  ![v709.toNat]

def k0_chk85 (v715 : IVec S16 32) : Prop :=
  (∀ a x, ((![v715] : Fin 1 → IVec S16 32) a x).toNat < S4608.size a)
theorem k0_idx80_inb : ∀ (v715 : IVec S16 32) (k0_hw85 : k0_chk85 v715), ∀ a x, ((![v715] : Fin 1 → IVec S16 32) a x).toNat < S4608.size a := fun v715 k0_hw85 => k0_hw85

def k0_chk86 (v725 : IVec S16 32) : Prop :=
  (∀ a x, ((![v725] : Fin 1 → IVec S16 32) a x).toNat < S4608.size a)
theorem k0_idx81_inb : ∀ (v725 : IVec S16 32) (k0_hw86 : k0_chk86 v725), ∀ a x, ((![v725] : Fin 1 → IVec S16 32) a x).toNat < S4608.size a := fun v725 k0_hw86 => k0_hw86
def k0_off73 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c4_i32_280 : BitVec 32 := 4#32
  let v655 : BitVec 32 := Scalar.addi v117 c4_i32_280
  let c64_i32_306 : BitVec 32 := 64#32
  let v726 : BitVec 32 := Scalar.muli v655 c64_i32_306
  let c16_i32_307 : BitVec 32 := 16#32
  let v727 : BitVec 32 := Scalar.addi v726 c16_i32_307
  let v728 : Index := Scalar.indexCast v727
  ![v728.toNat]

def k0_chk87 (v734 : IVec S16 32) : Prop :=
  (∀ a x, ((![v734] : Fin 1 → IVec S16 32) a x).toNat < S4608.size a)
theorem k0_idx82_inb : ∀ (v734 : IVec S16 32) (k0_hw87 : k0_chk87 v734), ∀ a x, ((![v734] : Fin 1 → IVec S16 32) a x).toNat < S4608.size a := fun v734 k0_hw87 => k0_hw87

def k0_chk88 (v744 : IVec S16 32) : Prop :=
  (∀ a x, ((![v744] : Fin 1 → IVec S16 32) a x).toNat < S4608.size a)
theorem k0_idx83_inb : ∀ (v744 : IVec S16 32) (k0_hw88 : k0_chk88 v744), ∀ a x, ((![v744] : Fin 1 → IVec S16 32) a x).toNat < S4608.size a := fun v744 k0_hw88 => k0_hw88
def k0_off74 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c4_i32_280 : BitVec 32 := 4#32
  let v655 : BitVec 32 := Scalar.addi v117 c4_i32_280
  let c64_i32_314 : BitVec 32 := 64#32
  let v745 : BitVec 32 := Scalar.muli v655 c64_i32_314
  let c32_i32_315 : BitVec 32 := 32#32
  let v746 : BitVec 32 := Scalar.addi v745 c32_i32_315
  let v747 : Index := Scalar.indexCast v746
  ![v747.toNat]

def k0_chk89 (v753 : IVec S16 32) : Prop :=
  (∀ a x, ((![v753] : Fin 1 → IVec S16 32) a x).toNat < S4608.size a)
theorem k0_idx84_inb : ∀ (v753 : IVec S16 32) (k0_hw89 : k0_chk89 v753), ∀ a x, ((![v753] : Fin 1 → IVec S16 32) a x).toNat < S4608.size a := fun v753 k0_hw89 => k0_hw89

def k0_chk90 (v763 : IVec S16 32) : Prop :=
  (∀ a x, ((![v763] : Fin 1 → IVec S16 32) a x).toNat < S4608.size a)
theorem k0_idx85_inb : ∀ (v763 : IVec S16 32) (k0_hw90 : k0_chk90 v763), ∀ a x, ((![v763] : Fin 1 → IVec S16 32) a x).toNat < S4608.size a := fun v763 k0_hw90 => k0_hw90
def k0_off75 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c4_i32_280 : BitVec 32 := 4#32
  let v655 : BitVec 32 := Scalar.addi v117 c4_i32_280
  let c64_i32_322 : BitVec 32 := 64#32
  let v764 : BitVec 32 := Scalar.muli v655 c64_i32_322
  let c48_i32_323 : BitVec 32 := 48#32
  let v765 : BitVec 32 := Scalar.addi v764 c48_i32_323
  let v766 : Index := Scalar.indexCast v765
  ![v766.toNat]

def k0_chk91 (v772 : IVec S16 32) : Prop :=
  (∀ a x, ((![v772] : Fin 1 → IVec S16 32) a x).toNat < S4608.size a)
theorem k0_idx86_inb : ∀ (v772 : IVec S16 32) (k0_hw91 : k0_chk91 v772), ∀ a x, ((![v772] : Fin 1 → IVec S16 32) a x).toNat < S4608.size a := fun v772 k0_hw91 => k0_hw91
def k0_off76 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_326 : BitVec 32 := 0#32
  ![v2.toNat, 0]
def k0_off77 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c5_i32_328 : BitVec 32 := 5#32
  let v777 : BitVec 32 := Scalar.addi v117 c5_i32_328
  let c8_i32_329 : BitVec 32 := 8#32
  let v778 : BitVec 32 := Scalar.addi v777 c8_i32_329
  let c1_i32_330 : BitVec 32 := 1#32
  let v779 : BitVec 32 := Scalar.subi v778 c1_i32_330
  let v780 : BitVec 32 := Scalar.addi v2 v779
  let c8191_i32_331 : BitVec 32 := 8191#32
  let v781 : BitVec 32 := Scalar.minsi v780 c8191_i32_331
  let c0_i32_332 : BitVec 32 := 0#32
  ![v781.toNat, 0]

def k0_chk92 (v787 : IVec S16 32) : Prop :=
  (∀ a x, ((![v787] : Fin 1 → IVec S16 32) a x).toNat < S256.size a)
theorem k0_idx87_inb : ∀ (v787 : IVec S16 32) (k0_hw92 : k0_chk92 v787), ∀ a x, ((![v787] : Fin 1 → IVec S16 32) a x).toNat < S256.size a := fun v787 k0_hw92 => k0_hw92
@[reducible] def k0_t14_loop (v794 : BitVec 32) : Scf.Loop 32 :=
  let c0_i32_337 : BitVec 32 := 0#32
  let v799 : BitVec 32 := Scalar.subi v794 c0_i32_337
  let c1_i32_338 : BitVec 32 := 1#32
  let v801 : BitVec 32 := Scalar.divsi v799 c1_i32_338
  let v802 : BitVec 32 := Scalar.muli v801 c1_i32_338
  let v803 : BitVec 32 := Scalar.addi c0_i32_337 v802
  let c1_i32_339 : BitVec 32 := 1#32
  ⟨c0_i32_337, v803, c1_i32_339⟩

def k0_off78 (v794 : BitVec 32) (k0_t14 : Fin (k0_t14_loop v794).trips) : Fin 1 → Nat :=
  let c0_i32_337 : BitVec 32 := 0#32
  let c1_i32_339 : BitVec 32 := 1#32
  let arg31 : BitVec 32 := Scf.iv c0_i32_337 c1_i32_339 k0_t14
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk94 (v1170 : IVec S16 32) : Prop :=
  (∀ a x, ((![v1170] : Fin 1 → IVec S16 32) a x).toNat < S16.size a)
theorem k0_idx88_inb : ∀ (v1170 : IVec S16 32) (k0_hw94 : k0_chk94 v1170), ∀ a x, ((![v1170] : Fin 1 → IVec S16 32) a x).toNat < S16.size a := fun v1170 k0_hw94 => k0_hw94
def k0_off79 (v794 : BitVec 32) (k0_t14 : Fin (k0_t14_loop v794).trips) : Fin 1 → Nat :=
  let c0_i32_337 : BitVec 32 := 0#32
  let c1_i32_339 : BitVec 32 := 1#32
  let arg31 : BitVec 32 := Scf.iv c0_i32_337 c1_i32_339 k0_t14
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk95 (v1185 : IVec S16 32) : Prop :=
  (∀ a x, ((![v1185] : Fin 1 → IVec S16 32) a x).toNat < S16.size a)
theorem k0_idx89_inb : ∀ (v1185 : IVec S16 32) (k0_hw95 : k0_chk95 v1185), ∀ a x, ((![v1185] : Fin 1 → IVec S16 32) a x).toNat < S16.size a := fun v1185 k0_hw95 => k0_hw95
def k0_off80 (v794 : BitVec 32) (k0_t14 : Fin (k0_t14_loop v794).trips) : Fin 1 → Nat :=
  let c0_i32_337 : BitVec 32 := 0#32
  let c1_i32_339 : BitVec 32 := 1#32
  let arg31 : BitVec 32 := Scf.iv c0_i32_337 c1_i32_339 k0_t14
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk96 (v1200 : IVec S16 32) : Prop :=
  (∀ a x, ((![v1200] : Fin 1 → IVec S16 32) a x).toNat < S16.size a)
theorem k0_idx90_inb : ∀ (v1200 : IVec S16 32) (k0_hw96 : k0_chk96 v1200), ∀ a x, ((![v1200] : Fin 1 → IVec S16 32) a x).toNat < S16.size a := fun v1200 k0_hw96 => k0_hw96
def k0_off81 (v794 : BitVec 32) (k0_t14 : Fin (k0_t14_loop v794).trips) : Fin 1 → Nat :=
  let c0_i32_337 : BitVec 32 := 0#32
  let c1_i32_339 : BitVec 32 := 1#32
  let arg31 : BitVec 32 := Scf.iv c0_i32_337 c1_i32_339 k0_t14
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk97 (v1215 : IVec S16 32) : Prop :=
  (∀ a x, ((![v1215] : Fin 1 → IVec S16 32) a x).toNat < S16.size a)
theorem k0_idx91_inb : ∀ (v1215 : IVec S16 32) (k0_hw97 : k0_chk97 v1215), ∀ a x, ((![v1215] : Fin 1 → IVec S16 32) a x).toNat < S16.size a := fun v1215 k0_hw97 => k0_hw97
@[reducible] def k0_t15_loop (v794 : BitVec 32) : Scf.Loop 32 :=
  let c0_i32_337 : BitVec 32 := 0#32
  let v799 : BitVec 32 := Scalar.subi v794 c0_i32_337
  let c1_i32_338 : BitVec 32 := 1#32
  let v801 : BitVec 32 := Scalar.divsi v799 c1_i32_338
  let v802 : BitVec 32 := Scalar.muli v801 c1_i32_338
  let v803 : BitVec 32 := Scalar.addi c0_i32_337 v802
  let v800 : BitVec 32 := Scalar.addi c0_i32_337 v799
  let c1_i32_340 : BitVec 32 := 1#32
  ⟨v803, v800, c1_i32_340⟩
def k0_off82 (v794 : BitVec 32) (k0_t15 : Fin (k0_t15_loop v794).trips) : Fin 1 → Nat :=
  let c0_i32_337 : BitVec 32 := 0#32
  let v799 : BitVec 32 := Scalar.subi v794 c0_i32_337
  let c1_i32_338 : BitVec 32 := 1#32
  let v801 : BitVec 32 := Scalar.divsi v799 c1_i32_338
  let v802 : BitVec 32 := Scalar.muli v801 c1_i32_338
  let v803 : BitVec 32 := Scalar.addi c0_i32_337 v802
  let c1_i32_340 : BitVec 32 := 1#32
  let arg31 : BitVec 32 := Scf.iv v803 c1_i32_340 k0_t15
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk98 (v1170 : IVec S16 32) : Prop :=
  (∀ a x, ((![v1170] : Fin 1 → IVec S16 32) a x).toNat < S16.size a)
theorem k0_idx92_inb : ∀ (v1170 : IVec S16 32) (k0_hw98 : k0_chk98 v1170), ∀ a x, ((![v1170] : Fin 1 → IVec S16 32) a x).toNat < S16.size a := fun v1170 k0_hw98 => k0_hw98
def k0_off83 (v794 : BitVec 32) (k0_t15 : Fin (k0_t15_loop v794).trips) : Fin 1 → Nat :=
  let c0_i32_337 : BitVec 32 := 0#32
  let v799 : BitVec 32 := Scalar.subi v794 c0_i32_337
  let c1_i32_338 : BitVec 32 := 1#32
  let v801 : BitVec 32 := Scalar.divsi v799 c1_i32_338
  let v802 : BitVec 32 := Scalar.muli v801 c1_i32_338
  let v803 : BitVec 32 := Scalar.addi c0_i32_337 v802
  let c1_i32_340 : BitVec 32 := 1#32
  let arg31 : BitVec 32 := Scf.iv v803 c1_i32_340 k0_t15
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk99 (v1185 : IVec S16 32) : Prop :=
  (∀ a x, ((![v1185] : Fin 1 → IVec S16 32) a x).toNat < S16.size a)
theorem k0_idx93_inb : ∀ (v1185 : IVec S16 32) (k0_hw99 : k0_chk99 v1185), ∀ a x, ((![v1185] : Fin 1 → IVec S16 32) a x).toNat < S16.size a := fun v1185 k0_hw99 => k0_hw99
def k0_off84 (v794 : BitVec 32) (k0_t15 : Fin (k0_t15_loop v794).trips) : Fin 1 → Nat :=
  let c0_i32_337 : BitVec 32 := 0#32
  let v799 : BitVec 32 := Scalar.subi v794 c0_i32_337
  let c1_i32_338 : BitVec 32 := 1#32
  let v801 : BitVec 32 := Scalar.divsi v799 c1_i32_338
  let v802 : BitVec 32 := Scalar.muli v801 c1_i32_338
  let v803 : BitVec 32 := Scalar.addi c0_i32_337 v802
  let c1_i32_340 : BitVec 32 := 1#32
  let arg31 : BitVec 32 := Scf.iv v803 c1_i32_340 k0_t15
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk100 (v1200 : IVec S16 32) : Prop :=
  (∀ a x, ((![v1200] : Fin 1 → IVec S16 32) a x).toNat < S16.size a)
theorem k0_idx94_inb : ∀ (v1200 : IVec S16 32) (k0_hw100 : k0_chk100 v1200), ∀ a x, ((![v1200] : Fin 1 → IVec S16 32) a x).toNat < S16.size a := fun v1200 k0_hw100 => k0_hw100
def k0_off85 (v794 : BitVec 32) (k0_t15 : Fin (k0_t15_loop v794).trips) : Fin 1 → Nat :=
  let c0_i32_337 : BitVec 32 := 0#32
  let v799 : BitVec 32 := Scalar.subi v794 c0_i32_337
  let c1_i32_338 : BitVec 32 := 1#32
  let v801 : BitVec 32 := Scalar.divsi v799 c1_i32_338
  let v802 : BitVec 32 := Scalar.muli v801 c1_i32_338
  let v803 : BitVec 32 := Scalar.addi c0_i32_337 v802
  let c1_i32_340 : BitVec 32 := 1#32
  let arg31 : BitVec 32 := Scf.iv v803 c1_i32_340 k0_t15
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk93 (v794 : BitVec 32) : Prop :=
  ((k0_t14_loop v794).OK) ∧
  (∀ k0_t14 : Fin (k0_t14_loop v794).trips, ∀ a, (k0_off78 v794 k0_t14) a + S16.size a ≤ S4096.size a) ∧
  (∀ k0_t14 : Fin (k0_t14_loop v794).trips, ∀ a, (k0_off79 v794 k0_t14) a + S16.size a ≤ S4096.size a) ∧
  (∀ k0_t14 : Fin (k0_t14_loop v794).trips, ∀ a, (k0_off80 v794 k0_t14) a + S16.size a ≤ S4096.size a) ∧
  (∀ k0_t14 : Fin (k0_t14_loop v794).trips, ∀ a, (k0_off81 v794 k0_t14) a + S16.size a ≤ S4096.size a) ∧
  ((k0_t15_loop v794).OK) ∧
  (∀ k0_t15 : Fin (k0_t15_loop v794).trips, ∀ a, (k0_off82 v794 k0_t15) a + S16.size a ≤ S4096.size a) ∧
  (∀ k0_t15 : Fin (k0_t15_loop v794).trips, ∀ a, (k0_off83 v794 k0_t15) a + S16.size a ≤ S4096.size a) ∧
  (∀ k0_t15 : Fin (k0_t15_loop v794).trips, ∀ a, (k0_off84 v794 k0_t15) a + S16.size a ≤ S4096.size a) ∧
  (∀ k0_t15 : Fin (k0_t15_loop v794).trips, ∀ a, (k0_off85 v794 k0_t15) a + S16.size a ≤ S4096.size a)
theorem k0_t14_ok : ∀ (v794 : BitVec 32) (k0_hw93 : k0_chk93 v794), (k0_t14_loop v794).OK := fun v794 k0_hw93 => k0_hw93.1
theorem k0_off78_inb : ∀ (v794 : BitVec 32) (k0_hw93 : k0_chk93 v794) (k0_t14 : Fin (k0_t14_loop v794).trips), ∀ a, (k0_off78 v794 k0_t14) a + S16.size a ≤ S4096.size a := fun v794 k0_hw93 k0_t14 => k0_hw93.2.1 k0_t14
theorem k0_off79_inb : ∀ (v794 : BitVec 32) (k0_hw93 : k0_chk93 v794) (k0_t14 : Fin (k0_t14_loop v794).trips), ∀ a, (k0_off79 v794 k0_t14) a + S16.size a ≤ S4096.size a := fun v794 k0_hw93 k0_t14 => k0_hw93.2.2.1 k0_t14
theorem k0_off80_inb : ∀ (v794 : BitVec 32) (k0_hw93 : k0_chk93 v794) (k0_t14 : Fin (k0_t14_loop v794).trips), ∀ a, (k0_off80 v794 k0_t14) a + S16.size a ≤ S4096.size a := fun v794 k0_hw93 k0_t14 => k0_hw93.2.2.2.1 k0_t14
theorem k0_off81_inb : ∀ (v794 : BitVec 32) (k0_hw93 : k0_chk93 v794) (k0_t14 : Fin (k0_t14_loop v794).trips), ∀ a, (k0_off81 v794 k0_t14) a + S16.size a ≤ S4096.size a := fun v794 k0_hw93 k0_t14 => k0_hw93.2.2.2.2.1 k0_t14
theorem k0_t15_ok : ∀ (v794 : BitVec 32) (k0_hw93 : k0_chk93 v794), (k0_t15_loop v794).OK := fun v794 k0_hw93 => k0_hw93.2.2.2.2.2.1
theorem k0_off82_inb : ∀ (v794 : BitVec 32) (k0_hw93 : k0_chk93 v794) (k0_t15 : Fin (k0_t15_loop v794).trips), ∀ a, (k0_off82 v794 k0_t15) a + S16.size a ≤ S4096.size a := fun v794 k0_hw93 k0_t15 => k0_hw93.2.2.2.2.2.2.1 k0_t15
theorem k0_off83_inb : ∀ (v794 : BitVec 32) (k0_hw93 : k0_chk93 v794) (k0_t15 : Fin (k0_t15_loop v794).trips), ∀ a, (k0_off83 v794 k0_t15) a + S16.size a ≤ S4096.size a := fun v794 k0_hw93 k0_t15 => k0_hw93.2.2.2.2.2.2.2.1 k0_t15
theorem k0_off84_inb : ∀ (v794 : BitVec 32) (k0_hw93 : k0_chk93 v794) (k0_t15 : Fin (k0_t15_loop v794).trips), ∀ a, (k0_off84 v794 k0_t15) a + S16.size a ≤ S4096.size a := fun v794 k0_hw93 k0_t15 => k0_hw93.2.2.2.2.2.2.2.2.1 k0_t15
theorem k0_off85_inb : ∀ (v794 : BitVec 32) (k0_hw93 : k0_chk93 v794) (k0_t15 : Fin (k0_t15_loop v794).trips), ∀ a, (k0_off85 v794 k0_t15) a + S16.size a ≤ S4096.size a := fun v794 k0_hw93 k0_t15 => k0_hw93.2.2.2.2.2.2.2.2.2 k0_t15

def k0_chk101 (v1215 : IVec S16 32) : Prop :=
  (∀ a x, ((![v1215] : Fin 1 → IVec S16 32) a x).toNat < S16.size a)
theorem k0_idx95_inb : ∀ (v1215 : IVec S16 32) (k0_hw101 : k0_chk101 v1215), ∀ a x, ((![v1215] : Fin 1 → IVec S16 32) a x).toNat < S16.size a := fun v1215 k0_hw101 => k0_hw101

def k0_chk102 (v837 : IVec S16 32) : Prop :=
  (∀ a x, ((![v837] : Fin 1 → IVec S16 32) a x).toNat < S4608.size a)
theorem k0_idx96_inb : ∀ (v837 : IVec S16 32) (k0_hw102 : k0_chk102 v837), ∀ a x, ((![v837] : Fin 1 → IVec S16 32) a x).toNat < S4608.size a := fun v837 k0_hw102 => k0_hw102
def k0_off86 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c5_i32_334 : BitVec 32 := 5#32
  let v786 : BitVec 32 := Scalar.addi v117 c5_i32_334
  let c64_i32_352 : BitVec 32 := 64#32
  let v838 : BitVec 32 := Scalar.muli v786 c64_i32_352
  let c0_i32_353 : BitVec 32 := 0#32
  let v839 : BitVec 32 := Scalar.addi v838 c0_i32_353
  let v840 : Index := Scalar.indexCast v839
  ![v840.toNat]

def k0_chk103 (v846 : IVec S16 32) : Prop :=
  (∀ a x, ((![v846] : Fin 1 → IVec S16 32) a x).toNat < S4608.size a)
theorem k0_idx97_inb : ∀ (v846 : IVec S16 32) (k0_hw103 : k0_chk103 v846), ∀ a x, ((![v846] : Fin 1 → IVec S16 32) a x).toNat < S4608.size a := fun v846 k0_hw103 => k0_hw103

def k0_chk104 (v856 : IVec S16 32) : Prop :=
  (∀ a x, ((![v856] : Fin 1 → IVec S16 32) a x).toNat < S4608.size a)
theorem k0_idx98_inb : ∀ (v856 : IVec S16 32) (k0_hw104 : k0_chk104 v856), ∀ a x, ((![v856] : Fin 1 → IVec S16 32) a x).toNat < S4608.size a := fun v856 k0_hw104 => k0_hw104
def k0_off87 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c5_i32_334 : BitVec 32 := 5#32
  let v786 : BitVec 32 := Scalar.addi v117 c5_i32_334
  let c64_i32_360 : BitVec 32 := 64#32
  let v857 : BitVec 32 := Scalar.muli v786 c64_i32_360
  let c16_i32_361 : BitVec 32 := 16#32
  let v858 : BitVec 32 := Scalar.addi v857 c16_i32_361
  let v859 : Index := Scalar.indexCast v858
  ![v859.toNat]

def k0_chk105 (v865 : IVec S16 32) : Prop :=
  (∀ a x, ((![v865] : Fin 1 → IVec S16 32) a x).toNat < S4608.size a)
theorem k0_idx99_inb : ∀ (v865 : IVec S16 32) (k0_hw105 : k0_chk105 v865), ∀ a x, ((![v865] : Fin 1 → IVec S16 32) a x).toNat < S4608.size a := fun v865 k0_hw105 => k0_hw105

def k0_chk106 (v875 : IVec S16 32) : Prop :=
  (∀ a x, ((![v875] : Fin 1 → IVec S16 32) a x).toNat < S4608.size a)
theorem k0_idx100_inb : ∀ (v875 : IVec S16 32) (k0_hw106 : k0_chk106 v875), ∀ a x, ((![v875] : Fin 1 → IVec S16 32) a x).toNat < S4608.size a := fun v875 k0_hw106 => k0_hw106
def k0_off88 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c5_i32_334 : BitVec 32 := 5#32
  let v786 : BitVec 32 := Scalar.addi v117 c5_i32_334
  let c64_i32_368 : BitVec 32 := 64#32
  let v876 : BitVec 32 := Scalar.muli v786 c64_i32_368
  let c32_i32_369 : BitVec 32 := 32#32
  let v877 : BitVec 32 := Scalar.addi v876 c32_i32_369
  let v878 : Index := Scalar.indexCast v877
  ![v878.toNat]

def k0_chk107 (v884 : IVec S16 32) : Prop :=
  (∀ a x, ((![v884] : Fin 1 → IVec S16 32) a x).toNat < S4608.size a)
theorem k0_idx101_inb : ∀ (v884 : IVec S16 32) (k0_hw107 : k0_chk107 v884), ∀ a x, ((![v884] : Fin 1 → IVec S16 32) a x).toNat < S4608.size a := fun v884 k0_hw107 => k0_hw107

def k0_chk108 (v894 : IVec S16 32) : Prop :=
  (∀ a x, ((![v894] : Fin 1 → IVec S16 32) a x).toNat < S4608.size a)
theorem k0_idx102_inb : ∀ (v894 : IVec S16 32) (k0_hw108 : k0_chk108 v894), ∀ a x, ((![v894] : Fin 1 → IVec S16 32) a x).toNat < S4608.size a := fun v894 k0_hw108 => k0_hw108
def k0_off89 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c5_i32_334 : BitVec 32 := 5#32
  let v786 : BitVec 32 := Scalar.addi v117 c5_i32_334
  let c64_i32_376 : BitVec 32 := 64#32
  let v895 : BitVec 32 := Scalar.muli v786 c64_i32_376
  let c48_i32_377 : BitVec 32 := 48#32
  let v896 : BitVec 32 := Scalar.addi v895 c48_i32_377
  let v897 : Index := Scalar.indexCast v896
  ![v897.toNat]

def k0_chk109 (v903 : IVec S16 32) : Prop :=
  (∀ a x, ((![v903] : Fin 1 → IVec S16 32) a x).toNat < S4608.size a)
theorem k0_idx103_inb : ∀ (v903 : IVec S16 32) (k0_hw109 : k0_chk109 v903), ∀ a x, ((![v903] : Fin 1 → IVec S16 32) a x).toNat < S4608.size a := fun v903 k0_hw109 => k0_hw109
def k0_off90 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_380 : BitVec 32 := 0#32
  ![v2.toNat, 0]
def k0_off91 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c6_i32_382 : BitVec 32 := 6#32
  let v908 : BitVec 32 := Scalar.addi v117 c6_i32_382
  let c8_i32_383 : BitVec 32 := 8#32
  let v909 : BitVec 32 := Scalar.addi v908 c8_i32_383
  let c1_i32_384 : BitVec 32 := 1#32
  let v910 : BitVec 32 := Scalar.subi v909 c1_i32_384
  let v911 : BitVec 32 := Scalar.addi v2 v910
  let c8191_i32_385 : BitVec 32 := 8191#32
  let v912 : BitVec 32 := Scalar.minsi v911 c8191_i32_385
  let c0_i32_386 : BitVec 32 := 0#32
  ![v912.toNat, 0]

def k0_chk110 (v918 : IVec S16 32) : Prop :=
  (∀ a x, ((![v918] : Fin 1 → IVec S16 32) a x).toNat < S256.size a)
theorem k0_idx104_inb : ∀ (v918 : IVec S16 32) (k0_hw110 : k0_chk110 v918), ∀ a x, ((![v918] : Fin 1 → IVec S16 32) a x).toNat < S256.size a := fun v918 k0_hw110 => k0_hw110
@[reducible] def k0_t16_loop (v925 : BitVec 32) : Scf.Loop 32 :=
  let c0_i32_391 : BitVec 32 := 0#32
  let v930 : BitVec 32 := Scalar.subi v925 c0_i32_391
  let c1_i32_392 : BitVec 32 := 1#32
  let v932 : BitVec 32 := Scalar.divsi v930 c1_i32_392
  let v933 : BitVec 32 := Scalar.muli v932 c1_i32_392
  let v934 : BitVec 32 := Scalar.addi c0_i32_391 v933
  let c1_i32_393 : BitVec 32 := 1#32
  ⟨c0_i32_391, v934, c1_i32_393⟩

def k0_off92 (v925 : BitVec 32) (k0_t16 : Fin (k0_t16_loop v925).trips) : Fin 1 → Nat :=
  let c0_i32_391 : BitVec 32 := 0#32
  let c1_i32_393 : BitVec 32 := 1#32
  let arg31 : BitVec 32 := Scf.iv c0_i32_391 c1_i32_393 k0_t16
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk112 (v1170 : IVec S16 32) : Prop :=
  (∀ a x, ((![v1170] : Fin 1 → IVec S16 32) a x).toNat < S16.size a)
theorem k0_idx105_inb : ∀ (v1170 : IVec S16 32) (k0_hw112 : k0_chk112 v1170), ∀ a x, ((![v1170] : Fin 1 → IVec S16 32) a x).toNat < S16.size a := fun v1170 k0_hw112 => k0_hw112
def k0_off93 (v925 : BitVec 32) (k0_t16 : Fin (k0_t16_loop v925).trips) : Fin 1 → Nat :=
  let c0_i32_391 : BitVec 32 := 0#32
  let c1_i32_393 : BitVec 32 := 1#32
  let arg31 : BitVec 32 := Scf.iv c0_i32_391 c1_i32_393 k0_t16
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk113 (v1185 : IVec S16 32) : Prop :=
  (∀ a x, ((![v1185] : Fin 1 → IVec S16 32) a x).toNat < S16.size a)
theorem k0_idx106_inb : ∀ (v1185 : IVec S16 32) (k0_hw113 : k0_chk113 v1185), ∀ a x, ((![v1185] : Fin 1 → IVec S16 32) a x).toNat < S16.size a := fun v1185 k0_hw113 => k0_hw113
def k0_off94 (v925 : BitVec 32) (k0_t16 : Fin (k0_t16_loop v925).trips) : Fin 1 → Nat :=
  let c0_i32_391 : BitVec 32 := 0#32
  let c1_i32_393 : BitVec 32 := 1#32
  let arg31 : BitVec 32 := Scf.iv c0_i32_391 c1_i32_393 k0_t16
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk114 (v1200 : IVec S16 32) : Prop :=
  (∀ a x, ((![v1200] : Fin 1 → IVec S16 32) a x).toNat < S16.size a)
theorem k0_idx107_inb : ∀ (v1200 : IVec S16 32) (k0_hw114 : k0_chk114 v1200), ∀ a x, ((![v1200] : Fin 1 → IVec S16 32) a x).toNat < S16.size a := fun v1200 k0_hw114 => k0_hw114
def k0_off95 (v925 : BitVec 32) (k0_t16 : Fin (k0_t16_loop v925).trips) : Fin 1 → Nat :=
  let c0_i32_391 : BitVec 32 := 0#32
  let c1_i32_393 : BitVec 32 := 1#32
  let arg31 : BitVec 32 := Scf.iv c0_i32_391 c1_i32_393 k0_t16
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk115 (v1215 : IVec S16 32) : Prop :=
  (∀ a x, ((![v1215] : Fin 1 → IVec S16 32) a x).toNat < S16.size a)
theorem k0_idx108_inb : ∀ (v1215 : IVec S16 32) (k0_hw115 : k0_chk115 v1215), ∀ a x, ((![v1215] : Fin 1 → IVec S16 32) a x).toNat < S16.size a := fun v1215 k0_hw115 => k0_hw115
@[reducible] def k0_t17_loop (v925 : BitVec 32) : Scf.Loop 32 :=
  let c0_i32_391 : BitVec 32 := 0#32
  let v930 : BitVec 32 := Scalar.subi v925 c0_i32_391
  let c1_i32_392 : BitVec 32 := 1#32
  let v932 : BitVec 32 := Scalar.divsi v930 c1_i32_392
  let v933 : BitVec 32 := Scalar.muli v932 c1_i32_392
  let v934 : BitVec 32 := Scalar.addi c0_i32_391 v933
  let v931 : BitVec 32 := Scalar.addi c0_i32_391 v930
  let c1_i32_394 : BitVec 32 := 1#32
  ⟨v934, v931, c1_i32_394⟩
def k0_off96 (v925 : BitVec 32) (k0_t17 : Fin (k0_t17_loop v925).trips) : Fin 1 → Nat :=
  let c0_i32_391 : BitVec 32 := 0#32
  let v930 : BitVec 32 := Scalar.subi v925 c0_i32_391
  let c1_i32_392 : BitVec 32 := 1#32
  let v932 : BitVec 32 := Scalar.divsi v930 c1_i32_392
  let v933 : BitVec 32 := Scalar.muli v932 c1_i32_392
  let v934 : BitVec 32 := Scalar.addi c0_i32_391 v933
  let c1_i32_394 : BitVec 32 := 1#32
  let arg31 : BitVec 32 := Scf.iv v934 c1_i32_394 k0_t17
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk116 (v1170 : IVec S16 32) : Prop :=
  (∀ a x, ((![v1170] : Fin 1 → IVec S16 32) a x).toNat < S16.size a)
theorem k0_idx109_inb : ∀ (v1170 : IVec S16 32) (k0_hw116 : k0_chk116 v1170), ∀ a x, ((![v1170] : Fin 1 → IVec S16 32) a x).toNat < S16.size a := fun v1170 k0_hw116 => k0_hw116
def k0_off97 (v925 : BitVec 32) (k0_t17 : Fin (k0_t17_loop v925).trips) : Fin 1 → Nat :=
  let c0_i32_391 : BitVec 32 := 0#32
  let v930 : BitVec 32 := Scalar.subi v925 c0_i32_391
  let c1_i32_392 : BitVec 32 := 1#32
  let v932 : BitVec 32 := Scalar.divsi v930 c1_i32_392
  let v933 : BitVec 32 := Scalar.muli v932 c1_i32_392
  let v934 : BitVec 32 := Scalar.addi c0_i32_391 v933
  let c1_i32_394 : BitVec 32 := 1#32
  let arg31 : BitVec 32 := Scf.iv v934 c1_i32_394 k0_t17
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk117 (v1185 : IVec S16 32) : Prop :=
  (∀ a x, ((![v1185] : Fin 1 → IVec S16 32) a x).toNat < S16.size a)
theorem k0_idx110_inb : ∀ (v1185 : IVec S16 32) (k0_hw117 : k0_chk117 v1185), ∀ a x, ((![v1185] : Fin 1 → IVec S16 32) a x).toNat < S16.size a := fun v1185 k0_hw117 => k0_hw117
def k0_off98 (v925 : BitVec 32) (k0_t17 : Fin (k0_t17_loop v925).trips) : Fin 1 → Nat :=
  let c0_i32_391 : BitVec 32 := 0#32
  let v930 : BitVec 32 := Scalar.subi v925 c0_i32_391
  let c1_i32_392 : BitVec 32 := 1#32
  let v932 : BitVec 32 := Scalar.divsi v930 c1_i32_392
  let v933 : BitVec 32 := Scalar.muli v932 c1_i32_392
  let v934 : BitVec 32 := Scalar.addi c0_i32_391 v933
  let c1_i32_394 : BitVec 32 := 1#32
  let arg31 : BitVec 32 := Scf.iv v934 c1_i32_394 k0_t17
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk118 (v1200 : IVec S16 32) : Prop :=
  (∀ a x, ((![v1200] : Fin 1 → IVec S16 32) a x).toNat < S16.size a)
theorem k0_idx111_inb : ∀ (v1200 : IVec S16 32) (k0_hw118 : k0_chk118 v1200), ∀ a x, ((![v1200] : Fin 1 → IVec S16 32) a x).toNat < S16.size a := fun v1200 k0_hw118 => k0_hw118
def k0_off99 (v925 : BitVec 32) (k0_t17 : Fin (k0_t17_loop v925).trips) : Fin 1 → Nat :=
  let c0_i32_391 : BitVec 32 := 0#32
  let v930 : BitVec 32 := Scalar.subi v925 c0_i32_391
  let c1_i32_392 : BitVec 32 := 1#32
  let v932 : BitVec 32 := Scalar.divsi v930 c1_i32_392
  let v933 : BitVec 32 := Scalar.muli v932 c1_i32_392
  let v934 : BitVec 32 := Scalar.addi c0_i32_391 v933
  let c1_i32_394 : BitVec 32 := 1#32
  let arg31 : BitVec 32 := Scf.iv v934 c1_i32_394 k0_t17
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk111 (v925 : BitVec 32) : Prop :=
  ((k0_t16_loop v925).OK) ∧
  (∀ k0_t16 : Fin (k0_t16_loop v925).trips, ∀ a, (k0_off92 v925 k0_t16) a + S16.size a ≤ S4096.size a) ∧
  (∀ k0_t16 : Fin (k0_t16_loop v925).trips, ∀ a, (k0_off93 v925 k0_t16) a + S16.size a ≤ S4096.size a) ∧
  (∀ k0_t16 : Fin (k0_t16_loop v925).trips, ∀ a, (k0_off94 v925 k0_t16) a + S16.size a ≤ S4096.size a) ∧
  (∀ k0_t16 : Fin (k0_t16_loop v925).trips, ∀ a, (k0_off95 v925 k0_t16) a + S16.size a ≤ S4096.size a) ∧
  ((k0_t17_loop v925).OK) ∧
  (∀ k0_t17 : Fin (k0_t17_loop v925).trips, ∀ a, (k0_off96 v925 k0_t17) a + S16.size a ≤ S4096.size a) ∧
  (∀ k0_t17 : Fin (k0_t17_loop v925).trips, ∀ a, (k0_off97 v925 k0_t17) a + S16.size a ≤ S4096.size a) ∧
  (∀ k0_t17 : Fin (k0_t17_loop v925).trips, ∀ a, (k0_off98 v925 k0_t17) a + S16.size a ≤ S4096.size a) ∧
  (∀ k0_t17 : Fin (k0_t17_loop v925).trips, ∀ a, (k0_off99 v925 k0_t17) a + S16.size a ≤ S4096.size a)
theorem k0_t16_ok : ∀ (v925 : BitVec 32) (k0_hw111 : k0_chk111 v925), (k0_t16_loop v925).OK := fun v925 k0_hw111 => k0_hw111.1
theorem k0_off92_inb : ∀ (v925 : BitVec 32) (k0_hw111 : k0_chk111 v925) (k0_t16 : Fin (k0_t16_loop v925).trips), ∀ a, (k0_off92 v925 k0_t16) a + S16.size a ≤ S4096.size a := fun v925 k0_hw111 k0_t16 => k0_hw111.2.1 k0_t16
theorem k0_off93_inb : ∀ (v925 : BitVec 32) (k0_hw111 : k0_chk111 v925) (k0_t16 : Fin (k0_t16_loop v925).trips), ∀ a, (k0_off93 v925 k0_t16) a + S16.size a ≤ S4096.size a := fun v925 k0_hw111 k0_t16 => k0_hw111.2.2.1 k0_t16
theorem k0_off94_inb : ∀ (v925 : BitVec 32) (k0_hw111 : k0_chk111 v925) (k0_t16 : Fin (k0_t16_loop v925).trips), ∀ a, (k0_off94 v925 k0_t16) a + S16.size a ≤ S4096.size a := fun v925 k0_hw111 k0_t16 => k0_hw111.2.2.2.1 k0_t16
theorem k0_off95_inb : ∀ (v925 : BitVec 32) (k0_hw111 : k0_chk111 v925) (k0_t16 : Fin (k0_t16_loop v925).trips), ∀ a, (k0_off95 v925 k0_t16) a + S16.size a ≤ S4096.size a := fun v925 k0_hw111 k0_t16 => k0_hw111.2.2.2.2.1 k0_t16
theorem k0_t17_ok : ∀ (v925 : BitVec 32) (k0_hw111 : k0_chk111 v925), (k0_t17_loop v925).OK := fun v925 k0_hw111 => k0_hw111.2.2.2.2.2.1
theorem k0_off96_inb : ∀ (v925 : BitVec 32) (k0_hw111 : k0_chk111 v925) (k0_t17 : Fin (k0_t17_loop v925).trips), ∀ a, (k0_off96 v925 k0_t17) a + S16.size a ≤ S4096.size a := fun v925 k0_hw111 k0_t17 => k0_hw111.2.2.2.2.2.2.1 k0_t17
theorem k0_off97_inb : ∀ (v925 : BitVec 32) (k0_hw111 : k0_chk111 v925) (k0_t17 : Fin (k0_t17_loop v925).trips), ∀ a, (k0_off97 v925 k0_t17) a + S16.size a ≤ S4096.size a := fun v925 k0_hw111 k0_t17 => k0_hw111.2.2.2.2.2.2.2.1 k0_t17
theorem k0_off98_inb : ∀ (v925 : BitVec 32) (k0_hw111 : k0_chk111 v925) (k0_t17 : Fin (k0_t17_loop v925).trips), ∀ a, (k0_off98 v925 k0_t17) a + S16.size a ≤ S4096.size a := fun v925 k0_hw111 k0_t17 => k0_hw111.2.2.2.2.2.2.2.2.1 k0_t17
theorem k0_off99_inb : ∀ (v925 : BitVec 32) (k0_hw111 : k0_chk111 v925) (k0_t17 : Fin (k0_t17_loop v925).trips), ∀ a, (k0_off99 v925 k0_t17) a + S16.size a ≤ S4096.size a := fun v925 k0_hw111 k0_t17 => k0_hw111.2.2.2.2.2.2.2.2.2 k0_t17

def k0_chk119 (v1215 : IVec S16 32) : Prop :=
  (∀ a x, ((![v1215] : Fin 1 → IVec S16 32) a x).toNat < S16.size a)
theorem k0_idx112_inb : ∀ (v1215 : IVec S16 32) (k0_hw119 : k0_chk119 v1215), ∀ a x, ((![v1215] : Fin 1 → IVec S16 32) a x).toNat < S16.size a := fun v1215 k0_hw119 => k0_hw119

def k0_chk120 (v968 : IVec S16 32) : Prop :=
  (∀ a x, ((![v968] : Fin 1 → IVec S16 32) a x).toNat < S4608.size a)
theorem k0_idx113_inb : ∀ (v968 : IVec S16 32) (k0_hw120 : k0_chk120 v968), ∀ a x, ((![v968] : Fin 1 → IVec S16 32) a x).toNat < S4608.size a := fun v968 k0_hw120 => k0_hw120
def k0_off100 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c6_i32_388 : BitVec 32 := 6#32
  let v917 : BitVec 32 := Scalar.addi v117 c6_i32_388
  let c64_i32_406 : BitVec 32 := 64#32
  let v969 : BitVec 32 := Scalar.muli v917 c64_i32_406
  let c0_i32_407 : BitVec 32 := 0#32
  let v970 : BitVec 32 := Scalar.addi v969 c0_i32_407
  let v971 : Index := Scalar.indexCast v970
  ![v971.toNat]

def k0_chk121 (v977 : IVec S16 32) : Prop :=
  (∀ a x, ((![v977] : Fin 1 → IVec S16 32) a x).toNat < S4608.size a)
theorem k0_idx114_inb : ∀ (v977 : IVec S16 32) (k0_hw121 : k0_chk121 v977), ∀ a x, ((![v977] : Fin 1 → IVec S16 32) a x).toNat < S4608.size a := fun v977 k0_hw121 => k0_hw121

def k0_chk122 (v987 : IVec S16 32) : Prop :=
  (∀ a x, ((![v987] : Fin 1 → IVec S16 32) a x).toNat < S4608.size a)
theorem k0_idx115_inb : ∀ (v987 : IVec S16 32) (k0_hw122 : k0_chk122 v987), ∀ a x, ((![v987] : Fin 1 → IVec S16 32) a x).toNat < S4608.size a := fun v987 k0_hw122 => k0_hw122
def k0_off101 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c6_i32_388 : BitVec 32 := 6#32
  let v917 : BitVec 32 := Scalar.addi v117 c6_i32_388
  let c64_i32_414 : BitVec 32 := 64#32
  let v988 : BitVec 32 := Scalar.muli v917 c64_i32_414
  let c16_i32_415 : BitVec 32 := 16#32
  let v989 : BitVec 32 := Scalar.addi v988 c16_i32_415
  let v990 : Index := Scalar.indexCast v989
  ![v990.toNat]

def k0_chk123 (v996 : IVec S16 32) : Prop :=
  (∀ a x, ((![v996] : Fin 1 → IVec S16 32) a x).toNat < S4608.size a)
theorem k0_idx116_inb : ∀ (v996 : IVec S16 32) (k0_hw123 : k0_chk123 v996), ∀ a x, ((![v996] : Fin 1 → IVec S16 32) a x).toNat < S4608.size a := fun v996 k0_hw123 => k0_hw123

def k0_chk124 (v1006 : IVec S16 32) : Prop :=
  (∀ a x, ((![v1006] : Fin 1 → IVec S16 32) a x).toNat < S4608.size a)
theorem k0_idx117_inb : ∀ (v1006 : IVec S16 32) (k0_hw124 : k0_chk124 v1006), ∀ a x, ((![v1006] : Fin 1 → IVec S16 32) a x).toNat < S4608.size a := fun v1006 k0_hw124 => k0_hw124
def k0_off102 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c6_i32_388 : BitVec 32 := 6#32
  let v917 : BitVec 32 := Scalar.addi v117 c6_i32_388
  let c64_i32_422 : BitVec 32 := 64#32
  let v1007 : BitVec 32 := Scalar.muli v917 c64_i32_422
  let c32_i32_423 : BitVec 32 := 32#32
  let v1008 : BitVec 32 := Scalar.addi v1007 c32_i32_423
  let v1009 : Index := Scalar.indexCast v1008
  ![v1009.toNat]

def k0_chk125 (v1015 : IVec S16 32) : Prop :=
  (∀ a x, ((![v1015] : Fin 1 → IVec S16 32) a x).toNat < S4608.size a)
theorem k0_idx118_inb : ∀ (v1015 : IVec S16 32) (k0_hw125 : k0_chk125 v1015), ∀ a x, ((![v1015] : Fin 1 → IVec S16 32) a x).toNat < S4608.size a := fun v1015 k0_hw125 => k0_hw125

def k0_chk126 (v1025 : IVec S16 32) : Prop :=
  (∀ a x, ((![v1025] : Fin 1 → IVec S16 32) a x).toNat < S4608.size a)
theorem k0_idx119_inb : ∀ (v1025 : IVec S16 32) (k0_hw126 : k0_chk126 v1025), ∀ a x, ((![v1025] : Fin 1 → IVec S16 32) a x).toNat < S4608.size a := fun v1025 k0_hw126 => k0_hw126
def k0_off103 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c6_i32_388 : BitVec 32 := 6#32
  let v917 : BitVec 32 := Scalar.addi v117 c6_i32_388
  let c64_i32_430 : BitVec 32 := 64#32
  let v1026 : BitVec 32 := Scalar.muli v917 c64_i32_430
  let c48_i32_431 : BitVec 32 := 48#32
  let v1027 : BitVec 32 := Scalar.addi v1026 c48_i32_431
  let v1028 : Index := Scalar.indexCast v1027
  ![v1028.toNat]

def k0_chk127 (v1034 : IVec S16 32) : Prop :=
  (∀ a x, ((![v1034] : Fin 1 → IVec S16 32) a x).toNat < S4608.size a)
theorem k0_idx120_inb : ∀ (v1034 : IVec S16 32) (k0_hw127 : k0_chk127 v1034), ∀ a x, ((![v1034] : Fin 1 → IVec S16 32) a x).toNat < S4608.size a := fun v1034 k0_hw127 => k0_hw127
def k0_off104 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_434 : BitVec 32 := 0#32
  ![v2.toNat, 0]
def k0_off105 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c7_i32 : BitVec 32 := 7#32
  let v1039 : BitVec 32 := Scalar.addi v117 c7_i32
  let c8_i32_436 : BitVec 32 := 8#32
  let v1040 : BitVec 32 := Scalar.addi v1039 c8_i32_436
  let c1_i32_437 : BitVec 32 := 1#32
  let v1041 : BitVec 32 := Scalar.subi v1040 c1_i32_437
  let v1042 : BitVec 32 := Scalar.addi v2 v1041
  let c8191_i32_438 : BitVec 32 := 8191#32
  let v1043 : BitVec 32 := Scalar.minsi v1042 c8191_i32_438
  let c0_i32_439 : BitVec 32 := 0#32
  ![v1043.toNat, 0]

def k0_chk128 (v1049 : IVec S16 32) : Prop :=
  (∀ a x, ((![v1049] : Fin 1 → IVec S16 32) a x).toNat < S256.size a)
theorem k0_idx121_inb : ∀ (v1049 : IVec S16 32) (k0_hw128 : k0_chk128 v1049), ∀ a x, ((![v1049] : Fin 1 → IVec S16 32) a x).toNat < S256.size a := fun v1049 k0_hw128 => k0_hw128
@[reducible] def k0_t18_loop (v1056 : BitVec 32) : Scf.Loop 32 :=
  let c0_i32_444 : BitVec 32 := 0#32
  let v1061 : BitVec 32 := Scalar.subi v1056 c0_i32_444
  let c1_i32_445 : BitVec 32 := 1#32
  let v1063 : BitVec 32 := Scalar.divsi v1061 c1_i32_445
  let v1064 : BitVec 32 := Scalar.muli v1063 c1_i32_445
  let v1065 : BitVec 32 := Scalar.addi c0_i32_444 v1064
  let c1_i32_446 : BitVec 32 := 1#32
  ⟨c0_i32_444, v1065, c1_i32_446⟩

def k0_off106 (v1056 : BitVec 32) (k0_t18 : Fin (k0_t18_loop v1056).trips) : Fin 1 → Nat :=
  let c0_i32_444 : BitVec 32 := 0#32
  let c1_i32_446 : BitVec 32 := 1#32
  let arg31 : BitVec 32 := Scf.iv c0_i32_444 c1_i32_446 k0_t18
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk130 (v1170 : IVec S16 32) : Prop :=
  (∀ a x, ((![v1170] : Fin 1 → IVec S16 32) a x).toNat < S16.size a)
theorem k0_idx122_inb : ∀ (v1170 : IVec S16 32) (k0_hw130 : k0_chk130 v1170), ∀ a x, ((![v1170] : Fin 1 → IVec S16 32) a x).toNat < S16.size a := fun v1170 k0_hw130 => k0_hw130
def k0_off107 (v1056 : BitVec 32) (k0_t18 : Fin (k0_t18_loop v1056).trips) : Fin 1 → Nat :=
  let c0_i32_444 : BitVec 32 := 0#32
  let c1_i32_446 : BitVec 32 := 1#32
  let arg31 : BitVec 32 := Scf.iv c0_i32_444 c1_i32_446 k0_t18
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk131 (v1185 : IVec S16 32) : Prop :=
  (∀ a x, ((![v1185] : Fin 1 → IVec S16 32) a x).toNat < S16.size a)
theorem k0_idx123_inb : ∀ (v1185 : IVec S16 32) (k0_hw131 : k0_chk131 v1185), ∀ a x, ((![v1185] : Fin 1 → IVec S16 32) a x).toNat < S16.size a := fun v1185 k0_hw131 => k0_hw131
def k0_off108 (v1056 : BitVec 32) (k0_t18 : Fin (k0_t18_loop v1056).trips) : Fin 1 → Nat :=
  let c0_i32_444 : BitVec 32 := 0#32
  let c1_i32_446 : BitVec 32 := 1#32
  let arg31 : BitVec 32 := Scf.iv c0_i32_444 c1_i32_446 k0_t18
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk132 (v1200 : IVec S16 32) : Prop :=
  (∀ a x, ((![v1200] : Fin 1 → IVec S16 32) a x).toNat < S16.size a)
theorem k0_idx124_inb : ∀ (v1200 : IVec S16 32) (k0_hw132 : k0_chk132 v1200), ∀ a x, ((![v1200] : Fin 1 → IVec S16 32) a x).toNat < S16.size a := fun v1200 k0_hw132 => k0_hw132
def k0_off109 (v1056 : BitVec 32) (k0_t18 : Fin (k0_t18_loop v1056).trips) : Fin 1 → Nat :=
  let c0_i32_444 : BitVec 32 := 0#32
  let c1_i32_446 : BitVec 32 := 1#32
  let arg31 : BitVec 32 := Scf.iv c0_i32_444 c1_i32_446 k0_t18
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk133 (v1215 : IVec S16 32) : Prop :=
  (∀ a x, ((![v1215] : Fin 1 → IVec S16 32) a x).toNat < S16.size a)
theorem k0_idx125_inb : ∀ (v1215 : IVec S16 32) (k0_hw133 : k0_chk133 v1215), ∀ a x, ((![v1215] : Fin 1 → IVec S16 32) a x).toNat < S16.size a := fun v1215 k0_hw133 => k0_hw133
@[reducible] def k0_t19_loop (v1056 : BitVec 32) : Scf.Loop 32 :=
  let c0_i32_444 : BitVec 32 := 0#32
  let v1061 : BitVec 32 := Scalar.subi v1056 c0_i32_444
  let c1_i32_445 : BitVec 32 := 1#32
  let v1063 : BitVec 32 := Scalar.divsi v1061 c1_i32_445
  let v1064 : BitVec 32 := Scalar.muli v1063 c1_i32_445
  let v1065 : BitVec 32 := Scalar.addi c0_i32_444 v1064
  let v1062 : BitVec 32 := Scalar.addi c0_i32_444 v1061
  let c1_i32_447 : BitVec 32 := 1#32
  ⟨v1065, v1062, c1_i32_447⟩
def k0_off110 (v1056 : BitVec 32) (k0_t19 : Fin (k0_t19_loop v1056).trips) : Fin 1 → Nat :=
  let c0_i32_444 : BitVec 32 := 0#32
  let v1061 : BitVec 32 := Scalar.subi v1056 c0_i32_444
  let c1_i32_445 : BitVec 32 := 1#32
  let v1063 : BitVec 32 := Scalar.divsi v1061 c1_i32_445
  let v1064 : BitVec 32 := Scalar.muli v1063 c1_i32_445
  let v1065 : BitVec 32 := Scalar.addi c0_i32_444 v1064
  let c1_i32_447 : BitVec 32 := 1#32
  let arg31 : BitVec 32 := Scf.iv v1065 c1_i32_447 k0_t19
  let c64_i32_487 : BitVec 32 := 64#32
  let v1167 : BitVec 32 := Scalar.muli arg31 c64_i32_487
  let c0_i32_488 : BitVec 32 := 0#32
  let v1168 : BitVec 32 := Scalar.addi v1167 c0_i32_488
  let v1169 : Index := Scalar.indexCast v1168
  ![v1169.toNat]

def k0_chk134 (v1170 : IVec S16 32) : Prop :=
  (∀ a x, ((![v1170] : Fin 1 → IVec S16 32) a x).toNat < S16.size a)
theorem k0_idx126_inb : ∀ (v1170 : IVec S16 32) (k0_hw134 : k0_chk134 v1170), ∀ a x, ((![v1170] : Fin 1 → IVec S16 32) a x).toNat < S16.size a := fun v1170 k0_hw134 => k0_hw134
def k0_off111 (v1056 : BitVec 32) (k0_t19 : Fin (k0_t19_loop v1056).trips) : Fin 1 → Nat :=
  let c0_i32_444 : BitVec 32 := 0#32
  let v1061 : BitVec 32 := Scalar.subi v1056 c0_i32_444
  let c1_i32_445 : BitVec 32 := 1#32
  let v1063 : BitVec 32 := Scalar.divsi v1061 c1_i32_445
  let v1064 : BitVec 32 := Scalar.muli v1063 c1_i32_445
  let v1065 : BitVec 32 := Scalar.addi c0_i32_444 v1064
  let c1_i32_447 : BitVec 32 := 1#32
  let arg31 : BitVec 32 := Scf.iv v1065 c1_i32_447 k0_t19
  let c64_i32_491 : BitVec 32 := 64#32
  let v1182 : BitVec 32 := Scalar.muli arg31 c64_i32_491
  let c16_i32_492 : BitVec 32 := 16#32
  let v1183 : BitVec 32 := Scalar.addi v1182 c16_i32_492
  let v1184 : Index := Scalar.indexCast v1183
  ![v1184.toNat]

def k0_chk135 (v1185 : IVec S16 32) : Prop :=
  (∀ a x, ((![v1185] : Fin 1 → IVec S16 32) a x).toNat < S16.size a)
theorem k0_idx127_inb : ∀ (v1185 : IVec S16 32) (k0_hw135 : k0_chk135 v1185), ∀ a x, ((![v1185] : Fin 1 → IVec S16 32) a x).toNat < S16.size a := fun v1185 k0_hw135 => k0_hw135
def k0_off112 (v1056 : BitVec 32) (k0_t19 : Fin (k0_t19_loop v1056).trips) : Fin 1 → Nat :=
  let c0_i32_444 : BitVec 32 := 0#32
  let v1061 : BitVec 32 := Scalar.subi v1056 c0_i32_444
  let c1_i32_445 : BitVec 32 := 1#32
  let v1063 : BitVec 32 := Scalar.divsi v1061 c1_i32_445
  let v1064 : BitVec 32 := Scalar.muli v1063 c1_i32_445
  let v1065 : BitVec 32 := Scalar.addi c0_i32_444 v1064
  let c1_i32_447 : BitVec 32 := 1#32
  let arg31 : BitVec 32 := Scf.iv v1065 c1_i32_447 k0_t19
  let c64_i32_495 : BitVec 32 := 64#32
  let v1197 : BitVec 32 := Scalar.muli arg31 c64_i32_495
  let c32_i32_496 : BitVec 32 := 32#32
  let v1198 : BitVec 32 := Scalar.addi v1197 c32_i32_496
  let v1199 : Index := Scalar.indexCast v1198
  ![v1199.toNat]

def k0_chk136 (v1200 : IVec S16 32) : Prop :=
  (∀ a x, ((![v1200] : Fin 1 → IVec S16 32) a x).toNat < S16.size a)
theorem k0_idx128_inb : ∀ (v1200 : IVec S16 32) (k0_hw136 : k0_chk136 v1200), ∀ a x, ((![v1200] : Fin 1 → IVec S16 32) a x).toNat < S16.size a := fun v1200 k0_hw136 => k0_hw136
def k0_off113 (v1056 : BitVec 32) (k0_t19 : Fin (k0_t19_loop v1056).trips) : Fin 1 → Nat :=
  let c0_i32_444 : BitVec 32 := 0#32
  let v1061 : BitVec 32 := Scalar.subi v1056 c0_i32_444
  let c1_i32_445 : BitVec 32 := 1#32
  let v1063 : BitVec 32 := Scalar.divsi v1061 c1_i32_445
  let v1064 : BitVec 32 := Scalar.muli v1063 c1_i32_445
  let v1065 : BitVec 32 := Scalar.addi c0_i32_444 v1064
  let c1_i32_447 : BitVec 32 := 1#32
  let arg31 : BitVec 32 := Scf.iv v1065 c1_i32_447 k0_t19
  let c64_i32_499 : BitVec 32 := 64#32
  let v1212 : BitVec 32 := Scalar.muli arg31 c64_i32_499
  let c48_i32_500 : BitVec 32 := 48#32
  let v1213 : BitVec 32 := Scalar.addi v1212 c48_i32_500
  let v1214 : Index := Scalar.indexCast v1213
  ![v1214.toNat]

def k0_chk129 (v1056 : BitVec 32) : Prop :=
  ((k0_t18_loop v1056).OK) ∧
  (∀ k0_t18 : Fin (k0_t18_loop v1056).trips, ∀ a, (k0_off106 v1056 k0_t18) a + S16.size a ≤ S4096.size a) ∧
  (∀ k0_t18 : Fin (k0_t18_loop v1056).trips, ∀ a, (k0_off107 v1056 k0_t18) a + S16.size a ≤ S4096.size a) ∧
  (∀ k0_t18 : Fin (k0_t18_loop v1056).trips, ∀ a, (k0_off108 v1056 k0_t18) a + S16.size a ≤ S4096.size a) ∧
  (∀ k0_t18 : Fin (k0_t18_loop v1056).trips, ∀ a, (k0_off109 v1056 k0_t18) a + S16.size a ≤ S4096.size a) ∧
  ((k0_t19_loop v1056).OK) ∧
  (∀ k0_t19 : Fin (k0_t19_loop v1056).trips, ∀ a, (k0_off110 v1056 k0_t19) a + S16.size a ≤ S4096.size a) ∧
  (∀ k0_t19 : Fin (k0_t19_loop v1056).trips, ∀ a, (k0_off111 v1056 k0_t19) a + S16.size a ≤ S4096.size a) ∧
  (∀ k0_t19 : Fin (k0_t19_loop v1056).trips, ∀ a, (k0_off112 v1056 k0_t19) a + S16.size a ≤ S4096.size a) ∧
  (∀ k0_t19 : Fin (k0_t19_loop v1056).trips, ∀ a, (k0_off113 v1056 k0_t19) a + S16.size a ≤ S4096.size a)
theorem k0_t18_ok : ∀ (v1056 : BitVec 32) (k0_hw129 : k0_chk129 v1056), (k0_t18_loop v1056).OK := fun v1056 k0_hw129 => k0_hw129.1
theorem k0_off106_inb : ∀ (v1056 : BitVec 32) (k0_hw129 : k0_chk129 v1056) (k0_t18 : Fin (k0_t18_loop v1056).trips), ∀ a, (k0_off106 v1056 k0_t18) a + S16.size a ≤ S4096.size a := fun v1056 k0_hw129 k0_t18 => k0_hw129.2.1 k0_t18
theorem k0_off107_inb : ∀ (v1056 : BitVec 32) (k0_hw129 : k0_chk129 v1056) (k0_t18 : Fin (k0_t18_loop v1056).trips), ∀ a, (k0_off107 v1056 k0_t18) a + S16.size a ≤ S4096.size a := fun v1056 k0_hw129 k0_t18 => k0_hw129.2.2.1 k0_t18
theorem k0_off108_inb : ∀ (v1056 : BitVec 32) (k0_hw129 : k0_chk129 v1056) (k0_t18 : Fin (k0_t18_loop v1056).trips), ∀ a, (k0_off108 v1056 k0_t18) a + S16.size a ≤ S4096.size a := fun v1056 k0_hw129 k0_t18 => k0_hw129.2.2.2.1 k0_t18
theorem k0_off109_inb : ∀ (v1056 : BitVec 32) (k0_hw129 : k0_chk129 v1056) (k0_t18 : Fin (k0_t18_loop v1056).trips), ∀ a, (k0_off109 v1056 k0_t18) a + S16.size a ≤ S4096.size a := fun v1056 k0_hw129 k0_t18 => k0_hw129.2.2.2.2.1 k0_t18
theorem k0_t19_ok : ∀ (v1056 : BitVec 32) (k0_hw129 : k0_chk129 v1056), (k0_t19_loop v1056).OK := fun v1056 k0_hw129 => k0_hw129.2.2.2.2.2.1
theorem k0_off110_inb : ∀ (v1056 : BitVec 32) (k0_hw129 : k0_chk129 v1056) (k0_t19 : Fin (k0_t19_loop v1056).trips), ∀ a, (k0_off110 v1056 k0_t19) a + S16.size a ≤ S4096.size a := fun v1056 k0_hw129 k0_t19 => k0_hw129.2.2.2.2.2.2.1 k0_t19
theorem k0_off111_inb : ∀ (v1056 : BitVec 32) (k0_hw129 : k0_chk129 v1056) (k0_t19 : Fin (k0_t19_loop v1056).trips), ∀ a, (k0_off111 v1056 k0_t19) a + S16.size a ≤ S4096.size a := fun v1056 k0_hw129 k0_t19 => k0_hw129.2.2.2.2.2.2.2.1 k0_t19
theorem k0_off112_inb : ∀ (v1056 : BitVec 32) (k0_hw129 : k0_chk129 v1056) (k0_t19 : Fin (k0_t19_loop v1056).trips), ∀ a, (k0_off112 v1056 k0_t19) a + S16.size a ≤ S4096.size a := fun v1056 k0_hw129 k0_t19 => k0_hw129.2.2.2.2.2.2.2.2.1 k0_t19
theorem k0_off113_inb : ∀ (v1056 : BitVec 32) (k0_hw129 : k0_chk129 v1056) (k0_t19 : Fin (k0_t19_loop v1056).trips), ∀ a, (k0_off113 v1056 k0_t19) a + S16.size a ≤ S4096.size a := fun v1056 k0_hw129 k0_t19 => k0_hw129.2.2.2.2.2.2.2.2.2 k0_t19

def k0_chk137 (v1215 : IVec S16 32) : Prop :=
  (∀ a x, ((![v1215] : Fin 1 → IVec S16 32) a x).toNat < S16.size a)
theorem k0_idx129_inb : ∀ (v1215 : IVec S16 32) (k0_hw137 : k0_chk137 v1215), ∀ a x, ((![v1215] : Fin 1 → IVec S16 32) a x).toNat < S16.size a := fun v1215 k0_hw137 => k0_hw137

def k0_chk138 (v1099 : IVec S16 32) : Prop :=
  (∀ a x, ((![v1099] : Fin 1 → IVec S16 32) a x).toNat < S4608.size a)
theorem k0_idx130_inb : ∀ (v1099 : IVec S16 32) (k0_hw138 : k0_chk138 v1099), ∀ a x, ((![v1099] : Fin 1 → IVec S16 32) a x).toNat < S4608.size a := fun v1099 k0_hw138 => k0_hw138
def k0_off114 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c7_i32_441 : BitVec 32 := 7#32
  let v1048 : BitVec 32 := Scalar.addi v117 c7_i32_441
  let c64_i32_459 : BitVec 32 := 64#32
  let v1100 : BitVec 32 := Scalar.muli v1048 c64_i32_459
  let c0_i32_460 : BitVec 32 := 0#32
  let v1101 : BitVec 32 := Scalar.addi v1100 c0_i32_460
  let v1102 : Index := Scalar.indexCast v1101
  ![v1102.toNat]

def k0_chk139 (v1108 : IVec S16 32) : Prop :=
  (∀ a x, ((![v1108] : Fin 1 → IVec S16 32) a x).toNat < S4608.size a)
theorem k0_idx131_inb : ∀ (v1108 : IVec S16 32) (k0_hw139 : k0_chk139 v1108), ∀ a x, ((![v1108] : Fin 1 → IVec S16 32) a x).toNat < S4608.size a := fun v1108 k0_hw139 => k0_hw139

def k0_chk140 (v1118 : IVec S16 32) : Prop :=
  (∀ a x, ((![v1118] : Fin 1 → IVec S16 32) a x).toNat < S4608.size a)
theorem k0_idx132_inb : ∀ (v1118 : IVec S16 32) (k0_hw140 : k0_chk140 v1118), ∀ a x, ((![v1118] : Fin 1 → IVec S16 32) a x).toNat < S4608.size a := fun v1118 k0_hw140 => k0_hw140
def k0_off115 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c7_i32_441 : BitVec 32 := 7#32
  let v1048 : BitVec 32 := Scalar.addi v117 c7_i32_441
  let c64_i32_467 : BitVec 32 := 64#32
  let v1119 : BitVec 32 := Scalar.muli v1048 c64_i32_467
  let c16_i32_468 : BitVec 32 := 16#32
  let v1120 : BitVec 32 := Scalar.addi v1119 c16_i32_468
  let v1121 : Index := Scalar.indexCast v1120
  ![v1121.toNat]

def k0_chk141 (v1127 : IVec S16 32) : Prop :=
  (∀ a x, ((![v1127] : Fin 1 → IVec S16 32) a x).toNat < S4608.size a)
theorem k0_idx133_inb : ∀ (v1127 : IVec S16 32) (k0_hw141 : k0_chk141 v1127), ∀ a x, ((![v1127] : Fin 1 → IVec S16 32) a x).toNat < S4608.size a := fun v1127 k0_hw141 => k0_hw141

def k0_chk142 (v1137 : IVec S16 32) : Prop :=
  (∀ a x, ((![v1137] : Fin 1 → IVec S16 32) a x).toNat < S4608.size a)
theorem k0_idx134_inb : ∀ (v1137 : IVec S16 32) (k0_hw142 : k0_chk142 v1137), ∀ a x, ((![v1137] : Fin 1 → IVec S16 32) a x).toNat < S4608.size a := fun v1137 k0_hw142 => k0_hw142
def k0_off116 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c7_i32_441 : BitVec 32 := 7#32
  let v1048 : BitVec 32 := Scalar.addi v117 c7_i32_441
  let c64_i32_475 : BitVec 32 := 64#32
  let v1138 : BitVec 32 := Scalar.muli v1048 c64_i32_475
  let c32_i32_476 : BitVec 32 := 32#32
  let v1139 : BitVec 32 := Scalar.addi v1138 c32_i32_476
  let v1140 : Index := Scalar.indexCast v1139
  ![v1140.toNat]

def k0_chk143 (v1146 : IVec S16 32) : Prop :=
  (∀ a x, ((![v1146] : Fin 1 → IVec S16 32) a x).toNat < S4608.size a)
theorem k0_idx135_inb : ∀ (v1146 : IVec S16 32) (k0_hw143 : k0_chk143 v1146), ∀ a x, ((![v1146] : Fin 1 → IVec S16 32) a x).toNat < S4608.size a := fun v1146 k0_hw143 => k0_hw143

def k0_chk144 (v1156 : IVec S16 32) : Prop :=
  (∀ a x, ((![v1156] : Fin 1 → IVec S16 32) a x).toNat < S4608.size a)
theorem k0_idx136_inb : ∀ (v1156 : IVec S16 32) (k0_hw144 : k0_chk144 v1156), ∀ a x, ((![v1156] : Fin 1 → IVec S16 32) a x).toNat < S4608.size a := fun v1156 k0_hw144 => k0_hw144
def k0_off117 (k0_t3 : Fin k0_t3_loop.trips) : Fin 1 → Nat :=
  let c0_i32_43 : BitVec 32 := 0#32
  let c1_i32_45 : BitVec 32 := 1#32
  let arg26 : BitVec 32 := Scf.iv c0_i32_43 c1_i32_45 k0_t3
  let c8_i32_61 : BitVec 32 := 8#32
  let v117 : BitVec 32 := Scalar.muli arg26 c8_i32_61
  let c7_i32_441 : BitVec 32 := 7#32
  let v1048 : BitVec 32 := Scalar.addi v117 c7_i32_441
  let c64_i32_483 : BitVec 32 := 64#32
  let v1157 : BitVec 32 := Scalar.muli v1048 c64_i32_483
  let c48_i32_484 : BitVec 32 := 48#32
  let v1158 : BitVec 32 := Scalar.addi v1157 c48_i32_484
  let v1159 : Index := Scalar.indexCast v1158
  ![v1159.toNat]

def k0_chk145 (v1165 : IVec S16 32) : Prop :=
  (∀ a x, ((![v1165] : Fin 1 → IVec S16 32) a x).toNat < S4608.size a)
theorem k0_idx137_inb : ∀ (v1165 : IVec S16 32) (k0_hw145 : k0_chk145 v1165), ∀ a x, ((![v1165] : Fin 1 → IVec S16 32) a x).toNat < S4608.size a := fun v1165 k0_hw145 => k0_hw145
def k0_off118 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_47 : BitVec 32 := 0#32
  ![v2.toNat, 0]
def k0_off119 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_61_r2 : BitVec 32 := 0#32
  ![v1.toNat, 0]
abbrev grid1 : Pipeline.Grid := .none

abbrev stage1_0 : Fin 1 → Memref sig .tc .vmem S32x288x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S65 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S190 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S65 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S5 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S190 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S4 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x64 : Shape := ⟨2, ![8192, 64]⟩
abbrev S8192x64x64 : Shape := ⟨3, ![8192, 64, 64]⟩
abbrev S8192 : Shape := ⟨1, ![8192]⟩
abbrev S65 : Shape := ⟨1, ![65]⟩
abbrev S16 : Shape := ⟨1, ![16]⟩
abbrev S5 : Shape := ⟨1, ![5]⟩
abbrev S190 : Shape := ⟨1, ![190]⟩
abbrev S64 : Shape := ⟨1, ![64]⟩
abbrev S1x64 : Shape := ⟨2, ![1, 64]⟩
abbrev S8192x1 : Shape := ⟨2, ![8192, 1]⟩
abbrev S8192x64x1 : Shape := ⟨3, ![8192, 64, 1]⟩
abbrev S8192x1x64 : Shape := ⟨3, ![8192, 1, 64]⟩
abbrev S_ : Shape := ⟨0, ![]⟩
abbrev S524288 : Shape := ⟨1, ![524288]⟩
abbrev S524288x1 : Shape := ⟨2, ![524288, 1]⟩
abbrev S64x64 : Shape := ⟨2, ![64, 64]⟩
abbrev S1x64x64 : Shape := ⟨3, ![1, 64, 64]⟩
abbrev S33554432 : Shape := ⟨1, ![33554432]⟩
abbrev S33554432x1 : Shape := ⟨2, ![33554432, 1]⟩
abbrev S1 : Shape := ⟨1, ![1]⟩
abbrev S4 : Shape := ⟨1, ![4]⟩

abbrev nBuf : Space → Nat
  | .hbm => 185
  | .vmem => 0
  | .smem => 0
  | _ => 0

abbrev hbmTy0_0 (i : Nat) : BufTy := match i % 128 with
  | 0 => ⟨S8192x64, .i32⟩
  | 1 => ⟨S8192x64x64, .i32⟩
  | 2 => ⟨S8192, .i32⟩
  | 3 => ⟨S65, .f32⟩
  | 4 => ⟨S16, .f32⟩
  | 5 => ⟨S5, .f32⟩
  | 6 => ⟨S190, .f32⟩
  | 7 => ⟨S64, .i32⟩
  | 8 => ⟨S1x64, .i32⟩
  | 9 => ⟨S8192x1, .i32⟩
  | 10 => ⟨S8192x64, .i32⟩
  | 11 => ⟨S8192x64, .i32⟩
  | 12 => ⟨S8192x64, .i1⟩
  | 13 => ⟨S8192x64x1, .i1⟩
  | 14 => ⟨S8192x1x64, .i1⟩
  | 15 => ⟨S8192x64x64, .i1⟩
  | 16 => ⟨S8192x64x64, .i1⟩
  | 17 => ⟨S8192x64x64, .i1⟩
  | 18 => ⟨S_, .i32⟩
  | 19 => ⟨S65, .i32⟩
  | 20 => ⟨S_, .i32⟩
  | 21 => ⟨S_, .i32⟩
  | 22 => ⟨S8192, .i32⟩
  | 23 => ⟨S8192, .i32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S_, .i32⟩
  | 33 => ⟨S8192, .i32⟩
  | 34 => ⟨S65, .i32⟩
  | 35 => ⟨S65, .f32⟩
  | 36 => ⟨S524288, .i32⟩
  | 37 => ⟨S524288, .i1⟩
  | 38 => ⟨S524288, .f32⟩
  | 39 => ⟨S_, .f32⟩
  | 40 => ⟨S16, .f32⟩
  | 41 => ⟨S_, .i32⟩
  | 42 => ⟨S_, .i32⟩
  | 43 => ⟨S524288, .i32⟩
  | 44 => ⟨S524288, .i32⟩
  | 45 => ⟨S_, .i32⟩
  | 46 => ⟨S524288, .i32⟩
  | 47 => ⟨S524288, .i1⟩
  | 48 => ⟨S_, .i32⟩
  | 49 => ⟨S524288, .i32⟩
  | 50 => ⟨S524288, .i32⟩
  | 51 => ⟨S524288, .i32⟩
  | 52 => ⟨S524288x1, .i32⟩
  | 53 => ⟨S16, .f32⟩
  | 54 => ⟨S_, .i1⟩
  | 55 => ⟨S64x64, .i1⟩
  | 56 => ⟨S64x64, .i32⟩
  | 57 => ⟨S_, .i32⟩
  | 58 => ⟨S64x64, .i32⟩
  | 59 => ⟨S64x64, .i32⟩
  | 60 => ⟨S64x64, .i32⟩
  | 61 => ⟨S64x64, .i1⟩
  | 62 => ⟨S_, .i1⟩
  | 63 => ⟨S64x64, .i1⟩
  | 64 => ⟨S64x64, .i1⟩
  | 65 => ⟨S1x64x64, .i1⟩
  | 66 => ⟨S8192x64x64, .i1⟩
  | 67 => ⟨S8192x64x64, .i1⟩
  | 68 => ⟨S33554432, .i1⟩
  | 69 => ⟨S33554432, .f32⟩
  | 70 => ⟨S33554432, .i32⟩
  | 71 => ⟨S_, .f32⟩
  | 72 => ⟨S5, .f32⟩
  | 73 => ⟨S_, .i32⟩
  | 74 => ⟨S_, .i32⟩
  | 75 => ⟨S33554432, .i32⟩
  | 76 => ⟨S33554432, .i32⟩
  | 77 => ⟨S_, .i32⟩
  | 78 => ⟨S33554432, .i32⟩
  | 79 => ⟨S33554432, .i1⟩
  | 80 => ⟨S_, .i32⟩
  | 81 => ⟨S33554432, .i32⟩
  | 82 => ⟨S33554432, .i32⟩
  | 83 => ⟨S33554432, .i32⟩
  | 84 => ⟨S33554432x1, .i32⟩
  | 85 => ⟨S5, .f32⟩
  | 86 => ⟨S_, .i32⟩
  | 87 => ⟨S8192x64x64, .i32⟩
  | 88 => ⟨S8192x64x64, .i1⟩
  | 89 => ⟨S8192x64x64, .f32⟩
  | 90 => ⟨S_, .f32⟩
  | 91 => ⟨S8192x64x64, .f32⟩
  | 92 => ⟨S8192x64x64, .f32⟩
  | 93 => ⟨S8192x64x64, .f32⟩
  | 94 => ⟨S8192x64x64, .f32⟩
  | 95 => ⟨S_, .f32⟩
  | 96 => ⟨S8192x64, .f32⟩
  | 97 => ⟨S8192x64, .i32⟩
  | 98 => ⟨S_, .i32⟩
  | 99 => ⟨S_, .i32⟩
  | 100 => ⟨S_, .i32⟩
  | 101 => ⟨S8192x64, .i32⟩
  | 102 => ⟨S8192x64, .i32⟩
  | 103 => ⟨S_, .i32⟩
  | 104 => ⟨S8192x64, .i32⟩
  | 105 => ⟨S8192x64, .i32⟩
  | 106 => ⟨S524288, .i32⟩
  | 107 => ⟨S524288, .i1⟩
  | 108 => ⟨S524288, .f32⟩
  | 109 => ⟨S_, .f32⟩
  | 110 => ⟨S190, .f32⟩
  | 111 => ⟨S_, .i32⟩
  | 112 => ⟨S_, .i32⟩
  | 113 => ⟨S524288, .i32⟩
  | 114 => ⟨S524288, .i32⟩
  | 115 => ⟨S_, .i32⟩
  | 116 => ⟨S524288, .i32⟩
  | 117 => ⟨S524288, .i1⟩
  | 118 => ⟨S_, .i32⟩
  | 119 => ⟨S524288, .i32⟩
  | 120 => ⟨S524288, .i32⟩
  | 121 => ⟨S524288, .i32⟩
  | 122 => ⟨S524288x1, .i32⟩
  | 123 => ⟨S190, .f32⟩
  | 124 => ⟨S_, .f32⟩
  | 125 => ⟨S_, .f32⟩
  | 126 => ⟨S65, .f32⟩
  | 127 => ⟨S65, .f32⟩
  | _ => ⟨S8192x64, .i32⟩

abbrev hbmTy0_1 (i : Nat) : BufTy := match i % 128 with
  | 0 => ⟨S_, .f32⟩
  | 1 => ⟨S_, .f32⟩
  | 2 => ⟨S16, .f32⟩
  | 3 => ⟨S16, .f32⟩
  | 4 => ⟨S_, .f32⟩
  | 5 => ⟨S_, .f32⟩
  | 6 => ⟨S5, .f32⟩
  | 7 => ⟨S5, .f32⟩
  | 8 => ⟨S_, .f32⟩
  | 9 => ⟨S_, .f32⟩
  | 10 => ⟨S190, .f32⟩
  | 11 => ⟨S190, .f32⟩
  | 12 => ⟨S_, .f32⟩
  | 13 => ⟨S_, .f32⟩
  | 14 => ⟨S65, .f32⟩
  | 15 => ⟨S65, .f32⟩
  | 16 => ⟨S_, .f32⟩
  | 17 => ⟨S_, .f32⟩
  | 18 => ⟨S16, .f32⟩
  | 19 => ⟨S16, .f32⟩
  | 20 => ⟨S_, .f32⟩
  | 21 => ⟨S_, .f32⟩
  | 22 => ⟨S5, .f32⟩
  | 23 => ⟨S5, .f32⟩
  | 24 => ⟨S_, .f32⟩
  | 25 => ⟨S_, .f32⟩
  | 26 => ⟨S190, .f32⟩
  | 27 => ⟨S190, .f32⟩
  | 28 => ⟨S65, .f32⟩
  | 29 => ⟨S65, .f32⟩
  | 30 => ⟨S_, .f32⟩
  | 31 => ⟨S_, .f32⟩
  | 32 => ⟨S_, .f32⟩
  | 33 => ⟨S_, .f32⟩
  | 34 => ⟨S16, .f32⟩
  | 35 => ⟨S16, .f32⟩
  | 36 => ⟨S_, .f32⟩
  | 37 => ⟨S_, .f32⟩
  | 38 => ⟨S_, .f32⟩
  | 39 => ⟨S_, .f32⟩
  | 40 => ⟨S5, .f32⟩
  | 41 => ⟨S5, .f32⟩
  | 42 => ⟨S_, .f32⟩
  | 43 => ⟨S_, .f32⟩
  | 44 => ⟨S_, .f32⟩
  | 45 => ⟨S_, .f32⟩
  | 46 => ⟨S190, .f32⟩
  | 47 => ⟨S190, .f32⟩
  | 48 => ⟨S_, .f32⟩
  | 49 => ⟨S_, .f32⟩
  | 50 => ⟨S_, .f32⟩
  | 51 => ⟨S_, .f32⟩
  | 52 => ⟨S1, .f32⟩
  | 53 => ⟨S1, .f32⟩
  | 54 => ⟨S1, .f32⟩
  | 55 => ⟨S1, .f32⟩
  | 56 => ⟨S4, .f32⟩
  | _ => ⟨S8192x64, .i32⟩

abbrev hbmTy (i : Nat) : BufTy := match i / 128 with
  | 0 => hbmTy0_0 i
  | 1 => hbmTy0_1 i
  | _ => ⟨S8192x64, .i32⟩

abbrev bufTy : (tb : Table) → Fin (tcTables nBuf tb) → BufTy
  | .hbm, ⟨i, _⟩ => hbmTy i
  | _, _ => ⟨S8192x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_0 : Ref sig .tc := ⟨.hbm, 62, rfl⟩
abbrev main_call2_v5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_c_9 : Ref sig .tc := ⟨.hbm, 73, rfl⟩
abbrev main_call3_v0 : Ref sig .tc := ⟨.hbm, 74, rfl⟩
abbrev main_call3_v1 : Ref sig .tc := ⟨.hbm, 75, rfl⟩
abbrev main_v43 : Ref sig .tc := ⟨.hbm, 76, rfl⟩
abbrev main_c_10 : Ref sig .tc := ⟨.hbm, 77, rfl⟩
abbrev main_v44 : Ref sig .tc := ⟨.hbm, 78, rfl⟩
abbrev main_v45 : Ref sig .tc := ⟨.hbm, 79, rfl⟩
abbrev main_c_11 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_12 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_13 : Ref sig .tc := ⟨.hbm, 90, rfl⟩
abbrev main_call4_v0 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_14 : Ref sig .tc := ⟨.hbm, 95, rfl⟩
abbrev main_v57 : Ref sig .tc := ⟨.hbm, 96, rfl⟩
abbrev main_v58 : Ref sig .tc := ⟨.hbm, 97, rfl⟩
abbrev main_c_15 : Ref sig .tc := ⟨.hbm, 98, rfl⟩
abbrev main_c_16 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_17 : Ref sig .tc := ⟨.hbm, 109, rfl⟩
abbrev main_v63 : Ref sig .tc := ⟨.hbm, 110, rfl⟩
abbrev main_c_18 : Ref sig .tc := ⟨.hbm, 111, rfl⟩
abbrev main_call6_v0 : Ref sig .tc := ⟨.hbm, 112, rfl⟩
abbrev main_call6_v1 : Ref sig .tc := ⟨.hbm, 113, rfl⟩
abbrev main_v64 : Ref sig .tc := ⟨.hbm, 114, rfl⟩
abbrev main_c_19 : Ref sig .tc := ⟨.hbm, 115, rfl⟩
abbrev main_v65 : Ref sig .tc := ⟨.hbm, 116, rfl⟩
abbrev main_v66 : Ref sig .tc := ⟨.hbm, 117, rfl⟩
abbrev main_c_20 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_21 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_22 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_23 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_24 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_cst_25 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_cst_26 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_cst_27 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_cst_28 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_cst_29 : Ref sig .tc := ⟨.hbm, 158, rfl⟩
abbrev main_v98 : Ref sig .tc := ⟨.hbm, 159, rfl⟩
abbrev main_cst_30 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_31 : Ref sig .tc := ⟨.hbm, 164, rfl⟩
abbrev main_v102 : Ref sig .tc := ⟨.hbm, 165, rfl⟩
abbrev main_cst_32 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_cst_33 : Ref sig .tc := ⟨.hbm, 170, rfl⟩
abbrev main_v106 : Ref sig .tc := ⟨.hbm, 171, rfl⟩
abbrev main_cst_34 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_cst_35 : Ref sig .tc := ⟨.hbm, 176, rfl⟩
abbrev main_v110 : Ref sig .tc := ⟨.hbm, 177, rfl⟩
abbrev main_cst_36 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩

abbrev nD : Nat := 1
abbrev τ : Topo := Topo.v7x

variable {F : FTy → Type} [FloatOps F]
-- ==== Proof.Prog.lean ====
/- The tile program of the SparseCore histogram, read once. The printed loop over groups of eight molecules is one
   step (wait for a molecule's bond rows, start the copy of the molecule seven ahead, process the molecule) repeated
   eight times over the eight buffers of the ring; here is that step as a program over the buffers it uses, and the
   theorem that the printed loop body is eight of them. -/
module

public import proofs.«01_k».proof.Proof.Gen.KernelIdeal
public import proofs.«01_k».proof.Proof.Gen.KernelIdeal.Skeleton

@[expose] public section

set_option synthInstance.maxSize 4096

noncomputable section

namespace Cert.KernelIdeal.Tile

open Cert.KernelIdeal Cert.KernelIdeal.Gen Idealize.ShloMosaic Idealize.SL.Sem

variable {F : FTy → Type} [FloatOps F]

/-- The processor that runs grid coordinates `i`. -/
abbrev procOf (i : grid0.Coords) : Proc τ := .scVector ((i 0).castLE hcore0) ((i 1).castLE hsub0)

/-- The programs of a tile. -/
abbrev TP (F : FTy → Type) [FloatOps F] (i : grid0.Coords) (α : Type) := Prog (TpuEff nD τ sig (Elt F) Λ₀ (procOf i)) α

/-- What a row loop carries: four vectors of valency sums (64 columns, 16 to a vector) and the packed counts. -/
abbrev RowSt (F : FTy → Type) := FVec F S16 .f32 × FVec F S16 .f32 × FVec F S16 .f32 × FVec F S16 .f32 × IVec S16 32
/-- What the molecule loop carries: for each of four bond types, its count by lane. -/
abbrev Cnts (F : FTy → Type) := FVec F S16 .f32 × FVec F S16 .f32 × FVec F S16 .f32 × FVec F S16 .f32

/-- One row of a molecule: four vectors of bond types, each added to the valency sums and looked up in the table of
    packed weights. -/
def rowP (i : grid0.Coords) (eb : Memref sig .scVector .vmem S4096 .i32) (wt : Memref sig .scVector .vmem S16 .i32)
    (v29 v31 v33 v35 v40 : IVec S16 32) (nv : Vec F S16 .i32) (ns : BitVec 32) (hw : k0_chk3 ns) :
    Fin (k0_t4_loop ns).trips → RowSt F → TP F i (RowSt F) :=
  fun t (a0, a1, a2, a3, pk) => do
    let e0 : Vec F S16 .i32 ← Prog.lift (.load eb (Rect.unit (s := S4096) (k0_off8 ns t) S16.size (k0_off8_inb ns hw t)).toLoadRect (View.loadsAt_vmem h_S16))
    have h0 : k0_chk4 e0 := (← Prog.lift (TpuEff.assume (k0_chk4 e0) (k0_chk4.dec e0))).down
    let w0 : Vec F S16 .i32 ← SparseCore.vectorLoadIdx wt ![e0] (k0_idx3_inb e0 h0) (View.loads_vmem h_S16)
    let e1 : Vec F S16 .i32 ← Prog.lift (.load eb (Rect.unit (s := S4096) (k0_off9 ns t) S16.size (k0_off9_inb ns hw t)).toLoadRect (View.loadsAt_vmem h_S16))
    have h1 : k0_chk4 e1 := (← Prog.lift (TpuEff.assume (k0_chk4 e1) (k0_chk4.dec e1))).down
    let w1 : Vec F S16 .i32 ← SparseCore.vectorLoadIdx wt ![e1] (k0_idx3_inb e1 h1) (View.loads_vmem h_S16)
    let e2 : Vec F S16 .i32 ← Prog.lift (.load eb (Rect.unit (s := S4096) (k0_off10 ns t) S16.size (k0_off10_inb ns hw t)).toLoadRect (View.loadsAt_vmem h_S16))
    have h2 : k0_chk4 e2 := (← Prog.lift (TpuEff.assume (k0_chk4 e2) (k0_chk4.dec e2))).down
    let w2 : Vec F S16 .i32 ← SparseCore.vectorLoadIdx wt ![e2] (k0_idx3_inb e2 h2) (View.loads_vmem h_S16)
    let e3 : Vec F S16 .i32 ← Prog.lift (.load eb (Rect.unit (s := S4096) (k0_off11 ns t) S16.size (k0_off11_inb ns hw t)).toLoadRect (View.loadsAt_vmem h_S16))
    have h3 : k0_chk4 e3 := (← Prog.lift (TpuEff.assume (k0_chk4 e3) (k0_chk4.dec e3))).down
    let w3 : Vec F S16 .i32 ← SparseCore.vectorLoadIdx wt ![e3] (k0_idx3_inb e3 h3) (View.loads_vmem h_S16)
    pure (k0_pay2 a0 e0, k0_pay3 a1 e1, k0_pay5 a2 e2, k0_pay102 a3 e3,
      k0_pay103 v35 v40 nv (k0_pay1 ns 0#32 1#32 t)
        (k0_pay4 v29 v31 v40 ns (k0_pay98 v29 nv) (k0_pay99 v31 nv) 0#32 1#32 t pk w0 w1)
        (k0_pay6 v33 ns (k0_pay100 v33 nv) 0#32 1#32 t) w2 w3)

/-- The upper bound of the printed remainder loop over rows: the number of rows again, so it has no trips. -/
def rowsDone (ns : BitVec 32) : BitVec 32 := Scalar.addi 0#32 (Scalar.muli (Scalar.divsi (Scalar.subi ns 0#32) 1#32) 1#32)

/-- The same row in the printed remainder loop (which has no trips). -/
def rowRemP (i : grid0.Coords) (eb : Memref sig .scVector .vmem S4096 .i32) (wt : Memref sig .scVector .vmem S16 .i32)
    (v29 v31 v33 v35 v40 : IVec S16 32) (nv : Vec F S16 .i32) (ns : BitVec 32) (hw : k0_chk3 ns) :
    Fin (k0_t5_loop ns).trips → RowSt F → TP F i (RowSt F) :=
  fun t (a0, a1, a2, a3, pk) => do
    let e0 : Vec F S16 .i32 ← Prog.lift (.load eb (Rect.unit (s := S4096) (k0_off12 ns t) S16.size (k0_off12_inb ns hw t)).toLoadRect (View.loadsAt_vmem h_S16))
    have h0 : k0_chk4 e0 := (← Prog.lift (TpuEff.assume (k0_chk4 e0) (k0_chk4.dec e0))).down
    let w0 : Vec F S16 .i32 ← SparseCore.vectorLoadIdx wt ![e0] (k0_idx3_inb e0 h0) (View.loads_vmem h_S16)
    let e1 : Vec F S16 .i32 ← Prog.lift (.load eb (Rect.unit (s := S4096) (k0_off13 ns t) S16.size (k0_off13_inb ns hw t)).toLoadRect (View.loadsAt_vmem h_S16))
    have h1 : k0_chk4 e1 := (← Prog.lift (TpuEff.assume (k0_chk4 e1) (k0_chk4.dec e1))).down
    let w1 : Vec F S16 .i32 ← SparseCore.vectorLoadIdx wt ![e1] (k0_idx3_inb e1 h1) (View.loads_vmem h_S16)
    let e2 : Vec F S16 .i32 ← Prog.lift (.load eb (Rect.unit (s := S4096) (k0_off14 ns t) S16.size (k0_off14_inb ns hw t)).toLoadRect (View.loadsAt_vmem h_S16))
    have h2 : k0_chk4 e2 := (← Prog.lift (TpuEff.assume (k0_chk4 e2) (k0_chk4.dec e2))).down
    let w2 : Vec F S16 .i32 ← SparseCore.vectorLoadIdx wt ![e2] (k0_idx3_inb e2 h2) (View.loads_vmem h_S16)
    let e3 : Vec F S16 .i32 ← Prog.lift (.load eb (Rect.unit (s := S4096) (k0_off15 ns t) S16.size (k0_off15_inb ns hw t)).toLoadRect (View.loadsAt_vmem h_S16))
    have h3 : k0_chk4 e3 := (← Prog.lift (TpuEff.assume (k0_chk4 e3) (k0_chk4.dec e3))).down
    let w3 : Vec F S16 .i32 ← SparseCore.vectorLoadIdx wt ![e3] (k0_idx3_inb e3 h3) (View.loads_vmem h_S16)
    pure (k0_pay2 a0 e0, k0_pay3 a1 e1, k0_pay5 a2 e2, k0_pay102 a3 e3,
      k0_pay103 v35 v40 nv (k0_pay7 ns (rowsDone ns) 1#32 t)
        (k0_pay10 v29 v31 v40 ns (k0_pay98 v29 nv) (k0_pay99 v31 nv) (rowsDone ns) 1#32 t pk w0 w1)
        (k0_pay12 v33 ns (k0_pay100 v33 nv) (rowsDone ns) 1#32 t) w2 w3)

/-- Sixteen columns of a molecule, after its rows: a one to the valency's row and a one to the atom type's row of the
    histogram, in the columns that `mask` keeps. -/
def colP (i : grid0.Coords) (ab : Memref sig .scVector .vmem S16384 .i32) (hi : Memref sig .scVector .vmem S4608 .f32)
    (v4 : FVec F S16 .f32) (v5 : IVec S16 32) (mask : IVec S16 1) (acc : FVec F S16 .f32)
    (off : Fin 1 → ℕ) (hoff : ∀ a, off a + S16.size a ≤ S16384.size a) : TP F i PUnit := do
  have iv : IVec S16 32 := k0_pay110 v5 acc
  have h0 : k0_chk12 iv := (← Prog.lift (TpuEff.assume (k0_chk12 iv) (k0_chk12.dec iv))).down
  SparseCore.vectorStoreIdx hi ![iv] v4 mask true (k0_idx11_inb iv h0) (View.stores_vmem_bits_univ h_S4608 rfl)
  let at' : Vec F S16 .i32 ← Prog.lift (.load ab (Rect.unit (s := S16384) off S16.size hoff).toLoadRect (View.loadsAt_vmem h_S16))
  have ia : IVec S16 32 := k0_pay111 v5 at'
  have h1 : k0_chk12 ia := (← Prog.lift (TpuEff.assume (k0_chk12 ia) (k0_chk12.dec ia))).down
  SparseCore.vectorStoreIdx hi ![ia] v4 mask true (k0_idx11_inb ia h1) (View.stores_vmem_bits_univ h_S4608 rfl)

/-- The whole of a molecule, its bond rows being in `eb`. -/
def molP (i : grid0.Coords) (eb : Memref sig .scVector .vmem S4096 .i32) (ab : Memref sig .scVector .vmem S16384 .i32)
    (nb : Memref sig .scVector .vmem S256 .i32) (hi : Memref sig .scVector .vmem S4608 .f32) (wt : Memref sig .scVector .vmem S16 .i32)
    (v4 : FVec F S16 .f32) (v5 v29 v31 v33 v35 : IVec S16 32) (v36 v37 v38 v39 : FVec F S16 .f32) (v40 : IVec S16 32) (m : BitVec 32)
    (off : Fin 4 → Fin 1 → ℕ) (hoff : ∀ c a, off c a + S16.size a ≤ S16384.size a) (cnts : Cnts F) : TP F i (Cnts F) := do
  have mv : IVec S16 32 := broadcast S16 m
  have h2 : k0_chk2 mv := (← Prog.lift (TpuEff.assume (k0_chk2 mv) (k0_chk2.dec mv))).down
  let nv : Vec F S16 .i32 ← SparseCore.vectorLoadIdx nb ![mv] (k0_idx2_inb mv h2) (View.loads_vmem h_S256)
  let ns : BitVec 32 := extractAt ![15] (k0_pay97 nv) inpos_S16_p15
  have hw : k0_chk3 ns := (← Prog.lift (TpuEff.assume (k0_chk3 ns) (k0_chk3.dec ns))).down
  let (b0, b1, b2, b3, b4) ← Scf.Loop.for (k0_t4_loop ns) (k0_t4_ok ns hw) (v36, v37, v38, v39, v40) (rowP i eb wt v29 v31 v33 v35 v40 nv ns hw)
  let (s0, s1, s2, s3, s4) ← Scf.Loop.for (k0_t5_loop ns) (k0_t5_ok ns hw) (b0, b1, b2, b3, b4) (rowRemP i eb wt v29 v31 v33 v35 v40 nv ns hw)
  let _ ← colP i ab hi v4 v5 (k0_pay98 v29 nv) s0 (off 0) (hoff 0)
  let _ ← colP i ab hi v4 v5 (k0_pay99 v31 nv) s1 (off 1) (hoff 1)
  let _ ← colP i ab hi v4 v5 (k0_pay100 v33 nv) s2 (off 2) (hoff 2)
  let _ ← colP i ab hi v4 v5 (k0_pay101 v35 nv) s3 (off 3) (hoff 3)
  pure (k0_pay106 cnts.1 s4, k0_pay107 cnts.2.1 s4, k0_pay108 cnts.2.2.1 s4, k0_pay109 cnts.2.2.2 s4)

/-- A row of the bond matrix in HBM. -/
abbrev eRow (arg2 : Memref sig .scVector .hbm S8192x4096 .i32) (off : Fin 2 → ℕ) (hoff : ∀ a, off a + S1x4096.size a ≤ S8192x4096.size a) :
    Memref sig .scVector .hbm S4096 .i32 :=
  (arg2.slice (Rect.unit (s := S8192x4096) off S1x4096.size hoff) (fun _ => rfl)).squeeze S4096 squeezes_S1x4096_S4096

/-- Start the copy of a row of the bond matrix into a buffer of the ring. -/
def startP (i : grid0.Coords) (arg2 : Memref sig .scVector .hbm S8192x4096 .i32) (eb : Memref sig .scVector .vmem S4096 .i32) (heb : eb.IsWhole)
    (sem : DmaSems sig S_) (off : Fin 2 → ℕ) (hoff : ∀ a, off a + S1x4096.size a ≤ S8192x4096.size a) : TP F i PUnit :=
  Prog.lift (.enqueueDma (eRow arg2 off hoff) (.here eb) (.dma sem.sem) ((View.wordExact_bits rfl).reshape _ _) heb.wordExact ⟨Or.inl rfl, trivial⟩)

/-- Wait for the copy into a buffer of the ring. -/
def waitP (i : grid0.Coords) (arg2 : Memref sig .scVector .hbm S8192x4096 .i32) (eb : Memref sig .scVector .vmem S4096 .i32) (heb : eb.IsWhole)
    (sem : DmaSems sig S_) (off : Fin 2 → ℕ) (hoff : ∀ a, off a + S1x4096.size a ≤ S8192x4096.size a) : TP F i PUnit :=
  Prog.lift (.waitDma2 sem.sem (eRow arg2 off hoff) eb ((View.wordExact_bits rfl).reshape _ _) heb.wordExact)

/-- The atom types' offsets of one molecule, from its four. -/
def four {α : Type} (a b c d : α) : Fin 4 → α
  | 0 => a | 1 => b | 2 => c | 3 => d

theorem four_inb {a b c d : Fin 1 → ℕ} (ha : ∀ x, a x + S16.size x ≤ S16384.size x) (hb : ∀ x, b x + S16.size x ≤ S16384.size x)
    (hc : ∀ x, c x + S16.size x ≤ S16384.size x) (hd : ∀ x, d x + S16.size x ≤ S16384.size x) :
    ∀ k x, four a b c d k x + S16.size x ≤ S16384.size x
  | 0 => ha | 1 => hb | 2 => hc | 3 => hd

/-- Molecule `t * 8 + k` of the tile. -/
abbrev molNo (t : Fin k0_t3_loop.trips) (k : BitVec 32) : BitVec 32 := Scalar.addi (Scalar.muli (Scf.iv 0#32 1#32 t) 8#32) k

/-- The body of the loop over groups of eight molecules. -/
def quadP (i : grid0.Coords) (arg2 : Memref sig .scVector .hbm S8192x4096 .i32)
    (e0 : Memref sig .scVector .vmem S4096 .i32) (he0 : e0.IsWhole) (e1 : Memref sig .scVector .vmem S4096 .i32) (he1 : e1.IsWhole)
    (e2 : Memref sig .scVector .vmem S4096 .i32) (he2 : e2.IsWhole) (e3 : Memref sig .scVector .vmem S4096 .i32) (he3 : e3.IsWhole)
    (e4 : Memref sig .scVector .vmem S4096 .i32) (he4 : e4.IsWhole) (e5 : Memref sig .scVector .vmem S4096 .i32) (he5 : e5.IsWhole)
    (e6 : Memref sig .scVector .vmem S4096 .i32) (he6 : e6.IsWhole) (e7 : Memref sig .scVector .vmem S4096 .i32) (he7 : e7.IsWhole)
    (ab : Memref sig .scVector .vmem S16384 .i32)
    (nb : Memref sig .scVector .vmem S256 .i32) (hi : Memref sig .scVector .vmem S4608 .f32) (wt : Memref sig .scVector .vmem S16 .i32)
    (s0 s1 s2 s3 s4 s5 s6 s7 : DmaSems sig S_)
    (v4 : FVec F S16 .f32) (v5 v29 v31 v33 v35 : IVec S16 32) (v36 v37 v38 v39 : FVec F S16 .f32) (v40 : IVec S16 32)
    (t : Fin k0_t3_loop.trips) (cnts : Cnts F) : TP F i (Cnts F) := do
  let _ ← waitP i arg2 e0 he0 s0 (k0_off6 i) (k0_off6_inb i)
  let _ ← startP i arg2 e7 he7 s7 (k0_off7 i t) (k0_off7_inb i t)
  let cnts ← molP i e0 ab nb hi wt v4 v5 v29 v31 v33 v35 v36 v37 v38 v39 v40 (molNo t 0#32)
    (four (k0_off16 t) (k0_off17 t) (k0_off18 t) (k0_off19 t)) (four_inb (k0_off16_inb t) (k0_off17_inb t) (k0_off18_inb t) (k0_off19_inb t)) cnts
  let _ ← waitP i arg2 e1 he1 s1 (k0_off20 i) (k0_off20_inb i)
  let _ ← startP i arg2 e0 he0 s0 (k0_off21 i t) (k0_off21_inb i t)
  let cnts ← molP i e1 ab nb hi wt v4 v5 v29 v31 v33 v35 v36 v37 v38 v39 v40 (molNo t 1#32)
    (four (k0_off30 t) (k0_off31 t) (k0_off32 t) (k0_off33 t)) (four_inb (k0_off30_inb t) (k0_off31_inb t) (k0_off32_inb t) (k0_off33_inb t)) cnts
  let _ ← waitP i arg2 e2 he2 s2 (k0_off34 i) (k0_off34_inb i)
  let _ ← startP i arg2 e1 he1 s1 (k0_off35 i t) (k0_off35_inb i t)
  let cnts ← molP i e2 ab nb hi wt v4 v5 v29 v31 v33 v35 v36 v37 v38 v39 v40 (molNo t 2#32)
    (four (k0_off44 t) (k0_off45 t) (k0_off46 t) (k0_off47 t)) (four_inb (k0_off44_inb t) (k0_off45_inb t) (k0_off46_inb t) (k0_off47_inb t)) cnts
  let _ ← waitP i arg2 e3 he3 s3 (k0_off48 i) (k0_off48_inb i)
  let _ ← startP i arg2 e2 he2 s2 (k0_off49 i t) (k0_off49_inb i t)
  let cnts ← molP i e3 ab nb hi wt v4 v5 v29 v31 v33 v35 v36 v37 v38 v39 v40 (molNo t 3#32)
    (four (k0_off58 t) (k0_off59 t) (k0_off60 t) (k0_off61 t)) (four_inb (k0_off58_inb t) (k0_off59_inb t) (k0_off60_inb t) (k0_off61_inb t)) cnts
  let _ ← waitP i arg2 e4 he4 s4 (k0_off62 i) (k0_off62_inb i)
  let _ ← startP i arg2 e3 he3 s3 (k0_off63 i t) (k0_off63_inb i t)
  let cnts ← molP i e4 ab nb hi wt v4 v5 v29 v31 v33 v35 v36 v37 v38 v39 v40 (molNo t 4#32)
    (four (k0_off72 t) (k0_off73 t) (k0_off74 t) (k0_off75 t)) (four_inb (k0_off72_inb t) (k0_off73_inb t) (k0_off74_inb t) (k0_off75_inb t)) cnts
  let _ ← waitP i arg2 e5 he5 s5 (k0_off76 i) (k0_off76_inb i)
  let _ ← startP i arg2 e4 he4 s4 (k0_off77 i t) (k0_off77_inb i t)
  let cnts ← molP i e5 ab nb hi wt v4 v5 v29 v31 v33 v35 v36 v37 v38 v39 v40 (molNo t 5#32)
    (four (k0_off86 t) (k0_off87 t) (k0_off88 t) (k0_off89 t)) (four_inb (k0_off86_inb t) (k0_off87_inb t) (k0_off88_inb t) (k0_off89_inb t)) cnts
  let _ ← waitP i arg2 e6 he6 s6 (k0_off90 i) (k0_off90_inb i)
  let _ ← startP i arg2 e5 he5 s5 (k0_off91 i t) (k0_off91_inb i t)
  let cnts ← molP i e6 ab nb hi wt v4 v5 v29 v31 v33 v35 v36 v37 v38 v39 v40 (molNo t 6#32)
    (four (k0_off100 t) (k0_off101 t) (k0_off102 t) (k0_off103 t)) (four_inb (k0_off100_inb t) (k0_off101_inb t) (k0_off102_inb t) (k0_off103_inb t)) cnts
  let _ ← waitP i arg2 e7 he7 s7 (k0_off104 i) (k0_off104_inb i)
  let _ ← startP i arg2 e6 he6 s6 (k0_off105 i t) (k0_off105_inb i t)
  molP i e7 ab nb hi wt v4 v5 v29 v31 v33 v35 v36 v37 v38 v39 v40 (molNo t 7#32)
    (four (k0_off114 t) (k0_off115 t) (k0_off116 t) (k0_off117 t)) (four_inb (k0_off114_inb t) (k0_off115_inb t) (k0_off116_inb t) (k0_off117_inb t)) cnts

end Cert.KernelIdeal.Tile
-- ==== Proof.Spec.lean ====
/- What a tile of the SparseCore histogram computes, as functions of the words it reads: the vectors of one row of bond
   types, the rows of a molecule, a molecule's four scatters and its packed counts, the 256 molecules of a tile, and the
   histogram the tile hands back. The float operations are any float values'. -/
module

public import proofs.«01_k».proof.Proof.Prog

@[expose] public section

noncomputable section

namespace Cert.KernelIdeal.Tile

open Cert.KernelIdeal Cert.KernelIdeal.Gen Idealize.ShloMosaic Idealize.SL.Sem

variable {F : FTy → Type} [FloatOps F]

/-- The index of element `n` of a vector of `N`. -/
abbrev ix1 {N : ℕ} (n : ℕ) (h : n < N) : (⟨1, ![N]⟩ : Shape).Idx := fun a => ⟨n, by rw [Fin.eq_zero a]; exact h⟩

/-- Element `n` of a vector of words, zero past its end. -/
def at1 {N : ℕ} (v : (⟨1, ![N]⟩ : Shape).Idx → BitVec 32) (n : ℕ) : BitVec 32 := if h : n < N then v (ix1 n h) else 0#32

/-- Sixteen consecutive words of a vector, from element `o`. -/
def words {N : ℕ} (v : (⟨1, ![N]⟩ : Shape).Idx → BitVec 32) (o : ℕ) : IVec S16 32 := fun x => at1 v (o + (x 0).val)

/-- The lane numbers. -/
abbrev lanes : IVec S16 32 := iota .scVector S16 32 [0] iota_S16_d0_w32_scVector
/-- The column numbers of the four vectors of a row. -/
abbrev jv0 : IVec S16 32 := k0_pay285 lanes
abbrev jv1 : IVec S16 32 := k0_pay286 lanes
abbrev jv2 : IVec S16 32 := k0_pay287 lanes
abbrev jv3 : IVec S16 32 := k0_pay288 lanes

/-- The packed weights of sixteen bond types. -/
def look (e : IVec S16 32) : IVec S16 32 := fun x => at1 (N := 16) k0_pay282 (e x).toNat

/-- One vector's weights, kept in the upper triangle's columns of the molecule. -/
def keep (j nv : IVec S16 32) (i : BitVec 32) (e : IVec S16 32) : IVec S16 32 :=
  select (andi (cmpi .slt j nv) (cmpi .sgt j (broadcast S16 i))) (look e) k0_pay293

/-- The packed counts after row `i`. -/
def pkV (nv : IVec S16 32) (i : BitVec 32) (pk e0 e1 e2 e3 : IVec S16 32) : IVec S16 32 :=
  addi (addi (addi (addi pk (keep jv0 nv i e0)) (keep jv1 nv i e1)) (keep jv2 nv i e2)) (keep jv3 nv i e3)

/-- A row of a molecule. -/
def rowV (ev : Vec F S4096 .i32) (nv : IVec S16 32) (k : ℕ) (st : RowSt F) : RowSt F :=
  (k0_pay2 st.1 (words (N := 4096) ev (k * 64)), k0_pay3 st.2.1 (words (N := 4096) ev (k * 64 + 16)), k0_pay5 st.2.2.1 (words (N := 4096) ev (k * 64 + 32)),
    k0_pay102 st.2.2.2.1 (words (N := 4096) ev (k * 64 + 48)),
    pkV nv (BitVec.ofNat 32 k) st.2.2.2.2 (words (N := 4096) ev (k * 64)) (words (N := 4096) ev (k * 64 + 16)) (words (N := 4096) ev (k * 64 + 32)) (words (N := 4096) ev (k * 64 + 48)))

/-- The first `k` rows of a molecule. -/
def rowsV (ev : Vec F S4096 .i32) (nv : IVec S16 32) : ℕ → RowSt F
  | 0 => (k0_pay289, k0_pay290, k0_pay291, k0_pay292, k0_pay293)
  | k + 1 => rowV ev nv k (rowsV ev nv k)

/-- Ones added to the histogram at the indices `iv`, in the lanes `mask` keeps. -/
def scat (h : Vec F S4608 .f32) (iv : IVec S16 32) (mask : IVec S16 1) : Vec F S4608 .f32 :=
  if hh : k0_chk12 iv then storeIdx h ![iv] (k0_pay281 (F := F)) mask true (k0_idx11_inb iv hh) else h

/-- Sixteen columns of a molecule. -/
def colV (h : Vec F S4608 .f32) (at' : IVec S16 32) (mask : IVec S16 1) (acc : FVec F S16 .f32) : Vec F S4608 .f32 :=
  scat (scat h (k0_pay110 lanes acc) mask) (k0_pay111 (F := F) lanes at') mask

/-- Molecule `m` of the tile, its bond types being `ev`. -/
def molV (ev : Vec F S4096 .i32) (av : Vec F S16384 .i32) (nb : Vec F S256 .i32) (m : ℕ) (hc : Vec F S4608 .f32 × Cnts F) : Vec F S4608 .f32 × Cnts F :=
  let nv : IVec S16 32 := broadcast S16 (at1 (N := 256) nb m)
  let st := rowsV ev nv (at1 (N := 256) nb m).toNat
  (colV (colV (colV (colV hc.1 (words (N := 16384) av (m * 64)) (cmpi .slt jv0 nv) st.1)
      (words (N := 16384) av (m * 64 + 16)) (cmpi .slt jv1 nv) st.2.1)
      (words (N := 16384) av (m * 64 + 32)) (cmpi .slt jv2 nv) st.2.2.1)
      (words (N := 16384) av (m * 64 + 48)) (cmpi .slt jv3 nv) st.2.2.2.1,
    k0_pay106 hc.2.1 st.2.2.2.2, k0_pay107 hc.2.2.1 st.2.2.2.2, k0_pay108 hc.2.2.2.1 st.2.2.2.2, k0_pay109 hc.2.2.2.2 st.2.2.2.2)

/-- The histogram after the first `k` vectors of molecule sizes. -/
def histN (nb : Vec F S256 .i32) : ℕ → Vec F S4608 .f32
  | 0 => fun _ => Scalar.ofBits .f32 0x00000000#32
  | k + 1 => scat (histN nb k) (k0_pay284 (F := F) lanes (words (N := 256) nb (k * 16))) k0_pay283

/-- The histogram and the counts after the first `k` molecules. -/
def molsV (en : ℕ → Vec F S4096 .i32) (av : Vec F S16384 .i32) (nb : Vec F S256 .i32) : ℕ → Vec F S4608 .f32 × Cnts F
  | 0 => (histN nb 16, (k0_pay289, k0_pay290, k0_pay291, k0_pay292))
  | k + 1 => molV (en k) av nb k (molsV en av nb k)

/-- Sixteen consecutive elements of a vector replaced, from element `o`. -/
def putRow {N : ℕ} {α : Type} (h : (⟨1, ![N]⟩ : Shape).Idx → α) (o : ℕ) (w : S16.Idx → α) : (⟨1, ![N]⟩ : Shape).Idx → α :=
  fun y => if hh : o ≤ (y 0).val ∧ (y 0).val < o + 16 then w (ix1 ((y 0).val - o) (by omega)) else h y

/-- The histogram a tile hands back. -/
def tileV (en : ℕ → Vec F S4096 .i32) (av : Vec F S16384 .i32) (nb : Vec F S256 .i32) : Vec F S4608 .f32 :=
  let r := molsV en av nb 256
  putRow (N := 4608) (putRow (N := 4608) (putRow (N := 4608) (putRow (N := 4608) r.1 1312 r.2.1) 1328 r.2.2.1) 1344 r.2.2.2.1) 1360 r.2.2.2.2

end Cert.KernelIdeal.Tile
-- ==== Proof.Res.lean ====
/- The resources of one tile and the rules of the operations it uses, stated of a memref by what it reads: `Holds` says
   that a buffer is held at a share and that the memref reads given contents. Then the loads, the stores, the indexed
   loads and the indexed additions of the tile program, each as one step from `Holds` to `Holds`. -/
module

public import proofs.«01_k».proof.Defs
public import proofs.«01_k».proof.Proof.Spec
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The handshakes' ghost state, the pipeline's, and the two with the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev 𝒱₀ : Variants := Variants.none

/-- The thread of the tile with grid coordinates `i` on device `d`. -/
abbrev thr (d : Dev nD) (i : grid0.Coords) : Thread nD τ := (d, procOf i)

variable (d : Dev nD) (i : grid0.Coords)

/-- The whole of `mr`'s buffer is held at share `q`, and `mr` reads `v`. -/
def Holds {sp : Space} {s : Shape} {e : EltTy} (mr : Memref sig .scVector sp s e) (q : PosShare TreeShare) (v : s.Idx → Elt F e) : sProp 𝕄 :=
  iprop(∃ f : Buf (Elt F) (mr.view.loc (thr d i)), ⌜mr.view.read (Elt F) f = v⌝ ∗ mr.view.loc (thr d i) ↦{q} f)

/-- The weakest precondition of a tile's program. -/
abbrev wpT {α : Type} (p : TP F i α) (Q : α → sProp 𝕄) : sProp 𝕄 := wp frame (wpE (defs₀ (F := F)) 𝒱₀ (thr d i) none) Set.univ p Q

/-- A load. -/
theorem wp_loadH {cs : CoreSpace} {s : Shape} {e : EltTy} {mr : Memref sig .scVector cs s e} {r : LoadRect s} {hl : mr.view.LoadsAt r}
    {α : Type} {k : (r.shape.Idx → Elt F e) → TP F i α} {q : PosShare TreeShare} {v : s.Idx → Elt F e} {Q : α → sProp 𝕄} :
    Holds d i mr q v ⊢ iprop((Holds d i mr q v -∗ wpT d i (k fun x => v (r.idx x)) Q) -∗ wpT d i (Prog.lift (.load mr r hl) >>= k) Q) := by
  unfold Holds
  iintro ⟨%f, %hf, H⟩ Hk
  iapply (wp_load 𝒱₀ (thr d i) none Set.univ (m := mr) (S := Finset.univ) (Finset.subset_univ _)) $$ H; iintro H
  subst hf
  iapply Hk
  iexists f; isplitr; · ipureintro; rfl
  iexact H

/-- A check that holds. -/
theorem wp_assumeH {P : Prop} {dp : Decidable P} {α : Type} {k : PLift P → TP F i α} {Q : α → sProp 𝕄} (h : P) :
    wpT d i (k ⟨h⟩) Q ⊢ wpT d i (Prog.lift (.assume P dp) >>= k) Q :=
  wp_assume 𝒱₀ (thr d i) none Set.univ h

/-- An indexed load. -/
theorem wp_gatherH {s t : Shape} {e : EltTy} {mr : Memref sig .scVector .vmem s e} {idxs : Fin s.rank → IVec t 32}
    {h : ∀ a x, (idxs a x).toNat < s.size a} {hl : mr.view.Loads} {α : Type} {k : Vec F t e → TP F i α} {q : PosShare TreeShare}
    {v : s.Idx → Elt F e} {Q : α → sProp 𝕄} :
    Holds d i mr q v ⊢ iprop((Holds d i mr q v -∗ wpT d i (k (loadIdx v idxs h)) Q) -∗ wpT d i (SparseCore.vectorLoadIdx mr idxs h hl >>= k) Q) := by
  unfold Holds
  iintro ⟨%f, %hf, H⟩ Hk
  have he : (mr.access (.whole s)).read (Elt F) f = v := by
    rw [← hf]; funext x; rw [View.read_apply, View.read_apply]
    have hx : (mr.access (.whole s)).emb x = mr.view.emb x := by
      show mr.view.emb ((Rect.whole s).emb x) = mr.view.emb x
      congr 1; funext a; apply Fin.ext; simp [Rect.whole]
    rw [hx]
  iapply (SparseCore.wp_vectorLoadIdx 𝒱₀ (thr d i) none Set.univ (base := mr) (S := Finset.univ) (q := q) (Finset.subset_univ _)) $$ H; iintro H
  rw [he]
  iapply Hk
  iexists f; isplitr; · ipureintro; exact hf
  iexact H

/-- A store of sixteen elements. -/
theorem wp_storeH {N : ℕ} {e : EltTy} {mr : Memref sig .scVector .vmem ⟨1, ![N]⟩ e} {off : Fin 1 → ℕ}
    {hoff : ∀ a, off a + S16.size a ≤ (⟨1, ![N]⟩ : Shape).size a} {w : S16.Idx → Elt F e}
    {hx : (mr.access (Rect.unit (s := ⟨1, ![N]⟩) off S16.size hoff)).Stores Finset.univ} {hm}
    {α : Type} {k : PUnit → TP F i α} {v : (⟨1, ![N]⟩ : Shape).Idx → Elt F e} {Q : α → sProp 𝕄} :
    Holds d i mr fullShare v ⊢ iprop((Holds d i mr fullShare (putRow v (off 0) w) -∗ wpT d i (k ⟨⟩) Q)
      -∗ wpT d i (Prog.lift (.store mr (Rect.unit (s := ⟨1, ![N]⟩) off S16.size hoff) w Finset.univ hx hm) >>= k) Q) := by
  unfold Holds
  iintro ⟨%f, %hf, H⟩ Hk
  iapply (wp_store (defs := defs₀ (F := F)) 𝒱₀ (thr d i) none Set.univ (Q := Q) (m := mr) (r := Rect.unit (s := ⟨1, ![N]⟩) off S16.size hoff) (w := w) (Mk := Finset.univ)
    (hx := hx) (hm := hm) (k := k) (f := f) (S := Finset.univ) (Finset.subset_univ _)) $$ H; iintro H
  iapply Hk
  iexists (View.write (Elt F) (mr.access (Rect.unit (s := ⟨1, ![N]⟩) off S16.size hoff)) f w Finset.univ)
  isplitr
  · ipureintro
    subst hf
    funext y
    unfold putRow
    split
    · next hh =>
      have hy : y = (Rect.unit (s := ⟨1, ![N]⟩) off S16.size hoff).emb (ix1 ((y 0).val - off 0) (by omega)) := by
        funext a; apply Fin.ext; obtain rfl := Fin.eq_zero a
        show (y 0).val = off 0 + 1 * ((y 0).val - off 0); omega
      conv_lhs => rw [hy]
      exact View.read_slice_write_emb (v := mr.view) (Rect.unit (s := ⟨1, ![N]⟩) off S16.size hoff) f w (Finset.mem_univ _)
    · next hh =>
      refine View.read_slice_write_of_not_mem (v := mr.view) (Rect.unit (s := ⟨1, ![N]⟩) off S16.size hoff) f w Finset.univ fun hm => hh ?_
      obtain ⟨x, -, rfl⟩ := Finset.mem_map.mp hm
      have : (x 0).val < 16 := (x 0).isLt
      show off 0 ≤ off 0 + 1 * (x 0).val ∧ off 0 + 1 * (x 0).val < off 0 + 16
      omega
  iexact H

theorem putRow_whole {α : Type} (h w : S16.Idx → α) : putRow (N := 16) h 0 w = w := by
  funext y
  have hy : (y 0).val < 16 := (y 0).isLt
  unfold putRow; rw [dif_pos ⟨Nat.zero_le _, by omega⟩]
  congr 1; funext a; apply Fin.ext; obtain rfl := Fin.eq_zero a; rfl

/-- An indexed store, or addition. -/
theorem wp_scatterH {n : Fin 1 → Nat} {s : Shape} {e : EltTy} {mr : Memref sig .scVector .vmem s e} {idxs : Fin s.rank → IVec ⟨1, n⟩ 32} {w : Vec F ⟨1, n⟩ e}
    {mask : IVec ⟨1, n⟩ 1} {add : Bool} {h : ∀ a x, (idxs a x).toNat < s.size a} {hs : (mr.access (.whole s)).Stores Finset.univ}
    {α : Type} {k : PUnit → TP F i α} {v : s.Idx → Elt F e} {Q : α → sProp 𝕄} :
    Holds d i mr fullShare v ⊢ iprop((Holds d i mr fullShare (storeIdx v idxs w mask add h) -∗ wpT d i (k ⟨⟩) Q)
      -∗ wpT d i (SparseCore.vectorStoreIdx mr idxs w mask add h hs >>= k) Q) := by
  unfold Holds
  have hemb : ∀ x, (mr.access (.whole s)).emb x = mr.view.emb x := fun x => by
    show mr.view.emb ((Rect.whole s).emb x) = mr.view.emb x
    congr 1; funext a; apply Fin.ext; simp [Rect.whole]
  have hrd : ∀ f : mr.view.ty.Contents (Elt F), (mr.access (.whole s)).read (Elt F) f = mr.view.read (Elt F) f := fun f => by
    funext x; rw [View.read_apply, View.read_apply, hemb]
  unfold wpT
  rw [show (SparseCore.vectorStoreIdx mr idxs w mask add h hs >>= k : TP F i α)
      = .op (.load mr (.whole s) (View.loadsAt_rect hs.loads)) (fun f => .op (.store mr (.whole s) (storeIdx f idxs w mask add h) Finset.univ hs (.inl rfl)) k) from rfl]
  iintro ⟨%f, %hf, H⟩ Hk
  iapply (wp_load_rect (defs := defs₀ (F := F)) 𝒱₀ (thr d i) none Set.univ (Q := Q) (m := mr) (r := Rect.whole s) (hl := View.loadsAt_rect hs.loads)
    (k := fun f' => .op (.store mr (.whole s) (storeIdx f' idxs w mask add h) Finset.univ hs (.inl rfl)) k)
    (q := fullShare) (f := f) (S := Finset.univ) (Finset.subset_univ _)) $$ H
  iintro H
  iapply (wp_store (defs := defs₀ (F := F)) 𝒱₀ (thr d i) none Set.univ (Q := Q) (m := mr) (r := .whole s) (Mk := Finset.univ)
    (hx := hs) (hm := .inl rfl) (k := k) (f := f) (S := Finset.univ) (Finset.subset_univ _)) $$ H
  iintro H
  iapply Hk
  iexists ((mr.access (.whole s)).write (Elt F) f (storeIdx ((mr.access (.whole s)).read (Elt F) f) idxs w mask add h) Finset.univ)
  isplitr
  · ipureintro
    rw [hrd, hf]
    refine (hrd _).symm.trans ?_
    exact View.read_write_univ _ _
  iexact H

end Cert.KernelIdeal.Tile
-- ==== Proof.Mol.lean ====
/- One molecule of a tile: the step of a row of bond types, the rows together, the two scatters of sixteen columns, and
   the whole of a molecule, each from the buffers it reads to what `Spec` says of them. -/
module

public import proofs.«01_k».proof.Proof.Res

@[expose] public section

noncomputable section

namespace Cert.KernelIdeal.Tile

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The row loop's counts and offsets, for molecules of at most 64 atoms -/

theorem word_of {w : BitVec 32} (hw : w.toNat ≤ 64) : ∃ n : Fin 65, w = BitVec.ofNat 32 n.val :=
  ⟨⟨w.toNat, by omega⟩, by simp⟩

theorem trips_t4 {w : BitVec 32} (hw : w.toNat ≤ 64) : (k0_t4_loop w).trips = w.toNat := by
  obtain ⟨n, rfl⟩ := word_of hw
  rw [(by decide +kernel : ∀ n : Fin 65, (k0_t4_loop (BitVec.ofNat 32 n.val)).trips = n.val) n]
  simp; omega

theorem trips_t5 {w : BitVec 32} (hw : w.toNat ≤ 64) : (k0_t5_loop w).trips = 0 := by
  obtain ⟨n, rfl⟩ := word_of hw
  exact (by decide +kernel : ∀ n : Fin 65, (k0_t5_loop (BitVec.ofNat 32 n.val)).trips = 0) n

theorem chk3_of {w : BitVec 32} (hw : w.toNat ≤ 64) : k0_chk3 w := by
  obtain ⟨n, rfl⟩ := word_of hw
  exact (by decide +kernel : ∀ n : Fin 65, k0_chk3 (BitVec.ofNat 32 n.val)) n

theorem off8_of {w : BitVec 32} (hw : w.toNat ≤ 64) (t : Fin (k0_t4_loop w).trips) : k0_off8 w t = ![t.val * 64] := by
  obtain ⟨n, rfl⟩ := word_of hw
  exact (by decide +kernel : ∀ n : Fin 65, ∀ t : Fin (k0_t4_loop (BitVec.ofNat 32 n.val)).trips, k0_off8 (BitVec.ofNat 32 n.val) t = ![t.val * 64]) n t
theorem off9_of {w : BitVec 32} (hw : w.toNat ≤ 64) (t : Fin (k0_t4_loop w).trips) : k0_off9 w t = ![t.val * 64 + 16] := by
  obtain ⟨n, rfl⟩ := word_of hw
  exact (by decide +kernel : ∀ n : Fin 65, ∀ t : Fin (k0_t4_loop (BitVec.ofNat 32 n.val)).trips, k0_off9 (BitVec.ofNat 32 n.val) t = ![t.val * 64 + 16]) n t
theorem off10_of {w : BitVec 32} (hw : w.toNat ≤ 64) (t : Fin (k0_t4_loop w).trips) : k0_off10 w t = ![t.val * 64 + 32] := by
  obtain ⟨n, rfl⟩ := word_of hw
  exact (by decide +kernel : ∀ n : Fin 65, ∀ t : Fin (k0_t4_loop (BitVec.ofNat 32 n.val)).trips, k0_off10 (BitVec.ofNat 32 n.val) t = ![t.val * 64 + 32]) n t
theorem off11_of {w : BitVec 32} (hw : w.toNat ≤ 64) (t : Fin (k0_t4_loop w).trips) : k0_off11 w t = ![t.val * 64 + 48] := by
  obtain ⟨n, rfl⟩ := word_of hw
  exact (by decide +kernel : ∀ n : Fin 65, ∀ t : Fin (k0_t4_loop (BitVec.ofNat 32 n.val)).trips, k0_off11 (BitVec.ofNat 32 n.val) t = ![t.val * 64 + 48]) n t

theorem iv_nat (k : ℕ) : Scf.iv 0#32 1#32 k = BitVec.ofNat 32 k := by
  simp [Scf.iv]

/-! ## The vectors read -/

/-- A load of sixteen elements reads the words from its offset. -/
theorem load_words {N : ℕ} (v : (⟨1, ![N]⟩ : Shape).Idx → BitVec 32) (off : Fin 1 → ℕ) (o : ℕ) (ho : off = ![o])
    (hoff : ∀ a, off a + S16.size a ≤ (⟨1, ![N]⟩ : Shape).size a) :
    (fun x => v ((Rect.unit (s := ⟨1, ![N]⟩) off S16.size hoff).toLoadRect.idx x)) = words (N := N) v o := by
  subst ho
  funext x
  have hb : o + 16 ≤ N := hoff 0
  have hx : (x 0).val < 16 := (x 0).isLt
  unfold words at1
  rw [dif_pos (by omega : o + (x 0).val < N)]
  congr 1; funext a; apply Fin.ext; obtain rfl := Fin.eq_zero a
  show o + 1 * (x 0).val = o + (x 0).val; omega

theorem gather_at1 {N : ℕ} (v : (⟨1, ![N]⟩ : Shape).Idx → BitVec 32) (e : IVec S16 32)
    (h : ∀ a x, ((![e] : Fin 1 → IVec S16 32) a x).toNat < (⟨1, ![N]⟩ : Shape).size a) :
    loadIdx (F := F) (s := ⟨1, ![N]⟩) (e := .i32) v ![e] h = fun x => at1 (N := N) v (e x).toNat := by
  funext x
  have hb : (e x).toNat < N := h 0 x
  unfold at1
  rw [dif_pos hb]
  show v _ = v _
  congr 1; funext a; apply Fin.ext; obtain rfl := Fin.eq_zero a; rfl

theorem words_lt {N : ℕ} {v : (⟨1, ![N]⟩ : Shape).Idx → BitVec 32} {b : ℕ} (hb : 0 < b) (hv : ∀ x, (v x).toNat < b) (o : ℕ) (x : S16.Idx) :
    (words v o x).toNat < b := by
  unfold words at1; split
  · exact hv _
  · simpa using hb

theorem chk4_of {e : IVec S16 32} (h : ∀ x, (e x).toNat < 5) : k0_chk4 e := by
  intro a x; obtain rfl := Fin.eq_zero a
  exact lt_trans (h x) (by decide)

theorem lanes_val (x : S16.Idx) : (lanes x).toNat = (x 0).val := by
  have hx : (x 0).val < 16 := (x 0).isLt
  show (BitVec.ofNat 32 (0 * 16 + (x 0).val)).toNat = (x 0).val
  rw [BitVec.toNat_ofNat]; omega

theorem lanes_lt (x : S16.Idx) : (lanes x).toNat < 16 := by
  rw [lanes_val]; exact (x 0).isLt

theorem chk12_node {a : IVec S16 32} (h : ∀ x, (a x).toNat < 16) : k0_chk12 (k0_pay111 (F := F) lanes a) := by
  intro b x; obtain rfl := Fin.eq_zero b
  show (IntOp.addi (IntOp.muli (IntOp.addi 65#32 (a x)) 16#32) (lanes x)).toNat < 4608
  have hl := lanes_lt x
  have := h x
  simp only [IntOp.addi, IntOp.muli, BitVec.toNat_add, BitVec.toNat_mul, BitVec.toNat_ofNat]
  omega

theorem chk12_n {a : IVec S16 32} (h : ∀ x, (a x).toNat < 65) : k0_chk12 (k0_pay284 (F := F) lanes a) := by
  intro b x; obtain rfl := Fin.eq_zero b
  show (IntOp.addi (IntOp.muli (IntOp.addi 0#32 (a x)) 16#32) (lanes x)).toNat < 4608
  have hl := lanes_lt x
  have := h x
  simp only [IntOp.addi, IntOp.muli, BitVec.toNat_add, BitVec.toNat_mul, BitVec.toNat_ofNat]
  omega

/-- A word clamped to 0 … 189. -/
def clip189 (w : BitVec 32) : BitVec 32 := IntOp.minsi 189#32 (IntOp.maxsi 0#32 w)

theorem clip189_lt (w : BitVec 32) : (clip189 w).toNat < 190 := by
  unfold clip189 IntOp.minsi IntOp.maxsi
  simp only [BitVec.slt_iff_toInt_lt, BitVec.sle_iff_toInt_le]
  have h1 := BitVec.toInt_eq_toNat_cond w
  split <;> split <;> simp_all <;> omega

theorem chk12_val (acc : FVec F S16 .f32) : k0_chk12 (k0_pay110 lanes acc) := by
  intro b x; obtain rfl := Fin.eq_zero b
  show (IntOp.addi (IntOp.muli (IntOp.addi 86#32 (clip189 (fptosi 32 acc x))) 16#32) (lanes x)).toNat < 4608
  have hl := lanes_lt x
  have := clip189_lt (fptosi 32 acc x)
  simp only [IntOp.addi, IntOp.muli, BitVec.toNat_add, BitVec.toNat_mul, BitVec.toNat_ofNat]
  omega

theorem chk2_of {m : ℕ} (h : m < 256) : k0_chk2 (broadcast S16 (BitVec.ofNat 32 m)) := by
  intro b x; obtain rfl := Fin.eq_zero b
  show (BitVec.ofNat 32 m).toNat < 256
  rw [BitVec.toNat_ofNat]; omega

/-- The number of rows, found as the largest of sixteen equal molecule sizes. -/
theorem rows_eq (w : BitVec 32) : extractAt ![15] (k0_pay97 (F := F) (broadcast S16 w)) inpos_S16_p15 = w := by
  have hl : ∀ l : List (Fin 16), l.foldl (fun r k => (ScanKind.max).step r (IntOp.xori w 2147483648#32)) (IntOp.xori w 2147483648#32) = IntOp.xori w 2147483648#32 := by
    intro l
    induction l with
    | nil => rfl
    | cons a l ih =>
      rw [List.foldl_cons, show (ScanKind.max).step (IntOp.xori w 2147483648#32) (IntOp.xori w 2147483648#32) = IntOp.xori w 2147483648#32 from by
        show IntOp.maxui _ _ = _
        unfold IntOp.maxui; split <;> rfl]
      exact ih
  show IntOp.xori (List.foldl _ _ _) 2147483648#32 = w
  refine (congrArg (IntOp.xori · 2147483648#32) (hl _)).trans ?_
  simp [IntOp.xori, BitVec.xor_assoc]

/-! ## Steps -/

variable (d : Dev nD) (i : grid0.Coords)
variable {eb : Memref sig .scVector .vmem S4096 .i32} {wt : Memref sig .scVector .vmem S16 .i32} {ab : Memref sig .scVector .vmem S16384 .i32}
  {nb : Memref sig .scVector .vmem S256 .i32} {hi : Memref sig .scVector .vmem S4608 .f32}

/-- A row of a molecule. -/
theorem wp_row {ev : Vec F S4096 .i32} (hev : ∀ x, (ev x).toNat < 5) (w : BitVec 32) (ns : BitVec 32) (hns : ns.toNat ≤ 64) (hw : k0_chk3 ns)
    (t : Fin (k0_t4_loop ns).trips) (st : RowSt F) :
    iprop(Holds (F := F) d i eb fullShare ev ∗ Holds (F := F) d i wt fullShare k0_pay282)
      ⊢ wpT d i (rowP i eb wt jv0 jv1 jv2 jv3 k0_pay293 (broadcast S16 w) ns hw t st)
          (fun st' => iprop(⌜st' = rowV ev (broadcast S16 w) t.val st⌝ ∗ Holds d i eb fullShare ev ∗ Holds d i wt fullShare k0_pay282)) := by
  obtain ⟨a0, a1, a2, a3, pk⟩ := st
  iintro ⟨E, W⟩
  unfold rowP
  have l0 := load_words (N := 4096) ev _ _ (off8_of hns t) (k0_off8_inb ns hw t)
  have l1 := load_words (N := 4096) ev _ _ (off9_of hns t) (k0_off9_inb ns hw t)
  have l2 := load_words (N := 4096) ev _ _ (off10_of hns t) (k0_off10_inb ns hw t)
  have l3 := load_words (N := 4096) ev _ _ (off11_of hns t) (k0_off11_inb ns hw t)
  have c := fun o => chk4_of (e := words (N := 4096) ev o) (words_lt (by decide) hev o)
  iapply (wp_loadH d i (v := ev)) $$ E; iintro E
  rw [l0]
  iapply (wp_assumeH d i (c _))
  iapply (wp_gatherH d i) $$ W; iintro W
  iapply (wp_loadH d i (v := ev)) $$ E; iintro E
  rw [l1]
  iapply (wp_assumeH d i (c _))
  iapply (wp_gatherH d i) $$ W; iintro W
  iapply (wp_loadH d i (v := ev)) $$ E; iintro E
  rw [l2]
  iapply (wp_assumeH d i (c _))
  iapply (wp_gatherH d i) $$ W; iintro W
  iapply (wp_loadH d i (v := ev)) $$ E; iintro E
  rw [l3]
  iapply (wp_assumeH d i (c _))
  iapply (wp_gatherH d i) $$ W; iintro W
  rw [gather_at1, gather_at1, gather_at1, gather_at1]
  iapply le_wp_ret
  iframe
  ipureintro
  have hiv := iv_nat t.val
  unfold rowV pkV keep
  rw [← hiv]
  rfl

/-- The rows of a molecule of `w` atoms, with whatever the four columns' step continues with. -/
theorem wp_rows {ev : Vec F S4096 .i32} (hev : ∀ x, (ev x).toNat < 5) (w : BitVec 32) (hns : w.toNat ≤ 64) (hw : k0_chk3 w)
    {α : Type} {k : RowSt F → TP F i α} {Q : α → sProp 𝕄} :
    iprop(Holds (F := F) d i eb fullShare ev ∗ Holds (F := F) d i wt fullShare k0_pay282)
      ⊢ iprop((Holds d i eb fullShare ev ∗ Holds d i wt fullShare k0_pay282 -∗ wpT d i (k (rowsV ev (broadcast S16 w) w.toNat)) Q)
        -∗ wpT d i (Scf.Loop.for (k0_t4_loop w) (k0_t4_ok w hw) (k0_pay289, k0_pay290, k0_pay291, k0_pay292, k0_pay293)
            (rowP i eb wt jv0 jv1 jv2 jv3 k0_pay293 (broadcast S16 w) w hw) >>= k) Q) := by
  iintro ⟨E, W⟩ Hk
  iapply (Scf.wp_for_bind frame (wpE (defs₀ (F := F)) 𝒱₀ (thr d i) none) Set.univ _ _ _ (k0_t4_ok w hw) _ _
    (fun n st => iprop(⌜st = rowsV ev (broadcast S16 w) n⌝ ∗ Holds d i eb fullShare ev ∗ Holds d i wt fullShare k0_pay282)) ?hbody) $$ [E W]
  case hbody =>
    intro t st
    iintro ⟨%h, E, W⟩
    subst h
    iapply (wp_row d i hev w w hns hw t _)
    isplitl [E] <;> iassumption
  · isplitr; · ipureintro; rfl
    isplitl [E] <;> iassumption
  · iintro %st ⟨%h, E, W⟩
    have ht : (k0_t4_loop w).trips = w.toNat := trips_t4 hns
    rw [show Scf.trips (k0_t4_loop w).lb (k0_t4_loop w).ub (k0_t4_loop w).st = w.toNat from ht] at h
    subst h
    iapply Hk
    isplitl [E] <;> iassumption

/-- The printed remainder loop over rows does nothing. -/
theorem wp_rem (w : BitVec 32) (hns : w.toNat ≤ 64) (hw : k0_chk3 w) (nv : Vec F S16 .i32) (st : RowSt F)
    {α : Type} {k : RowSt F → TP F i α} {Q : α → sProp 𝕄} :
    wpT d i (k st) Q ⊢ wpT d i (Scf.Loop.for (k0_t5_loop w) (k0_t5_ok w hw) st (rowRemP i eb wt jv0 jv1 jv2 jv3 k0_pay293 nv w hw) >>= k) Q := by
  iintro Hk
  have ht : (k0_t5_loop w).trips = 0 := trips_t5 hns
  iapply (Scf.wp_for_bind frame (wpE (defs₀ (F := F)) 𝒱₀ (thr d i) none) Set.univ _ _ _ (k0_t5_ok w hw) _ _
    (fun n st' => iprop(⌜st' = st⌝)) ?hbody)
  case hbody =>
    intro t
    exact absurd (lt_of_lt_of_eq t.isLt ht) (by omega)
  · ipureintro; rfl
  · iintro %st' %h
    subst h
    iexact Hk

theorem scat_of (h : Vec F S4608 .f32) {iv : IVec S16 32} (mask : IVec S16 1) (hh : k0_chk12 iv) :
    storeIdx h ![iv] (k0_pay281 (F := F)) mask true (k0_idx11_inb iv hh) = scat h iv mask := by
  unfold scat; rw [dif_pos hh]

/-- Sixteen columns of a molecule. -/
theorem wp_col {av : Vec F S16384 .i32} (hav : ∀ x, (av x).toNat < 16) (mask : IVec S16 1) (acc : FVec F S16 .f32)
    (off : Fin 1 → ℕ) (hoff : ∀ a, off a + S16.size a ≤ S16384.size a) (o : ℕ) (ho : off = ![o]) (h : Vec F S4608 .f32)
    {α : Type} {k : PUnit → TP F i α} {Q : α → sProp 𝕄} :
    iprop(Holds (F := F) d i ab fullShare av ∗ Holds (F := F) d i hi fullShare h)
      ⊢ iprop((Holds d i ab fullShare av ∗ Holds d i hi fullShare (colV h (words (N := 16384) av o) mask acc) -∗ wpT d i (k ⟨⟩) Q)
        -∗ wpT d i (colP i ab hi k0_pay281 lanes mask acc off hoff >>= k) Q) := by
  iintro ⟨A, H⟩ Hk
  unfold colP
  simp only [bind_assoc]
  have l0 := load_words (N := 16384) av _ _ ho hoff
  have c := chk12_node (F := F) (words_lt (by decide) hav o)
  iapply (wp_assumeH d i (chk12_val acc))
  iapply (wp_scatterH d i) $$ H; iintro H
  iapply (wp_loadH d i (v := av)) $$ A; iintro A
  rw [l0]
  iapply (wp_assumeH d i c)
  iapply (wp_scatterH d i) $$ H; iintro H
  rw [scat_of _ _ c, scat_of _ _ (chk12_val acc)]
  unfold colV
  iapply Hk
  isplitl [A] <;> iassumption

/-- A molecule from its number of rows on. -/
def tailP (i : grid0.Coords) (eb : Memref sig .scVector .vmem S4096 .i32) (ab : Memref sig .scVector .vmem S16384 .i32)
    (hi : Memref sig .scVector .vmem S4608 .f32) (wt : Memref sig .scVector .vmem S16 .i32)
    (off : Fin 4 → Fin 1 → ℕ) (hoff : ∀ c a, off c a + S16.size a ≤ S16384.size a) (cnts : Cnts F) (nv : Vec F S16 .i32) (ns : BitVec 32) : TP F i (Cnts F) := do
  have hw : k0_chk3 ns := (← Prog.lift (TpuEff.assume (k0_chk3 ns) (k0_chk3.dec ns))).down
  let (b0, b1, b2, b3, b4) ← Scf.Loop.for (k0_t4_loop ns) (k0_t4_ok ns hw) (k0_pay289, k0_pay290, k0_pay291, k0_pay292, k0_pay293)
    (rowP i eb wt jv0 jv1 jv2 jv3 k0_pay293 nv ns hw)
  let (s0, s1, s2, s3, s4) ← Scf.Loop.for (k0_t5_loop ns) (k0_t5_ok ns hw) (b0, b1, b2, b3, b4) (rowRemP i eb wt jv0 jv1 jv2 jv3 k0_pay293 nv ns hw)
  let _ ← colP i ab hi k0_pay281 lanes (k0_pay98 jv0 nv) s0 (off 0) (hoff 0)
  let _ ← colP i ab hi k0_pay281 lanes (k0_pay99 jv1 nv) s1 (off 1) (hoff 1)
  let _ ← colP i ab hi k0_pay281 lanes (k0_pay100 jv2 nv) s2 (off 2) (hoff 2)
  let _ ← colP i ab hi k0_pay281 lanes (k0_pay101 jv3 nv) s3 (off 3) (hoff 3)
  pure (k0_pay106 cnts.1 s4, k0_pay107 cnts.2.1 s4, k0_pay108 cnts.2.2.1 s4, k0_pay109 cnts.2.2.2 s4)

theorem molP_tail (mb : BitVec 32) (off : Fin 4 → Fin 1 → ℕ) (hoff : ∀ c a, off c a + S16.size a ≤ S16384.size a) (cnts : Cnts F) :
    molP i eb ab nb hi wt k0_pay281 lanes jv0 jv1 jv2 jv3 k0_pay289 k0_pay290 k0_pay291 k0_pay292 k0_pay293 mb off hoff cnts
      = (Prog.lift (TpuEff.assume (k0_chk2 (broadcast S16 mb)) (k0_chk2.dec (broadcast S16 mb))) >>= fun h2 =>
          SparseCore.vectorLoadIdx nb ![broadcast S16 mb] (k0_idx2_inb (broadcast S16 mb) h2.down) (View.loads_vmem h_S256) >>= fun nv =>
          tailP i eb ab hi wt off hoff cnts nv (extractAt ![15] (k0_pay97 nv) inpos_S16_p15)) := rfl

theorem wp_tail {ev : Vec F S4096 .i32} (hev : ∀ x, (ev x).toNat < 5) {av : Vec F S16384 .i32} (hav : ∀ x, (av x).toNat < 16)
    {nv : Vec F S256 .i32} (m : ℕ) (hw64 : (at1 (N := 256) nv m).toNat ≤ 64)
    (off : Fin 4 → Fin 1 → ℕ) (hoff : ∀ c a, off c a + S16.size a ≤ S16384.size a) (ho : ∀ c : Fin 4, off c = ![m * 64 + c.val * 16])
    (ns : BitVec 32) (hns : ns = at1 (N := 256) nv m) (h : Vec F S4608 .f32) (cnts : Cnts F) {α : Type} {k : Cnts F → TP F i α} {Q : α → sProp 𝕄} :
    iprop(Holds (F := F) d i eb fullShare ev ∗ Holds (F := F) d i ab fullShare av
        ∗ Holds (F := F) d i hi fullShare h ∗ Holds (F := F) d i wt fullShare k0_pay282)
      ⊢ iprop((Holds d i eb fullShare ev ∗ Holds d i ab fullShare av
          ∗ Holds d i hi fullShare (molV ev av nv m (h, cnts)).1 ∗ Holds d i wt fullShare k0_pay282 -∗ wpT d i (k (molV ev av nv m (h, cnts)).2) Q)
        -∗ wpT d i (tailP i eb ab hi wt off hoff cnts (broadcast S16 (at1 (N := 256) nv m)) ns >>= k) Q) := by
  subst hns
  iintro ⟨E, A, H, W⟩ Hk
  unfold tailP
  simp only [bind_assoc]
  iapply (wp_assumeH d i (chk3_of hw64))
  ihave EW : iprop(Holds (F := F) d i eb fullShare ev ∗ Holds (F := F) d i wt fullShare k0_pay282) $$ [E W]
  · isplitl [E] <;> iassumption
  iapply (wp_rows d i hev _ hw64 _) $$ EW; iintro ⟨E, W⟩
  iapply (wp_rem d i _ hw64)
  ihave AH : iprop(Holds (F := F) d i ab fullShare av ∗ Holds (F := F) d i hi fullShare h) $$ [A H]
  · isplitl [A] <;> iassumption
  iapply (wp_col d i hav _ _ _ _ _ (ho 0)) $$ AH; iintro AH
  iapply (wp_col d i hav _ _ _ _ _ (ho 1)) $$ AH; iintro AH
  iapply (wp_col d i hav _ _ _ _ _ (ho 2)) $$ AH; iintro AH
  iapply (wp_col d i hav _ _ _ _ _ (ho 3)) $$ AH; iintro ⟨A, H⟩
  iapply Hk
  isplitl [E]; · iexact E
  isplitl [A]; · iexact A
  isplitl [H]; · iexact H
  iexact W

/-- The whole of a molecule. -/
theorem wp_mol {ev : Vec F S4096 .i32} (hev : ∀ x, (ev x).toNat < 5) {av : Vec F S16384 .i32} (hav : ∀ x, (av x).toNat < 16)
    {nv : Vec F S256 .i32} (hnv : ∀ x, (nv x).toNat < 65) (m : ℕ) (hm : m < 256)
    (off : Fin 4 → Fin 1 → ℕ) (hoff : ∀ c a, off c a + S16.size a ≤ S16384.size a) (ho : ∀ c : Fin 4, off c = ![m * 64 + c.val * 16])
    (mb : BitVec 32) (hmb : mb = BitVec.ofNat 32 m)
    (h : Vec F S4608 .f32) (cnts : Cnts F) {α : Type} {k : Cnts F → TP F i α} {Q : α → sProp 𝕄} :
    iprop(Holds (F := F) d i eb fullShare ev ∗ Holds (F := F) d i ab fullShare av ∗ Holds (F := F) d i nb fullShare nv
        ∗ Holds (F := F) d i hi fullShare h ∗ Holds (F := F) d i wt fullShare k0_pay282)
      ⊢ iprop((Holds d i eb fullShare ev ∗ Holds d i ab fullShare av ∗ Holds d i nb fullShare nv
          ∗ Holds d i hi fullShare (molV ev av nv m (h, cnts)).1 ∗ Holds d i wt fullShare k0_pay282 -∗ wpT d i (k (molV ev av nv m (h, cnts)).2) Q)
        -∗ wpT d i (molP i eb ab nb hi wt k0_pay281 lanes jv0 jv1 jv2 jv3 k0_pay289 k0_pay290 k0_pay291 k0_pay292 k0_pay293 mb off hoff cnts >>= k) Q) := by
  subst hmb
  iintro ⟨E, A, N, H, W⟩ Hk
  rw [molP_tail]
  simp only [bind_assoc]
  iapply (wp_assumeH d i (chk2_of hm))
  iapply (wp_gatherH d i) $$ N; iintro N
  rw [gather_at1]
  have hme : (fun x : S16.Idx => at1 (N := 256) nv ((broadcast S16 (BitVec.ofNat 32 m) : IVec S16 32) x).toNat) = broadcast S16 (at1 (N := 256) nv m) := by
    funext x
    show at1 (N := 256) nv (BitVec.ofNat 32 m).toNat = at1 (N := 256) nv m
    rw [BitVec.toNat_ofNat, Nat.mod_eq_of_lt (by omega)]
  rw [hme]
  have hw64 : (at1 (N := 256) nv m).toNat ≤ 64 := by
    unfold at1; rw [dif_pos hm]; exact Nat.le_of_lt_succ (hnv _)
  ihave R : iprop(Holds (F := F) d i eb fullShare ev ∗ Holds (F := F) d i ab fullShare av
        ∗ Holds (F := F) d i hi fullShare h ∗ Holds (F := F) d i wt fullShare k0_pay282) $$ [E A H W]
  · isplitl [E]; · iexact E
    isplitl [A]; · iexact A
    isplitl [H]; · iexact H
    iexact W
  iapply (wp_tail d i hev hav m hw64 off hoff ho _ (rows_eq _) h cnts) $$ R; iintro ⟨E, A, H, W⟩
  iapply Hk
  isplitl [E]; · iexact E
  isplitl [A]; · iexact A
  isplitl [N]; · iexact N
  isplitl [H]; · iexact H
  iexact W

end Cert.KernelIdeal.Tile
-- ==== Proof.Ring.lean ====
/- The ring of eight row buffers: a slot that is idle, a slot whose row is on its way, the start and the wait between
   them, and one molecule of the ring: wait for its row, start the row seven on, and process. -/
module

public import proofs.«01_k».proof.Proof.Mol
public import Idealize.ShloMosaic.Lib.SparseCore.FromWhole

@[expose] public section

noncomputable section

namespace Cert.KernelIdeal.Tile

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)

variable {F : FTy → Type} [FloatOps F]

local notation "𝕄" => MT nD τ sig (HIx 1) (Elt F) ℕ UU ℕ

/-! ## Rows of the bond matrix -/

/-- The element of row `r` (the last row, past it) in column `c`. -/
def eIx (r : ℕ) (c : Fin 4096) : S8192x4096.Idx := fun a =>
  ⟨(![min r 8191, c.val] : Fin 2 → ℕ) a, by
    match a with
    | 0 => exact lt_of_le_of_lt (Nat.min_le_right r 8191) (by decide)
    | 1 => exact c.isLt⟩

/-- A row of the bond matrix. -/
def rowOf (EV : S8192x4096.Idx → BitVec 32) (r : ℕ) : S4096.Idx → BitVec 32 := fun x => EV (eIx r (x 0))

/-- A tile's first molecule. -/
def base (i : grid0.Coords) : ℕ := 512 * (i 1).val + 256 * (i 0).val

theorem eRow_read (arg2 : Memref sig .scVector .hbm S8192x4096 .i32) (off : Fin 2 → ℕ) (hoff : ∀ a, off a + S1x4096.size a ≤ S8192x4096.size a)
    (r : ℕ) (ho : off = ![min r 8191, 0]) (f : arg2.view.ty.Contents (Elt F)) :
    (eRow arg2 off hoff).view.read (Elt F) f = rowOf (arg2.view.read (Elt F) f) r := by
  subst ho
  funext x
  rw [View.read_apply]
  unfold rowOf
  rw [View.read_apply]
  have he : (eRow arg2 ![min r 8191, 0] hoff).view.emb x = arg2.view.emb (eIx r (x 0)) := by
    show arg2.view.emb ((Rect.unit (s := S8192x4096) ![min r 8191, 0] S1x4096.size hoff).emb (Shape.reshapeEquiv _ x)) = _
    rw [Shape.reshapeEquiv_cons_one (d := ![4096])]
    congr 1
    funext a; apply Fin.ext
    match a with
    | 0 => show min r 8191 + 1 * 0 = min r 8191; omega
    | 1 => show 0 + 1 * (x 0).val = (x 0).val; omega
  rw [he]

variable (d : Dev nD) (i : grid0.Coords)

/-! ## Transfers -/

/-- What the tile owes, with evidence for its own waits; the waits it has made beyond `W0` are its own. -/
def OW (O : CellTallies nD τ sig (HIx 1)) (W0 : Waits sig (HIx 1)) : sProp 𝕄 :=
  iprop(∃ W' : Waits sig (HIx 1), ⌜∀ p ∈ W', p ∈ W0 ∨ p.2 = none⌝ ∗ owes (thr d i) O W' ∗ MayWaits (thr d i) none O)

/-- A transfer of the tile's into `dst`, delivering `D`. -/
abbrev Fly {s : Shape} {e : EltTy} {sp : Space} (dst : Memref sig .scVector sp s e) (sem : DmaSems sig S_) (D : sProp 𝕄) : sProp 𝕄 :=
  Flight countersEmb (thr d i) (.dma sem.sem) none dst.view.dmaCredit D

/-- Start a copy into a whole buffer. -/
theorem wp_startF {sp sp' : Space} {s : Shape} {e : EltTy} {src : Memref sig .scVector sp s e} {dst : Memref sig .scVector sp' s e} {sem : DmaSems sig S_}
    {hsrc : src.view.WordExact} {hdst : dst.view.WordExact} {hsem : DmaTarget.Typed (nD := nD) (τ := τ) (p := procOf i) sp (.dma sem.sem) (.here dst)} (hs : 0 < s.numel)
    {α : Type} {k : PUnit → TP F i α} {q : PosShare TreeShare} {f : Buf (Elt F) (src.view.loc (thr d i))} {v0 w : s.Idx → Elt F e}
    (hw : src.view.read (Elt F) f = w) {Q : α → sProp 𝕄} :
    iprop((src.view.loc (thr d i) ↦{q} f) ∗ Holds d i dst fullShare v0 ∗ semVal (thr d i, SemLoc.dma sem.sem) 0)
      ⊢ iprop((Fly d i dst sem iprop(Holds d i dst fullShare w ∗ (src.view.loc (thr d i) ↦{q} f)) -∗ wpT d i (k ⟨⟩) Q)
        -∗ wpT d i (Prog.lift (.enqueueDma src (.here dst) (.dma sem.sem) hsrc hdst hsem) >>= k) Q) := by
  unfold Holds
  iintro ⟨Hs, ⟨%g, -, Hd⟩, Hv⟩ Hk
  iapply (Transfers.wp_dmaFromWhole (defs := defs₀ (F := F)) countersEmb 𝒱₀ (thr d i) none (src := src) (dst := dst) (via := .same) (sm := .dma sem.sem) (hsrc := hsrc) (hdst := hdst) (hsem := hsem)
    (k := k) (Q := Q) (q := q) (fs := f) (Sd := Finset.univ) (fd := g) none dst.view.dmaCredit rfl (View.dmaCredit_pos _ hs) (Finset.subset_univ _)) $$ [Hs Hd Hv]
  · isplitl [Hs]; · iexact Hs
    isplitl [Hd]; · iexact Hd
    iexact Hv
  iintro Hf
  iapply Hk
  iapply (Transfers.Flight_mono countersEmb (thr d i) ?_) $$ Hf
  iintro ⟨Hd, Hs⟩
  isplitl [Hd]
  · iexists (dst.view.write (Elt F) g (src.view.read (Elt F) f) Finset.univ)
    isplitr
    · ipureintro; rw [← hw]; exact View.read_write_univ _ _
    iexact Hd
  iexact Hs

/-- Wait for a transfer. -/
theorem wp_waitF {sp sp' : Space} {s s' : Shape} {e e' : EltTy} {src : Memref sig .scVector sp' s' e'} {dst : Memref sig .scVector sp s e} {sem : DmaSems sig S_}
    {hsrc : src.view.WordExact} {hdst : dst.view.WordExact} {D : sProp 𝕄} {O : CellTallies nD τ sig (HIx 1)} {W0 : Waits sig (HIx 1)}
    {α : Type} {k : PUnit → TP F i α} {Q : α → sProp 𝕄} :
    iprop(Fly d i dst sem D ∗ OW d i O W0)
      ⊢ iprop((iprop(D ∗ semVal (thr d i, SemLoc.dma sem.sem) 0 ∗ OW d i O W0) -∗ wpT d i (k ⟨⟩) Q)
        -∗ wpT d i (Prog.lift (.waitDma2 sem.sem src dst hsrc hdst) >>= k) Q) := by
  unfold OW
  iintro ⟨Hf, ⟨%W', %hW, HO, #Hm⟩⟩ Hk
  iapply (Transfers.wp_waitLocalO (defs := defs₀ (F := F)) countersEmb 𝒱₀ (thr d i) none (srcw := src) (dstw := dst) (hsrc := hsrc) (hdst := hdst) (k := k) (Q := Q) none
    (rfl : dst.view.dmaCredit = _)) $$ [Hf HO]
  · isplitl [Hf]; · iexact Hf
    isplitl [HO]; · iexact HO
    iapply (MayWaits.elim (SemLoc.dma sem.sem)) $$ Hm
  iintro ⟨HD, Hv, HO⟩
  iapply Hk
  isplitl [HD]; · iexact HD
  isplitl [Hv]; · iexact Hv
  iexists (insert (SemLoc.dma sem.sem, none) W')
  isplitr
  · ipureintro
    intro p hp
    rcases Finset.mem_insert.mp hp with rfl | h
    · exact Or.inr rfl
    · exact hW p h
  isplitl [HO]; · iexact HO
  iexact Hm

/-! ## The slots -/

/-- A slot with nothing on its way. -/
def Idle (arg2 : Memref sig .scVector .hbm S8192x4096 .i32) (EV : S8192x4096.Idx → BitVec 32) (q : PosShare TreeShare)
    (eb : Memref sig .scVector .vmem S4096 .i32) (sem : DmaSems sig S_) : sProp 𝕄 :=
  iprop(∃ v : Vec F S4096 .i32, Holds (F := F) d i eb fullShare v ∗ Holds (F := F) d i arg2 q EV ∗ semVal (thr d i, SemLoc.dma sem.sem) 0)

/-- A slot with row `r` on its way. -/
def Going (arg2 : Memref sig .scVector .hbm S8192x4096 .i32) (EV : S8192x4096.Idx → BitVec 32) (q : PosShare TreeShare)
    (eb : Memref sig .scVector .vmem S4096 .i32) (sem : DmaSems sig S_) (r : ℕ) : sProp 𝕄 :=
  Fly d i eb sem iprop(Holds (F := F) d i eb fullShare (rowOf EV r) ∗ Holds (F := F) d i arg2 q EV)

variable {arg2 : Memref sig .scVector .hbm S8192x4096 .i32} {EV : S8192x4096.Idx → BitVec 32}

theorem wp_start {q : PosShare TreeShare} {eb : Memref sig .scVector .vmem S4096 .i32} {heb : eb.IsWhole} {sem : DmaSems sig S_} {off : Fin 2 → ℕ}
    {hoff : ∀ a, off a + S1x4096.size a ≤ S8192x4096.size a} (r : ℕ) (ho : off = ![min r 8191, 0])
    {α : Type} {k : PUnit → TP F i α} {Q : α → sProp 𝕄} :
    Idle (F := F) d i arg2 EV q eb sem
      ⊢ iprop((Going (F := F) d i arg2 EV q eb sem r -∗ wpT d i (k ⟨⟩) Q) -∗ wpT d i (startP i arg2 eb heb sem off hoff >>= k) Q) := by
  unfold Idle Going
  iintro ⟨%v, Hd, Ha, Hv⟩ Hk
  unfold Holds
  icases Ha with ⟨%f, %hf, Ha⟩
  unfold startP
  iapply (wp_startF d i (src := eRow arg2 off hoff) (dst := eb) (sem := sem) (q := q) (f := f) (v0 := v) (by decide) (eRow_read arg2 off hoff r ho f)) $$ [Hd Ha Hv]
  · unfold Holds
    isplitl [Ha]; · iexact Ha
    isplitl [Hd]; · iexact Hd
    iexact Hv
  iintro Hf
  iapply Hk
  iapply (Transfers.Flight_mono countersEmb (thr d i) ?_) $$ Hf
  iintro ⟨Hd, Hs⟩
  rw [show arg2.view.read (Elt F) f = EV from hf]
  unfold Holds
  isplitl [Hd]; · iexact Hd
  iexists f
  isplitr; · ipureintro; exact hf
  iexact Hs

theorem wp_wait {q : PosShare TreeShare} {eb : Memref sig .scVector .vmem S4096 .i32} {heb : eb.IsWhole} {sem : DmaSems sig S_} {off : Fin 2 → ℕ}
    {hoff : ∀ a, off a + S1x4096.size a ≤ S8192x4096.size a} (r : ℕ) {O : CellTallies nD τ sig (HIx 1)} {W0 : Waits sig (HIx 1)}
    {α : Type} {k : PUnit → TP F i α} {Q : α → sProp 𝕄} :
    iprop(Going (F := F) d i arg2 EV q eb sem r ∗ OW (F := F) d i O W0)
      ⊢ iprop((iprop(Holds (F := F) d i eb fullShare (rowOf EV r) ∗ Holds (F := F) d i arg2 q EV ∗ semVal (thr d i, SemLoc.dma sem.sem) 0 ∗ OW (F := F) d i O W0) -∗ wpT d i (k ⟨⟩) Q)
        -∗ wpT d i (waitP i arg2 eb heb sem off hoff >>= k) Q) := by
  unfold Going waitP
  iintro ⟨Hf, HO⟩ Hk
  iapply (wp_waitF d i (src := eRow arg2 off hoff) (dst := eb) (sem := sem)) $$ [Hf HO]
  · isplitl [Hf] <;> iassumption
  iintro ⟨⟨Hd, Ha⟩, Hv, HO⟩
  iapply Hk
  isplitl [Hd]; · iexact Hd
  isplitl [Ha]; · iexact Ha
  isplitl [Hv]; · iexact Hv
  iexact HO

/-! ## One molecule of the ring -/

variable {wt : Memref sig .scVector .vmem S16 .i32} {ab : Memref sig .scVector .vmem S16384 .i32}
  {nb : Memref sig .scVector .vmem S256 .i32} {hi : Memref sig .scVector .vmem S4608 .f32}

/-- The buffers that the processing of a molecule uses beside its row. -/
def Work (ab : Memref sig .scVector .vmem S16384 .i32) (nb : Memref sig .scVector .vmem S256 .i32) (hi : Memref sig .scVector .vmem S4608 .f32)
    (wt : Memref sig .scVector .vmem S16 .i32) (av : Vec F S16384 .i32) (nv : Vec F S256 .i32) (h : Vec F S4608 .f32) : sProp 𝕄 :=
  iprop(Holds (F := F) d i ab fullShare av ∗ Holds (F := F) d i nb fullShare nv ∗ Holds (F := F) d i hi fullShare h ∗ Holds (F := F) d i wt fullShare k0_pay282)

/-- The rows of a tile. -/
abbrev rowsOf (EV : S8192x4096.Idx → BitVec 32) (i : grid0.Coords) (m : ℕ) : Vec F S4096 .i32 := rowOf EV (base i + m)

theorem wp_step (hEV : ∀ x, (EV x).toNat < 5) {av : Vec F S16384 .i32} (hav : ∀ x, (av x).toNat < 16)
    {nv : Vec F S256 .i32} (hnv : ∀ x, (nv x).toNat < 65) (m : ℕ) (hm : m < 256)
    {q q' : PosShare TreeShare} {eb eb' : Memref sig .scVector .vmem S4096 .i32} {heb : eb.IsWhole} {heb' : eb'.IsWhole} {sem sem' : DmaSems sig S_}
    {offw offs : Fin 2 → ℕ} {hoffw : ∀ a, offw a + S1x4096.size a ≤ S8192x4096.size a} {hoffs : ∀ a, offs a + S1x4096.size a ≤ S8192x4096.size a}
    (hos : offs = ![min (base i + (m + 7)) 8191, 0])
    {off : Fin 4 → Fin 1 → ℕ} {hoff : ∀ c a, off c a + S16.size a ≤ S16384.size a} (ho : ∀ c : Fin 4, off c = ![m * 64 + c.val * 16])
    {mb : BitVec 32} (hmb : mb = BitVec.ofNat 32 m) {O : CellTallies nD τ sig (HIx 1)} {W0 : Waits sig (HIx 1)}
    {α : Type} {k : Cnts F → TP F i α} {Q : α → sProp 𝕄} :
    iprop(Going (F := F) d i arg2 EV q eb sem (base i + m) ∗ Idle (F := F) d i arg2 EV q' eb' sem' ∗ Work d i ab nb hi wt av nv (molsV (rowsOf EV i) av nv m).1 ∗ OW (F := F) d i O W0)
      ⊢ iprop((iprop(Idle (F := F) d i arg2 EV q eb sem ∗ Going (F := F) d i arg2 EV q' eb' sem' (base i + (m + 7))
            ∗ Work d i ab nb hi wt av nv (molsV (rowsOf EV i) av nv (m + 1)).1 ∗ OW (F := F) d i O W0) -∗ wpT d i (k (molsV (rowsOf EV i) av nv (m + 1)).2) Q)
        -∗ wpT d i (waitP i arg2 eb heb sem offw hoffw >>= fun _ => startP i arg2 eb' heb' sem' offs hoffs >>= fun _ =>
            molP i eb ab nb hi wt k0_pay281 lanes jv0 jv1 jv2 jv3 k0_pay289 k0_pay290 k0_pay291 k0_pay292 k0_pay293 mb off hoff (molsV (rowsOf EV i) av nv m).2 >>= k) Q) := by
  unfold Work
  iintro ⟨Hg, Hi, ⟨HA, HN, HH, HW⟩, HO⟩ Hk
  iapply (wp_wait d i (q := q) (base i + m)) $$ [Hg HO]
  · isplitl [Hg] <;> iassumption
  iintro ⟨HE, Ha, Hv, HO⟩
  iapply (wp_start d i (base i + (m + 7)) hos) $$ Hi
  iintro Hg
  iapply (wp_mol d i (ev := rowsOf EV i m) (fun x => hEV _) hav hnv m hm off hoff ho mb hmb (molsV (rowsOf EV i) av nv m).1 (molsV (rowsOf EV i) av nv m).2) $$ [HE HA HN HH HW]
  · isplitl [HE]; · iexact HE
    isplitl [HA]; · iexact HA
    isplitl [HN]; · iexact HN
    isplitl [HH]; · iexact HH
    iexact HW
  iintro ⟨HE, HA, HN, HH, HW⟩
  iapply Hk
  isplitl [HE Ha Hv]
  · unfold Idle
    iexists _
    isplitl [HE]; · iexact HE
    isplitl [Ha]; · iexact Ha
    iexact Hv
  isplitl [Hg]; · iexact Hg
  isplitr [HO]
  · isplitl [HA]; · iexact HA
    isplitl [HN]; · iexact HN
    isplitl [HH]; · iexact HH
    iexact HW
  iexact HO

end Cert.KernelIdeal.Tile
-- ==== Proof.Quad.lean ====
/- The printed body of the loop over groups of eight molecules is eight times the one step of `Prog`. -/
module

public import proofs.«01_k».proof.Proof.Prog

@[expose] public section

set_option synthInstance.maxSize 4096

noncomputable section

namespace Cert.KernelIdeal.Tile

open Cert.KernelIdeal Cert.KernelIdeal.Gen Idealize.ShloMosaic Idealize.SL.Sem

variable {F : FTy → Type} [FloatOps F]

set_option maxRecDepth 65536 in
set_option maxHeartbeats 40000000 in
/-- The printed group of eight molecules is `quadP`: the windows the printer cut it into are put together again. -/
theorem t3_body_eq (i : grid0.Coords) (arg2 : Memref sig .scVector .hbm S8192x4096 .i32) (harg2 : arg2.IsWhole) (arg3 : Memref sig .scVector .hbm S524288 .i32) (harg3 : arg3.IsWhole) (arg4 : Memref sig .scVector .hbm S8192 .i32) (harg4 : arg4.IsWhole) (arg5 : Memref sig .scVector .hbm S32x4608 .f32) (harg5 : arg5.IsWhole)
  (arg6 : Memref sig .scVector .vmem S4096 .i32) (harg6 : arg6.IsWhole) (arg7 : Memref sig .scVector .vmem S4096 .i32) (harg7 : arg7.IsWhole) (arg8 : Memref sig .scVector .vmem S4096 .i32) (harg8 : arg8.IsWhole) (arg9 : Memref sig .scVector .vmem S4096 .i32) (harg9 : arg9.IsWhole) (arg10 : Memref sig .scVector .vmem S4096 .i32) (harg10 : arg10.IsWhole) (arg11 : Memref sig .scVector .vmem S4096 .i32) (harg11 : arg11.IsWhole) (arg12 : Memref sig .scVector .vmem S4096 .i32) (harg12 : arg12.IsWhole) (arg13 : Memref sig .scVector .vmem S4096 .i32) (harg13 : arg13.IsWhole)
  (arg14 : Memref sig .scVector .vmem S16384 .i32) (harg14 : arg14.IsWhole) (arg15 : Memref sig .scVector .vmem S256 .i32) (harg15 : arg15.IsWhole) (arg16 : Memref sig .scVector .vmem S4608 .f32) (harg16 : arg16.IsWhole) (arg17 : Memref sig .scVector .vmem S16 .i32) (harg17 : arg17.IsWhole)
  (arg18 arg19 arg20 arg21 arg22 arg23 arg24 arg25 v117_r0 v117_r1 v117_r2 : DmaSems sig S_)
  (v2 : BitVec 32) (v4 : FVec F S16 .f32) (v5 v29 v31 v33 v35 : IVec S16 32) (v36 v37 v38 v39 : FVec F S16 .f32) (v40 : IVec S16 32)
  (t : Fin k0_t3_loop.trips) (cnts : Cnts F) :
  k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v117_r0 v117_r1 v117_r2 v2 v4 v5 v29 v31 v33 v35 v36 v37 v38 v39 v40 t cnts = quadP i arg2 arg6 harg6 arg7 harg7 arg8 harg8 arg9 harg9 arg10 harg10 arg11 harg11 arg12 harg12 arg13 harg13 arg14 arg15 arg16 arg17 arg18 arg19 arg20 arg21 arg22 arg23 arg24 arg25 v4 v5 v29 v31 v33 v35 v36 v37 v38 v39 v40 t cnts := by
  obtain ⟨c1, c2, c3, c4⟩ := cnts
  unfold k0_t3_body
  simp -implicitDefEqProofs (maxSteps := 100000000) only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, ↓bind_assoc, ↓pure_bind]
  simp -implicitDefEqProofs (maxSteps := 100000000) only [quadP, molP, colP, waitP, startP, ↓bind_assoc, ↓pure_bind]
  rfl

end Cert.KernelIdeal.Tile
-- ==== Proof.Loops.lean ====
/- The three loops of a tile: the histogram cleared, the molecule sizes counted, and the molecules eight at a time. -/
module

public import proofs.«01_k».proof.Proof.Ring
public import proofs.«01_k».proof.Proof.Quad

@[expose] public section

noncomputable section

namespace Cert.KernelIdeal.Tile

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)

variable {F : FTy → Type} [FloatOps F]

local notation "𝕄" => MT nD τ sig (HIx 1) (Elt F) ℕ UU ℕ

variable (d : Dev nD) (i : grid0.Coords)
  {arg2 : Memref sig .scVector .hbm S8192x4096 .i32} {harg2 : arg2.IsWhole} {arg3 : Memref sig .scVector .hbm S524288 .i32} {harg3 : arg3.IsWhole}
  {arg4 : Memref sig .scVector .hbm S8192 .i32} {harg4 : arg4.IsWhole} {arg5 : Memref sig .scVector .hbm S32x4608 .f32} {harg5 : arg5.IsWhole}
  {arg6 : Memref sig .scVector .vmem S4096 .i32} {harg6 : arg6.IsWhole} {arg7 : Memref sig .scVector .vmem S4096 .i32} {harg7 : arg7.IsWhole}
  {arg8 : Memref sig .scVector .vmem S4096 .i32} {harg8 : arg8.IsWhole} {arg9 : Memref sig .scVector .vmem S4096 .i32} {harg9 : arg9.IsWhole}
  {arg10 : Memref sig .scVector .vmem S4096 .i32} {harg10 : arg10.IsWhole} {arg11 : Memref sig .scVector .vmem S4096 .i32} {harg11 : arg11.IsWhole}
  {arg12 : Memref sig .scVector .vmem S4096 .i32} {harg12 : arg12.IsWhole} {arg13 : Memref sig .scVector .vmem S4096 .i32} {harg13 : arg13.IsWhole}
  {arg14 : Memref sig .scVector .vmem S16384 .i32} {harg14 : arg14.IsWhole} {arg15 : Memref sig .scVector .vmem S256 .i32} {harg15 : arg15.IsWhole}
  {arg16 : Memref sig .scVector .vmem S4608 .f32} {harg16 : arg16.IsWhole} {arg17 : Memref sig .scVector .vmem S16 .i32} {harg17 : arg17.IsWhole}
  {arg18 arg19 arg20 arg21 arg22 arg23 arg24 arg25 v117_r0 v117_r1 v117_r2 : DmaSems sig S_}

/-! ## Clearing -/

theorem trips_t1 : k0_t1_loop.trips = 288 := by decide +kernel
theorem trips_t2 : k0_t2_loop.trips = 16 := by decide +kernel
theorem trips_t3 : k0_t3_loop.trips = 32 := by decide +kernel

theorem wp_clear {v0 : Vec F S4608 .f32} {α : Type} {k : BitVec 32 → TP F i α} {Q : α → sProp 𝕄} :
    Holds (F := F) d i arg16 fullShare v0
      ⊢ iprop((∀ r, Holds d i arg16 fullShare (fun _ => (Scalar.ofBits .f32 0x00000000#32 : F .f32)) -∗ wpT d i (k r) Q)
        -∗ wpT d i (Scf.Loop.for k0_t1_loop k0_t1_ok 0#32 (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v117_r0 v117_r1 v117_r2) >>= k) Q) := by
  iintro H Hk
  iapply (Scf.wp_for_bind frame (wpE (defs₀ (F := F)) 𝒱₀ (thr d i) none) Set.univ _ _ _ k0_t1_ok _ _
    (fun n _ => iprop(∃ v : Vec F S4608 .f32, ⌜∀ y, (y 0).val < n * 16 → v y = (Scalar.ofBits .f32 0x00000000#32 : F .f32)⌝ ∗ Holds d i arg16 fullShare v)) ?hbody) $$ [H]
  case hbody =>
    intro t acc
    iintro ⟨%v, %hv, H⟩
    unfold k0_t1_body
    iapply (wp_loadH d i) $$ H; iintro H
    iapply (wp_storeH (N := 4608) d i) $$ H; iintro H
    iapply le_wp_ret
    iexists _
    isplitr [H]
    rotate_left
    · iexact H
    ipureintro
    intro y hy
    unfold putRow
    split
    · rfl
    · next hh =>
      refine hv y ?_
      rw [k0_off1_eq] at hh
      have hh' : ¬ (16 * t.val ≤ (y 0).val ∧ (y 0).val < 16 * t.val + 16) := hh
      omega
  · iexists v0
    isplitr; · ipureintro; intro y hy; omega
    iexact H
  · iintro %acc ⟨%v, %hv, H⟩
    have hv' : v = fun _ => (Scalar.ofBits .f32 0x00000000#32 : F .f32) := by
      funext y
      refine hv y ?_
      have h1 : (y 0).val < 4608 := (y 0).isLt
      have h2 : Scf.trips k0_t1_loop.lb k0_t1_loop.ub k0_t1_loop.st = 288 := trips_t1
      omega
    subst hv'
    iapply Hk
    iexact H

/-! ## Molecule sizes -/

theorem wp_sizes {nv : Vec F S256 .i32} (hnv : ∀ x, (nv x).toNat < 65) (v2 : BitVec 32) {α : Type} {k : BitVec 32 → TP F i α} {Q : α → sProp 𝕄} :
    iprop(Holds (F := F) d i arg15 fullShare nv ∗ Holds (F := F) d i arg16 fullShare (fun _ => (Scalar.ofBits .f32 0x00000000#32 : F .f32)))
      ⊢ iprop((∀ r, iprop(Holds (F := F) d i arg15 fullShare nv ∗ Holds (F := F) d i arg16 fullShare (histN nv 16)) -∗ wpT d i (k r) Q)
        -∗ wpT d i (Scf.Loop.for k0_t2_loop k0_t2_ok 0#32 (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v117_r0 v117_r1 v117_r2 v2 k0_pay281 lanes k0_pay283) >>= k) Q) := by
  iintro ⟨N, H⟩ Hk
  iapply (Scf.wp_for_bind frame (wpE (defs₀ (F := F)) 𝒱₀ (thr d i) none) Set.univ _ _ _ k0_t2_ok _ _
    (fun n _ => iprop(Holds (F := F) d i arg15 fullShare nv ∗ Holds (F := F) d i arg16 fullShare (histN nv n))) ?hbody) $$ [N H]
  case hbody =>
    intro t acc
    iintro ⟨N, H⟩
    unfold k0_t2_body
    have l0 := load_words (N := 256) nv _ _ ((k0_off4_eq t).trans (congrArg (fun n => ![n]) (Nat.mul_comm 16 t.val))) (k0_off4_inb t)
    have c : k0_chk12 (k0_pay284 (F := F) lanes (words (N := 256) nv (t.val * 16))) := chk12_n (F := F) (words_lt (by decide) hnv _)
    iapply (wp_loadH d i (v := nv)) $$ N; iintro N
    rw [l0]
    iapply (wp_assumeH d i (show k0_chk1 (k0_pay284 (F := F) lanes (words (N := 256) nv (t.val * 16))) from c))
    iapply (wp_scatterH d i) $$ H; iintro H
    iapply le_wp_ret
    isplitl [N]; · iexact N
    rw [show histN (F := F) nv (t.val + 1) = scat (histN nv t.val) (k0_pay284 (F := F) lanes (words (N := 256) nv (t.val * 16))) k0_pay283 from rfl,
      ← scat_of _ _ c]
    iexact H
  · isplitl [N]; · iexact N
    iexact H
  · iintro %acc R
    rw [show Scf.trips k0_t2_loop.lb k0_t2_loop.ub k0_t2_loop.st = 16 from trips_t2]
    iapply Hk
    iexact R

/-! ## Molecules -/

theorem vec1 {a b : ℕ} (h : a = b) : (![a] : Fin 1 → ℕ) = ![b] := by rw [h]
theorem vec2 {a b : ℕ} (h : a = b) : (![a, 0] : Fin 2 → ℕ) = ![b, 0] := by rw [h]

theorem four_eq {m : ℕ} {a b c e : Fin 1 → ℕ} (ha : a = ![m * 64]) (hb : b = ![m * 64 + 16]) (hc : c = ![m * 64 + 32]) (he : e = ![m * 64 + 48]) :
    ∀ x : Fin 4, four a b c e x = ![m * 64 + x.val * 16]
  | 0 => ha | 1 => hb | 2 => hc | 3 => he

theorem molNo_eq : ∀ (t : Fin k0_t3_loop.trips) (k : Fin 8), molNo t (BitVec.ofNat 32 k.val) = BitVec.ofNat 32 (8 * t.val + k.val) := by decide +kernel

theorem base_le : base i + 256 ≤ 8192 := by
  have h0 : (i 0).val < 2 := (i 0).isLt
  have h1 : (i 1).val < 16 := (i 1).isLt
  unfold base; omega

variable {EV : S8192x4096.Idx → BitVec 32} {q0 q1 q2 q3 q4 q5 q6 q7 : PosShare TreeShare}

/-- The ring before molecule `m`, a multiple of eight: seven rows on their way, the eighth slot idle. -/
def RingAt (arg2 : Memref sig .scVector .hbm S8192x4096 .i32) (EV : S8192x4096.Idx → BitVec 32) (q0 q1 q2 q3 q4 q5 q6 q7 : PosShare TreeShare)
    (arg6 arg7 arg8 arg9 arg10 arg11 arg12 arg13 : Memref sig .scVector .vmem S4096 .i32) (arg18 arg19 arg20 arg21 arg22 arg23 arg24 arg25 : DmaSems sig S_) (m : ℕ) : sProp 𝕄 :=
  iprop(Going (F := F) d i arg2 EV q0 arg6 arg18 (base i + m) ∗ Going (F := F) d i arg2 EV q1 arg7 arg19 (base i + (m + 1))
    ∗ Going (F := F) d i arg2 EV q2 arg8 arg20 (base i + (m + 2)) ∗ Going (F := F) d i arg2 EV q3 arg9 arg21 (base i + (m + 3))
    ∗ Going (F := F) d i arg2 EV q4 arg10 arg22 (base i + (m + 4)) ∗ Going (F := F) d i arg2 EV q5 arg11 arg23 (base i + (m + 5))
    ∗ Going (F := F) d i arg2 EV q6 arg12 arg24 (base i + (m + 6)) ∗ Idle (F := F) d i arg2 EV q7 arg13 arg25)

theorem wp_quad (hEV : ∀ x, (EV x).toNat < 5) {av : Vec F S16384 .i32} (hav : ∀ x, (av x).toNat < 16)
    {nv : Vec F S256 .i32} (hnv : ∀ x, (nv x).toNat < 65) (t : Fin k0_t3_loop.trips) {O : CellTallies nD τ sig (HIx 1)} {W0 : Waits sig (HIx 1)}
    {α : Type} {k : Cnts F → TP F i α} {Q : α → sProp 𝕄} :
    iprop(RingAt (F := F) d i arg2 EV q0 q1 q2 q3 q4 q5 q6 q7 arg6 arg7 arg8 arg9 arg10 arg11 arg12 arg13 arg18 arg19 arg20 arg21 arg22 arg23 arg24 arg25 (8 * t.val)
        ∗ Work d i arg14 arg15 arg16 arg17 av nv (molsV (rowsOf EV i) av nv (8 * t.val)).1 ∗ OW (F := F) d i O W0)
      ⊢ iprop((iprop(RingAt (F := F) d i arg2 EV q0 q1 q2 q3 q4 q5 q6 q7 arg6 arg7 arg8 arg9 arg10 arg11 arg12 arg13 arg18 arg19 arg20 arg21 arg22 arg23 arg24 arg25 (8 * t.val + 8)
            ∗ Work d i arg14 arg15 arg16 arg17 av nv (molsV (rowsOf EV i) av nv (8 * t.val + 8)).1 ∗ OW (F := F) d i O W0)
          -∗ wpT d i (k (molsV (rowsOf EV i) av nv (8 * t.val + 8)).2) Q)
        -∗ wpT d i (quadP i arg2 arg6 harg6 arg7 harg7 arg8 harg8 arg9 harg9 arg10 harg10 arg11 harg11 arg12 harg12 arg13 harg13 arg14 arg15 arg16 arg17
            arg18 arg19 arg20 arg21 arg22 arg23 arg24 arg25 k0_pay281 lanes jv0 jv1 jv2 jv3 k0_pay289 k0_pay290 k0_pay291 k0_pay292 k0_pay293 t (molsV (rowsOf EV i) av nv (8 * t.val)).2 >>= k) Q) := by
  have ht : t.val < 32 := lt_of_lt_of_eq t.isLt trips_t3
  have hb := base_le i
  have hbd : base i = 512 * (i 1).val + 256 * (i 0).val := rfl
  unfold RingAt quadP
  simp only [bind_assoc]
  iintro ⟨⟨G0, G1, G2, G3, G4, G5, G6, I7⟩, W, O⟩ Hk
  iapply (wp_step d i hEV hav hnv (8 * t.val + 0) (by omega)
    ((k0_off7_eq i t).trans (vec2 (by omega)))
    (four_eq (m := 8 * t.val + 0) ((k0_off16_eq t).trans (vec1 (by omega))) ((k0_off17_eq t).trans (vec1 (by omega))) ((k0_off18_eq t).trans (vec1 (by omega))) ((k0_off19_eq t).trans (vec1 (by omega))))
    (molNo_eq t 0)) $$ [G0 I7 W O]
  · isplitl [G0]; · iexact G0
    isplitl [I7]; · iexact I7
    isplitl [W]; · iexact W
    iexact O
  iintro ⟨I0, G7, W, O⟩
  iapply (wp_step d i hEV hav hnv (8 * t.val + 1) (by omega)
    ((k0_off21_eq i t).trans (vec2 (by omega)))
    (four_eq (m := 8 * t.val + 1) ((k0_off30_eq t).trans (vec1 (by omega))) ((k0_off31_eq t).trans (vec1 (by omega))) ((k0_off32_eq t).trans (vec1 (by omega))) ((k0_off33_eq t).trans (vec1 (by omega))))
    (molNo_eq t 1)) $$ [G1 I0 W O]
  · isplitl [G1]; · iexact G1
    isplitl [I0]; · iexact I0
    isplitl [W]; · iexact W
    iexact O
  iintro ⟨I1, G0, W, O⟩
  iapply (wp_step d i hEV hav hnv (8 * t.val + 2) (by omega)
    ((k0_off35_eq i t).trans (vec2 (by omega)))
    (four_eq (m := 8 * t.val + 2) ((k0_off44_eq t).trans (vec1 (by omega))) ((k0_off45_eq t).trans (vec1 (by omega))) ((k0_off46_eq t).trans (vec1 (by omega))) ((k0_off47_eq t).trans (vec1 (by omega))))
    (molNo_eq t 2)) $$ [G2 I1 W O]
  · isplitl [G2]; · iexact G2
    isplitl [I1]; · iexact I1
    isplitl [W]; · iexact W
    iexact O
  iintro ⟨I2, G1, W, O⟩
  iapply (wp_step d i hEV hav hnv (8 * t.val + 3) (by omega)
    ((k0_off49_eq i t).trans (vec2 (by omega)))
    (four_eq (m := 8 * t.val + 3) ((k0_off58_eq t).trans (vec1 (by omega))) ((k0_off59_eq t).trans (vec1 (by omega))) ((k0_off60_eq t).trans (vec1 (by omega))) ((k0_off61_eq t).trans (vec1 (by omega))))
    (molNo_eq t 3)) $$ [G3 I2 W O]
  · isplitl [G3]; · iexact G3
    isplitl [I2]; · iexact I2
    isplitl [W]; · iexact W
    iexact O
  iintro ⟨I3, G2, W, O⟩
  iapply (wp_step d i hEV hav hnv (8 * t.val + 4) (by omega)
    ((k0_off63_eq i t).trans (vec2 (by omega)))
    (four_eq (m := 8 * t.val + 4) ((k0_off72_eq t).trans (vec1 (by omega))) ((k0_off73_eq t).trans (vec1 (by omega))) ((k0_off74_eq t).trans (vec1 (by omega))) ((k0_off75_eq t).trans (vec1 (by omega))))
    (molNo_eq t 4)) $$ [G4 I3 W O]
  · isplitl [G4]; · iexact G4
    isplitl [I3]; · iexact I3
    isplitl [W]; · iexact W
    iexact O
  iintro ⟨I4, G3, W, O⟩
  iapply (wp_step d i hEV hav hnv (8 * t.val + 5) (by omega)
    ((k0_off77_eq i t).trans (vec2 (by omega)))
    (four_eq (m := 8 * t.val + 5) ((k0_off86_eq t).trans (vec1 (by omega))) ((k0_off87_eq t).trans (vec1 (by omega))) ((k0_off88_eq t).trans (vec1 (by omega))) ((k0_off89_eq t).trans (vec1 (by omega))))
    (molNo_eq t 5)) $$ [G5 I4 W O]
  · isplitl [G5]; · iexact G5
    isplitl [I4]; · iexact I4
    isplitl [W]; · iexact W
    iexact O
  iintro ⟨I5, G4, W, O⟩
  iapply (wp_step d i hEV hav hnv (8 * t.val + 6) (by omega)
    ((k0_off91_eq i t).trans (vec2 (by omega)))
    (four_eq (m := 8 * t.val + 6) ((k0_off100_eq t).trans (vec1 (by omega))) ((k0_off101_eq t).trans (vec1 (by omega))) ((k0_off102_eq t).trans (vec1 (by omega))) ((k0_off103_eq t).trans (vec1 (by omega))))
    (molNo_eq t 6)) $$ [G6 I5 W O]
  · isplitl [G6]; · iexact G6
    isplitl [I5]; · iexact I5
    isplitl [W]; · iexact W
    iexact O
  iintro ⟨I6, G5, W, O⟩
  iapply (wp_step d i hEV hav hnv (8 * t.val + 7) (by omega)
    ((k0_off105_eq i t).trans (vec2 (by omega)))
    (four_eq (m := 8 * t.val + 7) ((k0_off114_eq t).trans (vec1 (by omega))) ((k0_off115_eq t).trans (vec1 (by omega))) ((k0_off116_eq t).trans (vec1 (by omega))) ((k0_off117_eq t).trans (vec1 (by omega))))
    (molNo_eq t 7)) $$ [G7 I6 W O]
  · isplitl [G7]; · iexact G7
    isplitl [I6]; · iexact I6
    isplitl [W]; · iexact W
    iexact O
  iintro ⟨I7, G6, W, O⟩
  iapply Hk
  isplitr [W O]
  · isplitl [G0]; · iexact G0
    isplitl [G1]; · iexact G1
    isplitl [G2]; · iexact G2
    isplitl [G3]; · iexact G3
    isplitl [G4]; · iexact G4
    isplitl [G5]; · iexact G5
    isplitl [G6]; · iexact G6
    iexact I7
  isplitl [W]; · iexact W
  iexact O

theorem wp_mols (hEV : ∀ x, (EV x).toNat < 5) {av : Vec F S16384 .i32} (hav : ∀ x, (av x).toNat < 16)
    {nv : Vec F S256 .i32} (hnv : ∀ x, (nv x).toNat < 65) (v2 : BitVec 32) {O : CellTallies nD τ sig (HIx 1)} {W0 : Waits sig (HIx 1)}
    {α : Type} {k : Cnts F → TP F i α} {Q : α → sProp 𝕄} :
    iprop(RingAt (F := F) d i arg2 EV q0 q1 q2 q3 q4 q5 q6 q7 arg6 arg7 arg8 arg9 arg10 arg11 arg12 arg13 arg18 arg19 arg20 arg21 arg22 arg23 arg24 arg25 0
        ∗ Work d i arg14 arg15 arg16 arg17 av nv (molsV (rowsOf EV i) av nv 0).1 ∗ OW (F := F) d i O W0)
      ⊢ iprop((iprop(RingAt (F := F) d i arg2 EV q0 q1 q2 q3 q4 q5 q6 q7 arg6 arg7 arg8 arg9 arg10 arg11 arg12 arg13 arg18 arg19 arg20 arg21 arg22 arg23 arg24 arg25 256
            ∗ Work d i arg14 arg15 arg16 arg17 av nv (molsV (rowsOf EV i) av nv 256).1 ∗ OW (F := F) d i O W0)
          -∗ wpT d i (k (molsV (rowsOf EV i) av nv 256).2) Q)
        -∗ wpT d i (Scf.Loop.for k0_t3_loop k0_t3_ok (k0_pay289, k0_pay290, k0_pay291, k0_pay292) (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v117_r0 v117_r1 v117_r2 v2 k0_pay281 lanes jv0 jv1 jv2 jv3 k0_pay289 k0_pay290 k0_pay291 k0_pay292 k0_pay293) >>= k) Q) := by
  iintro R Hk
  iapply (Scf.wp_for_bind frame (wpE (defs₀ (F := F)) 𝒱₀ (thr d i) none) Set.univ _ _ _ k0_t3_ok _ _
    (fun n cn => iprop(⌜cn = (molsV (F := F) (rowsOf EV i) av nv (8 * n)).2⌝
      ∗ RingAt (F := F) d i arg2 EV q0 q1 q2 q3 q4 q5 q6 q7 arg6 arg7 arg8 arg9 arg10 arg11 arg12 arg13 arg18 arg19 arg20 arg21 arg22 arg23 arg24 arg25 (8 * n)
        ∗ Work d i arg14 arg15 arg16 arg17 av nv (molsV (rowsOf EV i) av nv (8 * n)).1 ∗ OW (F := F) d i O W0)) ?hbody) $$ [R]
  case hbody =>
    intro t cn
    iintro ⟨%h, R⟩
    subst h
    rw [t3_body_eq, show (quadP i arg2 arg6 harg6 arg7 harg7 arg8 harg8 arg9 harg9 arg10 harg10 arg11 harg11 arg12 harg12 arg13 harg13 arg14 arg15 arg16 arg17
      arg18 arg19 arg20 arg21 arg22 arg23 arg24 arg25 k0_pay281 lanes jv0 jv1 jv2 jv3 k0_pay289 k0_pay290 k0_pay291 k0_pay292 k0_pay293 t (molsV (rowsOf EV i) av nv (8 * t.val)).2 : TP F i (Cnts F))
      = (quadP i arg2 arg6 harg6 arg7 harg7 arg8 harg8 arg9 harg9 arg10 harg10 arg11 harg11 arg12 harg12 arg13 harg13 arg14 arg15 arg16 arg17
      arg18 arg19 arg20 arg21 arg22 arg23 arg24 arg25 k0_pay281 lanes jv0 jv1 jv2 jv3 k0_pay289 k0_pay290 k0_pay291 k0_pay292 k0_pay293 t (molsV (rowsOf EV i) av nv (8 * t.val)).2) >>= pure from (bind_pure _).symm]
    iapply (wp_quad d i hEV hav hnv t) $$ R
    iintro R
    iapply le_wp_ret
    isplitr
    · ipureintro; rfl
    iexact R
  · isplitr; · ipureintro; rfl
    iexact R
  · iintro %cn ⟨%h, R⟩
    rw [show Scf.trips k0_t3_loop.lb k0_t3_loop.ub k0_t3_loop.st = 32 from trips_t3] at *
    subst h
    iapply Hk
    iexact R

end Cert.KernelIdeal.Tile
-- ==== Proof.Tile.lean ====
/- The whole of a tile's program: from its shares of the three inputs, its row of the result, its buffers and its
   semaphores to the same with the row of the result holding the tile's histogram. -/
module

public import proofs.«01_k».proof.Proof.Loops

@[expose] public section

noncomputable section

namespace Cert.KernelIdeal.Tile

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)

variable {F : FTy → Type} [FloatOps F]

local notation "𝕄" => MT nD τ sig (HIx 1) (Elt F) ℕ UU ℕ

variable (d : Dev nD) (i : grid0.Coords)
  {arg2 : Memref sig .scVector .hbm S8192x4096 .i32} {harg2 : arg2.IsWhole} {arg3 : Memref sig .scVector .hbm S524288 .i32} {harg3 : arg3.IsWhole}
  {arg4 : Memref sig .scVector .hbm S8192 .i32} {harg4 : arg4.IsWhole} {arg5 : Memref sig .scVector .hbm S32x4608 .f32} {harg5 : arg5.IsWhole}
  {arg6 : Memref sig .scVector .vmem S4096 .i32} {harg6 : arg6.IsWhole} {arg7 : Memref sig .scVector .vmem S4096 .i32} {harg7 : arg7.IsWhole}
  {arg8 : Memref sig .scVector .vmem S4096 .i32} {harg8 : arg8.IsWhole} {arg9 : Memref sig .scVector .vmem S4096 .i32} {harg9 : arg9.IsWhole}
  {arg10 : Memref sig .scVector .vmem S4096 .i32} {harg10 : arg10.IsWhole} {arg11 : Memref sig .scVector .vmem S4096 .i32} {harg11 : arg11.IsWhole}
  {arg12 : Memref sig .scVector .vmem S4096 .i32} {harg12 : arg12.IsWhole} {arg13 : Memref sig .scVector .vmem S4096 .i32} {harg13 : arg13.IsWhole}
  {arg14 : Memref sig .scVector .vmem S16384 .i32} {harg14 : arg14.IsWhole} {arg15 : Memref sig .scVector .vmem S256 .i32} {harg15 : arg15.IsWhole}
  {arg16 : Memref sig .scVector .vmem S4608 .f32} {harg16 : arg16.IsWhole} {arg17 : Memref sig .scVector .vmem S16 .i32} {harg17 : arg17.IsWhole}
  {arg18 arg19 arg20 arg21 arg22 arg23 arg24 arg25 v117_r0 v117_r1 v117_r2 : DmaSems sig S_}

/-! ## Segments of the vectors in HBM -/

/-- `n` consecutive words of a vector, from element `o`. -/
def segOf {N n : ℕ} (v : (⟨1, ![N]⟩ : Shape).Idx → BitVec 32) (o : ℕ) : (⟨1, ![n]⟩ : Shape).Idx → BitVec 32 := fun x => at1 v (o + (x 0).val)

theorem segOf_lt {N n : ℕ} {v : (⟨1, ![N]⟩ : Shape).Idx → BitVec 32} {b : ℕ} (hb : 0 < b) (hv : ∀ x, (v x).toNat < b) (o : ℕ) (x : (⟨1, ![n]⟩ : Shape).Idx) :
    (segOf v o x).toNat < b := by
  unfold segOf at1; split
  · exact hv _
  · simpa using hb

theorem seg_read {N n : ℕ} (mr : Memref sig .scVector .hbm ⟨1, ![N]⟩ .i32) (off : Fin 1 → ℕ) (hoff : ∀ a, off a + (⟨1, ![n]⟩ : Shape).size a ≤ (⟨1, ![N]⟩ : Shape).size a)
    (o : ℕ) (ho : off = ![o]) (f : mr.view.ty.Contents (Elt F)) :
    (mr.slice (Rect.unit (s := ⟨1, ![N]⟩) off (⟨1, ![n]⟩ : Shape).size hoff) (fun _ => rfl)).view.read (Elt F) f
      = (segOf (N := N) (n := n) (mr.view.read (Elt F) f) o : (⟨1, ![n]⟩ : Shape).Idx → BitVec 32) := by
  subst ho
  funext x
  have hx : (x 0).val < n := (x 0).isLt
  have hb : o + n ≤ N := hoff 0
  unfold segOf at1
  rw [dif_pos (by show o + (x 0).val < N; omega), View.read_apply, View.read_apply]
  have he : (mr.slice (Rect.unit (s := ⟨1, ![N]⟩) ![o] (⟨1, ![n]⟩ : Shape).size hoff) (fun _ => rfl)).view.emb x
      = mr.view.emb (ix1 (N := N) (o + (x 0).val) (by omega)) := by
    show mr.view.emb ((Rect.unit (s := ⟨1, ![N]⟩) ![o] (⟨1, ![n]⟩ : Shape).size hoff).emb x) = _
    congr 1
    funext a; apply Fin.ext; obtain rfl := Fin.eq_zero a
    show o + 1 * (x 0).val = o + (x 0).val; omega
  rw [he]

/-- A tile's row of the result. -/
abbrev oRow (arg5 : Memref sig .scVector .hbm S32x4608 .f32) (i : grid0.Coords) : Memref sig .scVector .hbm S4608 .f32 :=
  (arg5.slice (Rect.unit (s := S32x4608) (k0_off119 i) S1x4608.size (k0_off119_inb i)) (fun _ => rfl)).squeeze S4608 squeezes_S1x4608_S4608

/-- The tile's row of the result, holding `v`. -/
def OutIs (arg5 : Memref sig .scVector .hbm S32x4608 .f32) (v : Vec F S4608 .f32) : sProp 𝕄 :=
  iprop(∃ g : Buf (Elt F) ((oRow arg5 i).view.loc (thr d i)), ⌜(oRow arg5 i).view.read (Elt F) g = v⌝
    ∗ (oRow arg5 i).view.loc (thr d i) ↦[(oRow arg5 i).view.set]{fullShare} g)

theorem wp_out {h : Vec F S4608 .f32} {v0 : Vec F S4608 .f32} {α : Type} {k : PUnit → TP F i α} {Q : α → sProp 𝕄} :
    iprop(Holds (F := F) d i arg16 fullShare h ∗ OutIs d i arg5 v0 ∗ semVal (thr d i, SemLoc.dma v117_r2.sem) 0)
      ⊢ iprop((Fly d i (oRow arg5 i) v117_r2 iprop(OutIs d i arg5 h ∗ Holds (F := F) d i arg16 fullShare h) -∗ wpT d i (k ⟨⟩) Q)
        -∗ wpT d i (Prog.lift (.enqueueDma arg16 (.here (oRow arg5 i)) (.dma v117_r2.sem) harg16.wordExact ((View.wordExact_bits rfl).reshape _ _) ⟨Or.inl rfl, trivial⟩) >>= k) Q) := by
  unfold Holds OutIs
  iintro ⟨⟨%f, %hf, Hs⟩, ⟨%g, -, Hd⟩, Hv⟩ Hk
  iapply (Transfers.wp_dmaFromWhole (defs := defs₀ (F := F)) countersEmb 𝒱₀ (thr d i) none (src := arg16) (dst := oRow arg5 i) (via := .same) (sm := .dma v117_r2.sem)
    (hsrc := harg16.wordExact) (hdst := (View.wordExact_bits rfl).reshape _ _) (hsem := ⟨Or.inl rfl, trivial⟩)
    (k := k) (Q := Q) (q := fullShare) (fs := f) (Sd := (oRow arg5 i).view.set) (fd := g) none (oRow arg5 i).view.dmaCredit rfl (View.dmaCredit_pos _ (by decide)) (Finset.Subset.refl _)) $$ [Hs Hd Hv]
  · isplitl [Hs]; · iexact Hs
    isplitl [Hd]; · iexact Hd
    iexact Hv
  iintro Hf
  iapply Hk
  iapply (Transfers.Flight_mono countersEmb (thr d i) ?_) $$ Hf
  iintro ⟨Hd, Hs⟩
  isplitl [Hd]
  · iexists ((oRow arg5 i).view.write (Elt F) g (arg16.view.read (Elt F) f) Finset.univ)
    isplitr
    · ipureintro; rw [← hf]; exact View.read_write_univ _ _
    iexact Hd
  iexists f
  isplitr; · ipureintro; exact hf
  iexact Hs

/-- Fetch a segment of a vector in HBM into a buffer, and wait for it. -/
theorem wp_fetch {N n : ℕ} {src : Memref sig .scVector .hbm ⟨1, ![N]⟩ .i32} {dst : Memref sig .scVector .vmem ⟨1, ![n]⟩ .i32} {hdst : dst.IsWhole} {sem : DmaSems sig S_}
    (hn : 0 < (⟨1, ![n]⟩ : Shape).numel) (off : Fin 1 → ℕ) (hoff : ∀ a, off a + (⟨1, ![n]⟩ : Shape).size a ≤ (⟨1, ![N]⟩ : Shape).size a) (o : ℕ) (ho : off = ![o])
    {h1 h1' h2 h2' h3} {q : PosShare TreeShare} {v : (⟨1, ![N]⟩ : Shape).Idx → BitVec 32} {v0 : (⟨1, ![n]⟩ : Shape).Idx → BitVec 32}
    {O : CellTallies nD τ sig (HIx 1)} {W0 : Waits sig (HIx 1)} {α : Type} {k : PUnit → TP F i α} {Q : α → sProp 𝕄} :
    iprop(Holds (F := F) d i src q v ∗ Holds (F := F) d i dst fullShare v0 ∗ semVal (thr d i, SemLoc.dma sem.sem) 0 ∗ OW (F := F) d i O W0)
      ⊢ iprop((iprop(Holds (F := F) d i src q v ∗ Holds (F := F) d i dst fullShare (segOf v o) ∗ semVal (thr d i, SemLoc.dma sem.sem) 0 ∗ OW (F := F) d i O W0) -∗ wpT d i (k ⟨⟩) Q)
        -∗ wpT d i (Prog.lift (.enqueueDma (src.slice (Rect.unit (s := ⟨1, ![N]⟩) off (⟨1, ![n]⟩ : Shape).size hoff) (fun _ => rfl)) (.here dst) (.dma sem.sem) h1 h2 h3) >>= fun _ =>
            Prog.lift (.waitDma2 sem.sem (src.slice (Rect.unit (s := ⟨1, ![N]⟩) off (⟨1, ![n]⟩ : Shape).size hoff) (fun _ => rfl)) dst h1' h2') >>= k) Q) := by
  iintro ⟨Hs, Hd, Hv, HO⟩ Hk
  ihave Hs := (Entails.of_eq (show Holds (F := F) d i src q v = iprop(∃ f : Buf (Elt F) (src.view.loc (thr d i)), ⌜src.view.read (Elt F) f = v⌝ ∗ src.view.loc (thr d i) ↦{q} f) from rfl)) $$ Hs
  icases Hs with ⟨%f, %hf, Hs⟩
  iapply (wp_startF d i (src := src.slice (Rect.unit (s := ⟨1, ![N]⟩) off (⟨1, ![n]⟩ : Shape).size hoff) (fun _ => rfl)) (dst := dst) (sem := sem) (q := q) (f := f) (v0 := v0) hn
    (seg_read (n := n) src off hoff o ho f)) $$ [Hs Hd Hv]
  · isplitl [Hs]; · iexact Hs
    isplitl [Hd]; · iexact Hd
    iexact Hv
  iintro Hf
  iapply (wp_waitF d i (dst := dst) (sem := sem)) $$ [Hf HO]
  · isplitl [Hf] <;> iassumption
  iintro ⟨⟨Hd, Hs⟩, Hv, HO⟩
  iapply Hk
  isplitl [Hs]
  · unfold Holds
    iexists f
    isplitr; · ipureintro; exact hf
    iexact Hs
  isplitl [Hd]
  · rw [show src.view.read (Elt F) f = v from hf]; iexact Hd
  isplitl [Hv]; · iexact Hv
  iexact HO

variable {EV : S8192x4096.Idx → BitVec 32} {AV : S524288.Idx → BitVec 32} {NV : S8192.Idx → BitVec 32} {q0 q1 q2 q3 q4 q5 q6 q7 qa qn : PosShare TreeShare}

/-! ## The ring's copies, spelt out -/

theorem wp_start' {q : PosShare TreeShare} {eb : Memref sig .scVector .vmem S4096 .i32} {heb : eb.IsWhole} {sem : DmaSems sig S_} {off : Fin 2 → ℕ}
    {hoff : ∀ a, off a + S1x4096.size a ≤ S8192x4096.size a} (r : ℕ) (ho : off = ![min r 8191, 0])
    {α : Type} {k : PUnit → TP F i α} {Q : α → sProp 𝕄} :
    Idle (F := F) d i arg2 EV q eb sem
      ⊢ iprop((Going (F := F) d i arg2 EV q eb sem r -∗ wpT d i (k ⟨⟩) Q) -∗ wpT d i (Prog.lift (.enqueueDma ((arg2.slice (Rect.unit (s := S8192x4096) off S1x4096.size hoff) (fun _ => rfl)).squeeze S4096 squeezes_S1x4096_S4096)
          (.here eb) (.dma sem.sem) ((View.wordExact_bits rfl).reshape _ _) heb.wordExact ⟨Or.inl rfl, trivial⟩) >>= k) Q) :=
  wp_start d i (heb := heb) (hoff := hoff) r ho

theorem wp_wait' {q : PosShare TreeShare} {eb : Memref sig .scVector .vmem S4096 .i32} {heb : eb.IsWhole} {sem : DmaSems sig S_} {off : Fin 2 → ℕ}
    {hoff : ∀ a, off a + S1x4096.size a ≤ S8192x4096.size a} (r : ℕ) {O : CellTallies nD τ sig (HIx 1)} {W0 : Waits sig (HIx 1)}
    {α : Type} {k : PUnit → TP F i α} {Q : α → sProp 𝕄} :
    iprop(Going (F := F) d i arg2 EV q eb sem r ∗ OW (F := F) d i O W0)
      ⊢ iprop((iprop(Holds (F := F) d i eb fullShare (rowOf EV r) ∗ Holds (F := F) d i arg2 q EV ∗ semVal (thr d i, SemLoc.dma sem.sem) 0 ∗ OW (F := F) d i O W0) -∗ wpT d i (k ⟨⟩) Q)
        -∗ wpT d i (Prog.lift (.waitDma2 sem.sem ((arg2.slice (Rect.unit (s := S8192x4096) off S1x4096.size hoff) (fun _ => rfl)).squeeze S4096 squeezes_S1x4096_S4096) eb ((View.wordExact_bits rfl).reshape _ _) heb.wordExact) >>= k) Q) :=
  wp_wait d i (heb := heb) (hoff := hoff) r

/-! ## The program -/

/-- The histogram that the tile with grid coordinates `i` hands back. -/
def tileOf (EV : S8192x4096.Idx → BitVec 32) (AV : S524288.Idx → BitVec 32) (NV : S8192.Idx → BitVec 32) (i : grid0.Coords) : Vec F S4608 .f32 :=
  tileV (rowsOf EV i) (segOf (N := 524288) (n := 16384) AV (base i * 64)) (segOf (N := 8192) (n := 256) NV (base i))

/-- What a tile's program uses, its row of the result holding `ov`. -/
def TileRes (arg2 : Memref sig .scVector .hbm S8192x4096 .i32) (arg3 : Memref sig .scVector .hbm S524288 .i32) (arg4 : Memref sig .scVector .hbm S8192 .i32)
    (arg5 : Memref sig .scVector .hbm S32x4608 .f32) (arg6 arg7 arg8 arg9 arg10 arg11 arg12 arg13 : Memref sig .scVector .vmem S4096 .i32)
    (arg14 : Memref sig .scVector .vmem S16384 .i32) (arg15 : Memref sig .scVector .vmem S256 .i32) (arg16 : Memref sig .scVector .vmem S4608 .f32)
    (arg17 : Memref sig .scVector .vmem S16 .i32) (arg18 arg19 arg20 arg21 arg22 arg23 arg24 arg25 v117_r0 v117_r1 v117_r2 : DmaSems sig S_)
    (EV : S8192x4096.Idx → BitVec 32) (AV : S524288.Idx → BitVec 32) (NV : S8192.Idx → BitVec 32) (q0 q1 q2 q3 q4 q5 q6 q7 qa qn : PosShare TreeShare)
    (ov : Vec F S4608 .f32) (O : CellTallies nD τ sig (HIx 1)) (W0 : Waits sig (HIx 1)) : sProp 𝕄 :=
  iprop((Idle (F := F) d i arg2 EV q0 arg6 arg18 ∗ Idle (F := F) d i arg2 EV q1 arg7 arg19 ∗ Idle (F := F) d i arg2 EV q2 arg8 arg20 ∗ Idle (F := F) d i arg2 EV q3 arg9 arg21 ∗ Idle (F := F) d i arg2 EV q4 arg10 arg22 ∗ Idle (F := F) d i arg2 EV q5 arg11 arg23 ∗ Idle (F := F) d i arg2 EV q6 arg12 arg24 ∗ Idle (F := F) d i arg2 EV q7 arg13 arg25)
    ∗ Holds (F := F) d i arg3 qa AV ∗ Holds (F := F) d i arg4 qn NV ∗ OutIs d i arg5 ov
    ∗ (∃ v, Holds (F := F) d i arg14 fullShare v) ∗ (∃ v, Holds (F := F) d i arg15 fullShare v) ∗ (∃ v, Holds (F := F) d i arg16 fullShare v) ∗ (∃ v, Holds (F := F) d i arg17 fullShare v)
    ∗ semVal (thr d i, SemLoc.dma v117_r0.sem) 0 ∗ semVal (thr d i, SemLoc.dma v117_r1.sem) 0 ∗ semVal (thr d i, SemLoc.dma v117_r2.sem) 0
    ∗ OW (F := F) d i O W0)

theorem wp_tile (hEV : ∀ x, (EV x).toNat < 5) (hAV : ∀ x, (AV x).toNat < 16) (hNV : ∀ x, (NV x).toNat < 65) (ov : Vec F S4608 .f32)
    {O : CellTallies nD τ sig (HIx 1)} {W0 : Waits sig (HIx 1)} :
    TileRes (F := F) d i arg2 arg3 arg4 arg5 arg6 arg7 arg8 arg9 arg10 arg11 arg12 arg13 arg14 arg15 arg16 arg17 arg18 arg19 arg20 arg21 arg22 arg23 arg24 arg25 v117_r0 v117_r1 v117_r2
        EV AV NV q0 q1 q2 q3 q4 q5 q6 q7 qa qn ov O W0
      ⊢ wpT d i (cc0__sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v117_r0 v117_r1 v117_r2)
          (fun _ => TileRes (F := F) d i arg2 arg3 arg4 arg5 arg6 arg7 arg8 arg9 arg10 arg11 arg12 arg13 arg14 arg15 arg16 arg17 arg18 arg19 arg20 arg21 arg22 arg23 arg24 arg25 v117_r0 v117_r1 v117_r2
            EV AV NV q0 q1 q2 q3 q4 q5 q6 q7 qa qn (tileOf EV AV NV i) O W0) := by
  have hb := base_le i
  have hbd : base i = 512 * (i 1).val + 256 * (i 0).val := rfl
  have hav : ∀ x, (segOf (N := 524288) (n := 16384) AV (base i * 64) x).toNat < 16 := segOf_lt (by decide) hAV _
  have hnv : ∀ x, (segOf (N := 8192) (n := 256) NV (base i) x).toNat < 65 := segOf_lt (by decide) hNV _
  rw [cc0__sc_body_eq_skeleton]
  unfold cc0__sc_body_skel
  simp only [k0_part44_eq_skeleton, k0_part45_eq_skeleton, k0_part46_eq_skeleton, k0_part47_eq_skeleton, k0_part44_skel, k0_part45_skel, k0_part46_skel, k0_part47_skel, bind_assoc, pure_bind]
  unfold TileRes
  iintro ⟨⟨I0, I1, I2, I3, I4, I5, I6, I7⟩, HA, HN, HX, ⟨%va, Ha⟩, ⟨%vn, Hn⟩, ⟨%vh, Hh⟩, ⟨%vw, Hw⟩, S0, S1, S2, HO⟩
  iapply (wp_clear d i) $$ Hh; iintro %r0 Hh
  iapply (wp_fetch d i (hdst := harg15) (by decide) (k0_off2 i) (k0_off2_inb i) (base i) (k0_off2_eq i)) $$ [HN Hn S0 HO]
  · isplitl [HN]; · iexact HN
    isplitl [Hn]; · iexact Hn
    isplitl [S0]; · iexact S0
    iexact HO
  iintro ⟨HN, Hn, S0, HO⟩
  iapply (wp_fetch d i (hdst := harg14) (by decide) (k0_off3 i) (k0_off3_inb i) (base i * 64) ((k0_off3_eq i).trans (vec1 (by omega)))) $$ [HA Ha S1 HO]
  · isplitl [HA]; · iexact HA
    isplitl [Ha]; · iexact Ha
    isplitl [S1]; · iexact S1
    iexact HO
  iintro ⟨HA, Ha, S1, HO⟩
  iapply (wp_loadH d i) $$ Hw; iintro Hw
  iapply (wp_storeH (N := 16) d i) $$ Hw; iintro Hw
  rw [show putRow (N := 16) vw ((![0] : Fin 1 → ℕ) 0) k0_pay282 = k0_pay282 from putRow_whole _ _]
  iapply (wp_sizes d i hnv) $$ [Hn Hh]
  · isplitl [Hn]; · iexact Hn
    iexact Hh
  iintro %r1 ⟨Hn, Hh⟩
  iapply (wp_start' d i (heb := harg6) (hoff := k0_off5_inb i 0) (base i + 0) ((k0_off5_eq i ⟨0, by decide⟩).trans (vec2 (by show _ + 0 = _; omega)))) $$ I0; iintro G0
  iapply (wp_start' d i (heb := harg7) (hoff := k0_off5_inb i 1) (base i + 1) ((k0_off5_eq i ⟨1, by decide⟩).trans (vec2 (by show _ + 1 = _; omega)))) $$ I1; iintro G1
  iapply (wp_start' d i (heb := harg8) (hoff := k0_off5_inb i 2) (base i + 2) ((k0_off5_eq i ⟨2, by decide⟩).trans (vec2 (by show _ + 2 = _; omega)))) $$ I2; iintro G2
  iapply (wp_start' d i (heb := harg9) (hoff := k0_off5_inb i 3) (base i + 3) ((k0_off5_eq i ⟨3, by decide⟩).trans (vec2 (by show _ + 3 = _; omega)))) $$ I3; iintro G3
  iapply (wp_start' d i (heb := harg10) (hoff := k0_off5_inb i 4) (base i + 4) ((k0_off5_eq i ⟨4, by decide⟩).trans (vec2 (by show _ + 4 = _; omega)))) $$ I4; iintro G4
  iapply (wp_start' d i (heb := harg11) (hoff := k0_off5_inb i 5) (base i + 5) ((k0_off5_eq i ⟨5, by decide⟩).trans (vec2 (by show _ + 5 = _; omega)))) $$ I5; iintro G5
  iapply (wp_start' d i (heb := harg12) (hoff := k0_off5_inb i 6) (base i + 6) ((k0_off5_eq i ⟨6, by decide⟩).trans (vec2 (by show _ + 6 = _; omega)))) $$ I6; iintro G6
  iapply (wp_mols d i hEV hav hnv) $$ [G0 G1 G2 G3 G4 G5 G6 I7 Ha Hn Hh Hw HO]
  · unfold RingAt Work
    isplitl [G0 G1 G2 G3 G4 G5 G6 I7]
    · isplitl [G0]; · iexact G0
      isplitl [G1]; · iexact G1
      isplitl [G2]; · iexact G2
      isplitl [G3]; · iexact G3
      isplitl [G4]; · iexact G4
      isplitl [G5]; · iexact G5
      isplitl [G6]; · iexact G6
      iexact I7
    isplitr [HO]
    · isplitl [Ha]; · iexact Ha
      isplitl [Hn]; · iexact Hn
      isplitl [Hh]; · iexact Hh
      iexact Hw
    iexact HO
  unfold RingAt Work
  iintro ⟨⟨G0, G1, G2, G3, G4, G5, G6, I7⟩, ⟨Ha, Hn, Hh, Hw⟩, HO⟩
  iapply (wp_wait' d i (heb := harg6) (q := q0) (base i + 256)) $$ [G0 HO]
  · isplitl [G0] <;> iassumption
  iintro ⟨E0, A0, V0, HO⟩
  iapply (wp_wait' d i (heb := harg7) (q := q1) (base i + (256 + 1))) $$ [G1 HO]
  · isplitl [G1] <;> iassumption
  iintro ⟨E1, A1, V1, HO⟩
  iapply (wp_wait' d i (heb := harg8) (q := q2) (base i + (256 + 2))) $$ [G2 HO]
  · isplitl [G2] <;> iassumption
  iintro ⟨E2, A2, V2, HO⟩
  iapply (wp_wait' d i (heb := harg9) (q := q3) (base i + (256 + 3))) $$ [G3 HO]
  · isplitl [G3] <;> iassumption
  iintro ⟨E3, A3, V3, HO⟩
  iapply (wp_wait' d i (heb := harg10) (q := q4) (base i + (256 + 4))) $$ [G4 HO]
  · isplitl [G4] <;> iassumption
  iintro ⟨E4, A4, V4, HO⟩
  iapply (wp_wait' d i (heb := harg11) (q := q5) (base i + (256 + 5))) $$ [G5 HO]
  · isplitl [G5] <;> iassumption
  iintro ⟨E5, A5, V5, HO⟩
  iapply (wp_wait' d i (heb := harg12) (q := q6) (base i + (256 + 6))) $$ [G6 HO]
  · isplitl [G6] <;> iassumption
  iintro ⟨E6, A6, V6, HO⟩
  iapply (wp_loadH d i) $$ Hh; iintro Hh
  iapply (wp_storeH (N := 4608) d i) $$ Hh; iintro Hh
  iapply (wp_loadH d i) $$ Hh; iintro Hh
  iapply (wp_storeH (N := 4608) d i) $$ Hh; iintro Hh
  iapply (wp_loadH d i) $$ Hh; iintro Hh
  iapply (wp_storeH (N := 4608) d i) $$ Hh; iintro Hh
  iapply (wp_loadH d i) $$ Hh; iintro Hh
  iapply (wp_storeH (N := 4608) d i) $$ Hh; iintro Hh
  iapply (wp_out d i (harg16 := harg16)) $$ [Hh HX S2]
  · isplitl [Hh]; · iexact Hh
    isplitl [HX]; · iexact HX
    iexact S2
  iintro Hf
  iapply (wp_waitF d i (dst := oRow arg5 i) (sem := v117_r2)) $$ [Hf HO]
  · isplitl [Hf] <;> iassumption
  iintro ⟨⟨HX, Hh⟩, S2, HO⟩
  iapply le_wp_ret
  isplitl [E0 A0 V0 E1 A1 V1 E2 A2 V2 E3 A3 V3 E4 A4 V4 E5 A5 V5 E6 A6 V6 I7]
  · isplitl [E0 A0 V0]
    · unfold Idle
      iexists _
      isplitl [E0]; · iexact E0
      isplitl [A0]; · iexact A0
      iexact V0
    isplitl [E1 A1 V1]
    · unfold Idle
      iexists _
      isplitl [E1]; · iexact E1
      isplitl [A1]; · iexact A1
      iexact V1
    isplitl [E2 A2 V2]
    · unfold Idle
      iexists _
      isplitl [E2]; · iexact E2
      isplitl [A2]; · iexact A2
      iexact V2
    isplitl [E3 A3 V3]
    · unfold Idle
      iexists _
      isplitl [E3]; · iexact E3
      isplitl [A3]; · iexact A3
      iexact V3
    isplitl [E4 A4 V4]
    · unfold Idle
      iexists _
      isplitl [E4]; · iexact E4
      isplitl [A4]; · iexact A4
      iexact V4
    isplitl [E5 A5 V5]
    · unfold Idle
      iexists _
      isplitl [E5]; · iexact E5
      isplitl [A5]; · iexact A5
      iexact V5
    isplitl [E6 A6 V6]
    · unfold Idle
      iexists _
      isplitl [E6]; · iexact E6
      isplitl [A6]; · iexact A6
      iexact V6
    iexact I7
  isplitl [HA]; · iexact HA
  isplitl [HN]; · iexact HN
  isplitl [HX]; · iexact HX
  isplitl [Ha]; · iexists _; iexact Ha
  isplitl [Hn]; · iexists _; iexact Hn
  isplitl [Hh]; · iexists _; iexact Hh
  isplitl [Hw]; · iexists _; iexact Hw
  isplitl [S0]; · iexact S0
  isplitl [S1]; · iexact S1
  isplitl [S2]; · iexact S2
  iexact HO

end Cert.KernelIdeal.Tile
-- ==== Proof.Launch.lean ====
/- The SparseCore call as the launch theorem takes it: what each task is handed and hands back, the task's run from it, and the
   split of the four arrays over the thirty-two tasks. -/
module

public import proofs.«01_k».proof.Proof.Tile
public import Idealize.ShloMosaic.Lib.ShareLeaves

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig (HIx 1) (Elt F) ℕ UU ℕ

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The arrays of the call -/

/-- The packed edges, the atoms, the molecule sizes and the partial histograms. -/
abbrev eLoc (d : Dev nD) : Loc nD τ sig := (SparseCore.T d).loc main_v1
abbrev aLoc (d : Dev nD) : Loc nD τ sig := (SparseCore.T d).loc main_v0
abbrev nLoc (d : Dev nD) : Loc nD τ sig := (SparseCore.T d).loc main_arg2
abbrev oLoc (d : Dev nD) : Loc nD τ sig := (SparseCore.T d).loc main_v2

theorem odiv : 32 ∣ S32x4608.size 0 := ⟨1, rfl⟩
abbrev orow (w : Fin 32) : Rect S32x4608 := Rect.part (s := S32x4608) (a₀ := 0) odiv w
abbrev oSet (w : Fin 32) : Finset S32x4608.Idx := ((Memref.whole main_v2_scv).view.slice (orow w)).set

/-- The row of the partial histograms that coordinates `i` write. -/
def wid (i : grid0.Coords) : Fin 32 := ⟨2 * (i 1).val + (i 0).val, by
  have h0 : (i 0).val < 2 := (i 0).isLt
  have h1 : (i 1).val < 16 := (i 1).isLt
  omega⟩

abbrev scratch : List (Ref sig .scVector) := [cc0_scratch0, cc0_scratch1, cc0_scratch2, cc0_scratch3, cc0_scratch4, cc0_scratch5, cc0_scratch6, cc0_scratch7, cc0_scratch8, cc0_scratch9, cc0_scratch10, cc0_scratch11]
abbrev counters : List (DmaSem sig) := [cc0_scratch12.sem, cc0_scratch13.sem, cc0_scratch14.sem, cc0_scratch15.sem, cc0_scratch16.sem, cc0_scratch17.sem, cc0_scratch18.sem, cc0_scratch19.sem, cc0_scoped0.sem, cc0_scoped1.sem, cc0_scoped2.sem]

theorem scratch_nodup : scratch.Nodup := by decide
theorem counters_nodup : counters.Nodup := by decide
theorem counters_scoped : ∀ s ∈ counters, (SemLoc.dma s : SemLoc sig).isScoped .scVector = true := by decide

section Task

variable (d : Dev nD) (i : grid0.Coords)
variable (E : S8192x4096.Idx → BitVec 32) (A : S524288.Idx → BitVec 32) (N : S8192.Idx → BitVec 32)

/-- A task's part of the arrays, the result's holding `o` on its row. -/
def part (o : S32x4608.Idx → F .f32) : sProp 𝕄 :=
  iprop((eLoc d ↦{leaf 5 fullShare (wid i)} (E : Buf (Elt F) (eLoc d))) ∗ (aLoc d ↦{leaf 5 fullShare (wid i)} (A : Buf (Elt F) (aLoc d)))
    ∗ (nLoc d ↦{leaf 5 fullShare (wid i)} (N : Buf (Elt F) (nLoc d))) ∗ oLoc d ↦[oSet (wid i)]{fullShare} (o : Buf (Elt F) (oLoc d)))

instance part_storable (o : S32x4608.Idx → F .f32) : BI.Storable (upEmb : UEmb _ 𝕄) (part (F := F) d i E A N o) := by unfold part; infer_instance

theorem slice_set (r : Rect S32x4608) : (((Memref.whole main_v2_scv).view.slice r).set : Finset S32x4608.Idx) = r.set := by
  show ((View.whole (main_v2_scv : Ref sig .scVector)).slice r).set = _
  rw [View.set_slice]; exact Finset.map_refl

theorem oSet_eq (w : Fin 32) : oSet w = (orow w).set := slice_set _

theorem set_oRow : (oRow (Memref.whole main_v2_scv) i).view.set = oSet (wid i) := by
  have he : Rect.unit (s := S32x4608) (k0_off119 i) S1x4608.size (k0_off119_inb i) = orow (wid i) := by
    unfold orow Rect.part Rect.block
    congr 1 <;> funext a
    · rw [k0_off119_eq]
      match a with
      | 0 => simp [Shape.partIx, Shape.partSize, wid]
      | 1 => simp [Shape.partIx, Shape.partSize]
    · match a with
      | 0 => simp [Shape.partSize]
      | 1 => simp [Shape.partSize]
  show (((Memref.whole main_v2_scv).view.slice (Rect.unit (s := S32x4608) (k0_off119 i) S1x4608.size (k0_off119_inb i))).reshape S4608 squeezes_S1x4608_S4608.numel_eq).set = _
  rw [View.set_reshape]
  exact (slice_set _).trans ((congrArg (fun r : Rect S32x4608 => r.set) he).trans (slice_set _).symm)

/-- A whole buffer held is what its memref reads. -/
theorem holds_whole (b : Ref sig .scVector) (q : PosShare TreeShare) (v : Buf (Elt F) ((thr d i).loc b)) :
    ((thr d i).loc b ↦{q} v : sProp 𝕄) ⊢ Holds d i (Memref.whole b) q v := by
  unfold Holds
  iintro H
  iexists v; isplitr
  · ipureintro; exact View.read_whole b v
  iexact H

theorem whole_holds (b : Ref sig .scVector) (q : PosShare TreeShare) (v : Buf (Elt F) ((thr d i).loc b)) :
    Holds d i (Memref.whole b) q v ⊢ ((thr d i).loc b ↦{q} v : sProp 𝕄) := by
  unfold Holds
  iintro ⟨%f, %h, H⟩
  have e : f = v := (View.read_whole b f).symm.trans h
  subst e
  iexact H

/-- The tile's scratch buffers, at some contents. -/
def bufs : sProp 𝕄 := iprop((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f) ∗ (∃ f, (thr d i).loc cc0_scratch5 ↦{fullShare} f) ∗ (∃ f, (thr d i).loc cc0_scratch6 ↦{fullShare} f) ∗ (∃ f, (thr d i).loc cc0_scratch7 ↦{fullShare} f) ∗ (∃ f, (thr d i).loc cc0_scratch8 ↦{fullShare} f) ∗ (∃ f, (thr d i).loc cc0_scratch9 ↦{fullShare} f) ∗ (∃ f, (thr d i).loc cc0_scratch10 ↦{fullShare} f) ∗ (∃ f, (thr d i).loc cc0_scratch11 ↦{fullShare} f))
/-- The tile's counters, at zero. -/
def sems : sProp 𝕄 := iprop(semVal (thr d i, SemLoc.dma cc0_scratch12.sem) 0 ∗ semVal (thr d i, SemLoc.dma cc0_scratch13.sem) 0 ∗ semVal (thr d i, SemLoc.dma cc0_scratch14.sem) 0 ∗ semVal (thr d i, SemLoc.dma cc0_scratch15.sem) 0 ∗ semVal (thr d i, SemLoc.dma cc0_scratch16.sem) 0 ∗ semVal (thr d i, SemLoc.dma cc0_scratch17.sem) 0 ∗ semVal (thr d i, SemLoc.dma cc0_scratch18.sem) 0 ∗ semVal (thr d i, SemLoc.dma cc0_scratch19.sem) 0 ∗ semVal (thr d i, SemLoc.dma cc0_scoped0.sem) 0 ∗ semVal (thr d i, SemLoc.dma cc0_scoped1.sem) 0 ∗ semVal (thr d i, SemLoc.dma cc0_scoped2.sem) 0)

/-- Members of a list within a set, apart from the rest of the set. -/
theorem bigSep_list {I : Type} [DecidableEq I] (S : Finset I) (l : List I) (hn : l.Nodup) (hs : ∀ x ∈ l, x ∈ S) (Φ : I → sProp 𝕄) :
    bigSep S Φ = iprop(bigSepL l Φ ∗ bigSep (S \ l.toFinset) Φ) := by
  rw [SparseCore.bigSep_sdiff_split' (t := l.toFinset) (fun x hx => hs x (List.mem_toFinset.mp hx)), bigSep_eq_bigSepL l hn]

theorem ownBufs_split : ∃ R : sProp 𝕄, (ownBufs (thr d i) : sProp 𝕄) = iprop(bufs d i ∗ R) := by
  unfold SparseCore.Cfg.ownBufs
  have h := bigSep_list (F := F) (ownRefs (thr d i).2) (scratch.map fun b => (procOf i).devRef b) (List.Nodup.map (Proc.devRef_injective _) scratch_nodup)
    (by
      intro x hx
      obtain ⟨b, hb, rfl⟩ := List.mem_map.mp hx
      refine SparseCore.Cfg.mem_ownRefs_of_owner (p := procOf i) ?_
      fin_cases hb <;> rfl) (fun b => iprop(∃ f, (((thr d i).1, b) : Loc nD τ sig) ↦{fullShare} f))
  rw [h]
  unfold bufs
  simp only [scratch, List.map_cons, List.map_nil, BI.bigSepL_cons_cons, BI.bigSepL_singleton]
  exact ⟨_, rfl⟩

theorem ownSems_split : ∃ R : sProp 𝕄, (ownSems0 (thr d i) : sProp 𝕄) = iprop(sems d i ∗ R) := by
  unfold SparseCore.Cfg.ownSems0
  have h := bigSep_list (F := F) (ownCells (thr d i)) (counters.map fun s => ((thr d i, SemLoc.dma s) : GSem nD τ sig))
    (List.Nodup.map (fun a b h => by injection (Prod.mk.inj h).2) counters_nodup)
    (by
      intro x hx
      obtain ⟨s, hs, rfl⟩ := List.mem_map.mp hx
      refine mem_ownCells.mpr ⟨rfl, ?_⟩
      show (SemLoc.dma s : SemLoc sig).isScoped .scVector = true
      exact counters_scoped s hs) (fun g => semVal g 0)
  rw [h]
  unfold sems
  simp only [counters, List.map_cons, List.map_nil, BI.bigSepL_cons_cons, BI.bigSepL_singleton]
  exact ⟨_, rfl⟩

theorem lv8 (ℓ : Loc nD τ sig) (f : Buf (Elt F) ℓ) (q : PosShare TreeShare) :
    (ℓ ↦{q} f : sProp 𝕄) = bigSep Finset.univ fun w : Fin 8 => ℓ ↦{leaf 3 q w} f :=
  pointsTo_leaves (ℓ := ℓ) Finset.univ f 3 q

theorem leaves8 (q : PosShare TreeShare) :
    (eLoc d ↦{q} (E : Buf (Elt F) (eLoc d)) : sProp 𝕄) = iprop((eLoc d ↦{leaf 3 q (0 : Fin 8)} (E : Buf (Elt F) (eLoc d))) ∗ (eLoc d ↦{leaf 3 q (1 : Fin 8)} (E : Buf (Elt F) (eLoc d))) ∗ (eLoc d ↦{leaf 3 q (2 : Fin 8)} (E : Buf (Elt F) (eLoc d))) ∗ (eLoc d ↦{leaf 3 q (3 : Fin 8)} (E : Buf (Elt F) (eLoc d))) ∗ (eLoc d ↦{leaf 3 q (4 : Fin 8)} (E : Buf (Elt F) (eLoc d))) ∗ (eLoc d ↦{leaf 3 q (5 : Fin 8)} (E : Buf (Elt F) (eLoc d))) ∗ (eLoc d ↦{leaf 3 q (6 : Fin 8)} (E : Buf (Elt F) (eLoc d))) ∗ (eLoc d ↦{leaf 3 q (7 : Fin 8)} (E : Buf (Elt F) (eLoc d)))) := by
  have hl : (eLoc d ↦{q} (E : Buf (Elt F) (eLoc d)) : sProp 𝕄) = bigSep Finset.univ fun w : Fin 8 => eLoc d ↦{leaf 3 q w} (E : Buf (Elt F) (eLoc d)) :=
    lv8 (eLoc d) E q
  rw [hl]
  exact bigSep_univ_eq_bigSepL (I := Fin 8) [0, 1, 2, 3, 4, 5, 6, 7] (by decide) (by decide) (fun w => (eLoc d ↦{leaf 3 q w} (E : Buf (Elt F) (eLoc d)) : sProp 𝕄))

/-- What the tile's program uses, at the call's operands. -/
abbrev resAt (q : PosShare TreeShare) (ov : Vec F S4608 .f32) (O : CellTallies nD τ sig (HIx 1)) (W0 : Waits sig (HIx 1)) : sProp 𝕄 :=
  TileRes (F := F) d i (Memref.whole main_v1_scv) (Memref.whole main_v0_scv) (Memref.whole main_arg2_scv) (Memref.whole main_v2_scv) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) cc0_scratch12 cc0_scratch13 cc0_scratch14 cc0_scratch15 cc0_scratch16 cc0_scratch17 cc0_scratch18 cc0_scratch19 cc0_scoped0 cc0_scoped1 cc0_scoped2
    E A N (leaf 3 q (0 : Fin 8)) (leaf 3 q (1 : Fin 8)) (leaf 3 q (2 : Fin 8)) (leaf 3 q (3 : Fin 8)) (leaf 3 q (4 : Fin 8)) (leaf 3 q (5 : Fin 8)) (leaf 3 q (6 : Fin 8)) (leaf 3 q (7 : Fin 8)) q q ov O W0

theorem res_of_part (o : S32x4608.Idx → F .f32) {O : CellTallies nD τ sig (HIx 1)} {W0 : Waits sig (HIx 1)} :
    iprop(part (F := F) d i E A N o ∗ bufs d i ∗ sems d i ∗ OW (F := F) d i O W0)
      ⊢ resAt d i E A N (leaf 5 fullShare (wid i)) ((oRow (Memref.whole main_v2_scv) i).view.read (Elt F) (o : Buf (Elt F) (oLoc d))) O W0 := by
  unfold part bufs sems resAt TileRes
  rw [leaves8]
  iintro ⟨⟨⟨E0, E1, E2, E3, E4, E5, E6, E7⟩, HA, HN, HO⟩, ⟨⟨%b0, B0⟩, ⟨%b1, B1⟩, ⟨%b2, B2⟩, ⟨%b3, B3⟩, ⟨%b4, B4⟩, ⟨%b5, B5⟩, ⟨%b6, B6⟩, ⟨%b7, B7⟩, ⟨%b8, B8⟩, ⟨%b9, B9⟩, ⟨%b10, B10⟩, ⟨%b11, B11⟩⟩, ⟨S0, S1, S2, S3, S4, S5, S6, S7, S8, S9, S10⟩, HW⟩
  isplitl [E0 B0 S0 E1 B1 S1 E2 B2 S2 E3 B3 S3 E4 B4 S4 E5 B5 S5 E6 B6 S6 E7 B7 S7]
  · isplitl [E0 B0 S0]
    · unfold Idle
      iexists b0
      isplitl [B0]; · iapply (holds_whole d i cc0_scratch0 fullShare b0); iexact B0
      isplitl [E0]; · iapply (holds_whole d i main_v1_scv _ E); iexact E0
      iexact S0
    isplitl [E1 B1 S1]
    · unfold Idle
      iexists b1
      isplitl [B1]; · iapply (holds_whole d i cc0_scratch1 fullShare b1); iexact B1
      isplitl [E1]; · iapply (holds_whole d i main_v1_scv _ E); iexact E1
      iexact S1
    isplitl [E2 B2 S2]
    · unfold Idle
      iexists b2
      isplitl [B2]; · iapply (holds_whole d i cc0_scratch2 fullShare b2); iexact B2
      isplitl [E2]; · iapply (holds_whole d i main_v1_scv _ E); iexact E2
      iexact S2
    isplitl [E3 B3 S3]
    · unfold Idle
      iexists b3
      isplitl [B3]; · iapply (holds_whole d i cc0_scratch3 fullShare b3); iexact B3
      isplitl [E3]; · iapply (holds_whole d i main_v1_scv _ E); iexact E3
      iexact S3
    isplitl [E4 B4 S4]
    · unfold Idle
      iexists b4
      isplitl [B4]; · iapply (holds_whole d i cc0_scratch4 fullShare b4); iexact B4
      isplitl [E4]; · iapply (holds_whole d i main_v1_scv _ E); iexact E4
      iexact S4
    isplitl [E5 B5 S5]
    · unfold Idle
      iexists b5
      isplitl [B5]; · iapply (holds_whole d i cc0_scratch5 fullShare b5); iexact B5
      isplitl [E5]; · iapply (holds_whole d i main_v1_scv _ E); iexact E5
      iexact S5
    isplitl [E6 B6 S6]
    · unfold Idle
      iexists b6
      isplitl [B6]; · iapply (holds_whole d i cc0_scratch6 fullShare b6); iexact B6
      isplitl [E6]; · iapply (holds_whole d i main_v1_scv _ E); iexact E6
      iexact S6
    unfold Idle
    iexists b7
    isplitl [B7]; · iapply (holds_whole d i cc0_scratch7 fullShare b7); iexact B7
    isplitl [E7]; · iapply (holds_whole d i main_v1_scv _ E); iexact E7
    iexact S7

  isplitl [HA]; · iapply (holds_whole d i main_v0_scv _ A); iexact HA
  isplitl [HN]; · iapply (holds_whole d i main_arg2_scv _ N); iexact HN
  isplitl [HO]
  · unfold OutIs
    iexists (o : Buf (Elt F) (oLoc d))
    isplitr; · ipureintro; rfl
    rw [set_oRow]; iexact HO
  isplitl [B8]; · iexists b8; iapply (holds_whole d i cc0_scratch8 fullShare b8); iexact B8
  isplitl [B9]; · iexists b9; iapply (holds_whole d i cc0_scratch9 fullShare b9); iexact B9
  isplitl [B10]; · iexists b10; iapply (holds_whole d i cc0_scratch10 fullShare b10); iexact B10
  isplitl [B11]; · iexists b11; iapply (holds_whole d i cc0_scratch11 fullShare b11); iexact B11
  isplitl [S8]; · iexact S8
  isplitl [S9]; · iexact S9
  isplitl [S10]; · iexact S10
  iexact HW

theorem part_of_res (o : S32x4608.Idx → F .f32) (ov : Vec F S4608 .f32) (ho : ∀ g : Buf (Elt F) (oLoc d), (oRow (Memref.whole main_v2_scv) i).view.read (Elt F) g = ov → ∀ x ∈ oSet (wid i), g x = o x)
    {O : CellTallies nD τ sig (HIx 1)} {W0 : Waits sig (HIx 1)} :
    resAt d i E A N (leaf 5 fullShare (wid i)) ov O W0
      ⊢ iprop(part (F := F) d i E A N o ∗ bufs d i ∗ sems d i ∗ OW (F := F) d i O W0) := by
  unfold part bufs sems resAt TileRes Idle
  rw [leaves8]
  iintro ⟨⟨⟨%b0, B0, E0, S0⟩, ⟨%b1, B1, E1, S1⟩, ⟨%b2, B2, E2, S2⟩, ⟨%b3, B3, E3, S3⟩, ⟨%b4, B4, E4, S4⟩, ⟨%b5, B5, E5, S5⟩, ⟨%b6, B6, E6, S6⟩, ⟨%b7, B7, E7, S7⟩⟩, HA, HN, HO, ⟨%b8, B8⟩, ⟨%b9, B9⟩, ⟨%b10, B10⟩, ⟨%b11, B11⟩, S8, S9, S10, HW⟩
  isplitl [HA HN HO E0 E1 E2 E3 E4 E5 E6 E7]
  · isplitl [E0 E1 E2 E3 E4 E5 E6 E7]
    · isplitl [E0]; · iapply (whole_holds d i main_v1_scv _ E); iexact E0
      isplitl [E1]; · iapply (whole_holds d i main_v1_scv _ E); iexact E1
      isplitl [E2]; · iapply (whole_holds d i main_v1_scv _ E); iexact E2
      isplitl [E3]; · iapply (whole_holds d i main_v1_scv _ E); iexact E3
      isplitl [E4]; · iapply (whole_holds d i main_v1_scv _ E); iexact E4
      isplitl [E5]; · iapply (whole_holds d i main_v1_scv _ E); iexact E5
      isplitl [E6]; · iapply (whole_holds d i main_v1_scv _ E); iexact E6
      iapply (whole_holds d i main_v1_scv _ E); iexact E7
    isplitl [HA]; · iapply (whole_holds d i main_v0_scv _ A); iexact HA
    isplitl [HN]; · iapply (whole_holds d i main_arg2_scv _ N); iexact HN
    unfold OutIs
    icases HO with ⟨%g, %hg, HO⟩
    rw [set_oRow]
    iapply (Entails.of_eq (pointsTo_congr (ho g hg)))
    iexact HO
  isplitl [B0 B1 B2 B3 B4 B5 B6 B7 B8 B9 B10 B11]
  · isplitl [B0]; · iexists b0; iapply (whole_holds d i cc0_scratch0 fullShare b0); iexact B0
    isplitl [B1]; · iexists b1; iapply (whole_holds d i cc0_scratch1 fullShare b1); iexact B1
    isplitl [B2]; · iexists b2; iapply (whole_holds d i cc0_scratch2 fullShare b2); iexact B2
    isplitl [B3]; · iexists b3; iapply (whole_holds d i cc0_scratch3 fullShare b3); iexact B3
    isplitl [B4]; · iexists b4; iapply (whole_holds d i cc0_scratch4 fullShare b4); iexact B4
    isplitl [B5]; · iexists b5; iapply (whole_holds d i cc0_scratch5 fullShare b5); iexact B5
    isplitl [B6]; · iexists b6; iapply (whole_holds d i cc0_scratch6 fullShare b6); iexact B6
    isplitl [B7]; · iexists b7; iapply (whole_holds d i cc0_scratch7 fullShare b7); iexact B7
    isplitl [B8]; · iexists b8; iapply (whole_holds d i cc0_scratch8 fullShare b8); iexact B8
    isplitl [B9]; · iexists b9; iapply (whole_holds d i cc0_scratch9 fullShare b9); iexact B9
    isplitl [B10]; · iexists b10; iapply (whole_holds d i cc0_scratch10 fullShare b10); iexact B10
    iexists b11; iapply (whole_holds d i cc0_scratch11 fullShare b11); iexact B11
  isplitl [S0 S1 S2 S3 S4 S5 S6 S7 S8 S9 S10]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  iexact HW

/-- The coordinates of a task. -/
def coordsV (c : Fin (grid0.bound 0)) (s : Fin (grid0.bound 1)) : grid0.Coords :=
  fun | 0 => c | 1 => s | ⟨_ + 2, h⟩ => absurd h (Nat.not_lt.2 (Nat.le_add_left _ _))

/-- The partial histograms after the call: row `w` is that of the task whose coordinates have row `w`. -/
def parts : S32x4608.Idx → F .f32 := fun y =>
  tileOf (F := F) E A N (coordsV (⟨(y 0).val % 2, Nat.mod_lt _ (by decide)⟩ : Fin 2)
    (⟨(y 0).val / 2, by have : (y 0).val < 32 := (y 0).isLt; omega⟩ : Fin 16)) (ix1 (y 1).val (y 1).isLt)

theorem coords_eq (i : grid0.Coords) : coordsV (i 0) (i 1) = i := by
  funext a
  match a with
  | 0 => rfl
  | 1 => rfl

theorem coords_wid (i : grid0.Coords) (h0 : (wid i).val % 2 < 2) (h1 : (wid i).val / 2 < 16) :
    coordsV (⟨(wid i).val % 2, h0⟩ : Fin 2) (⟨(wid i).val / 2, h1⟩ : Fin 16) = i := by
  have g0 : (i 0).val < 2 := (i 0).isLt
  have hw : (wid i).val = 2 * (i 1).val + (i 0).val := rfl
  refine Eq.trans ?_ (coords_eq i)
  congr 1
  · apply Fin.ext; show (wid i).val % 2 = _; omega
  · apply Fin.ext; show (wid i).val / 2 = _; omega

/-- A row read as the tile's histogram is that row of `parts`. -/
theorem parts_row (g : Buf (Elt F) (oLoc d)) (hg : (oRow (Memref.whole main_v2_scv) i).view.read (Elt F) g = tileOf (F := F) E A N i) :
    ∀ x ∈ oSet (wid i), g x = parts E A N x := by
  intro x hx
  rw [← set_oRow] at hx
  obtain ⟨y, -, rfl⟩ := Finset.mem_map.mp hx
  have hv : (oRow (Memref.whole main_v2_scv) i).view.emb y
      = (Rect.unit (s := S32x4608) (k0_off119 i) S1x4608.size (k0_off119_inb i)).emb (Shape.reshapeEquiv squeezes_S1x4608_S4608.numel_eq y) := rfl
  rw [Shape.reshapeEquiv_cons_one (d := ![4608])] at hv
  have e0 : (((oRow (Memref.whole main_v2_scv) i).view.emb y) 0).val = (wid i).val := by
    rw [hv]
    show k0_off119 i 0 + 1 * 0 = _
    rw [k0_off119_eq]; rfl
  have e1 : (((oRow (Memref.whole main_v2_scv) i).view.emb y) 1).val = (y 0).val := by
    rw [hv]
    show k0_off119 i 1 + 1 * (y 0).val = _
    rw [k0_off119_eq]; show 0 + 1 * (y 0).val = _; omega
  have hgy : g ((oRow (Memref.whole main_v2_scv) i).view.emb y) = tileOf (F := F) E A N i y := congrFun hg y
  rw [hgy]
  unfold parts
  generalize hz : (oRow (Memref.whole main_v2_scv) i).view.emb y = z at e0 e1 ⊢
  have hi : ∀ h0 h1, coordsV (⟨(z 0).val % 2, h0⟩ : Fin 2) (⟨(z 0).val / 2, h1⟩ : Fin 16) = i := by rw [e0]; exact coords_wid i
  rw [hi]
  congr 1
  funext a; obtain rfl := Fin.eq_zero a
  exact Fin.ext e1.symm

theorem defs₀_vector (c : Fin τ.nSC) (s : Fin τ.nSub) :
    defs₀ (F := F) (.scVector c s) 0 ()
      = SparseCore.onTile hcore0 hsub0 (fun c s => cc0__sc_body (coordsV c s) (Memref.whole main_v1_scv) (Memref.isWhole_whole _) (Memref.whole main_v0_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scoped0 cc0_scoped1 cc0_scoped2) ⟨⟩ c s := rfl

/-- What the values of the integer arrays must be for the tile's program. -/
def Small (E : S8192x4096.Idx → BitVec 32) (A : S524288.Idx → BitVec 32) (N : S8192.Idx → BitVec 32) : Prop :=
  (∀ x, (E x).toNat < 5) ∧ (∀ x, (A x).toNat < 16) ∧ ∀ x, (N x).toNat < 65

/-- A task on its vector subcore. -/
theorem tile_body (hF : (K (F := F)).Facts) (hs : Small E A N) (o : S32x4608.Idx → F .f32) (O : CellTallies nD τ sig (HIx 1)) (W : Waits sig (HIx 1)) (hO : ∀ g, O g none = 0) :
    iprop(levAts (K (F := F)).L (K (F := F)).lev ∗ emp ∗ part (F := F) d i E A N o
        ∗ scopedBufs (thr d i) ∗ scopedSems0 (thr d i) ∗ owes (thr d i) O W)
      ⊢ wp frame (wpE (defs₀ (F := F)) 𝒱₀ (thr d i) none) Set.univ
          (cc0__sc_body i (Memref.whole main_v1_scv) (Memref.isWhole_whole _) (Memref.whole main_v0_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scoped0 cc0_scoped1 cc0_scoped2)
          fun _ => iprop(part (F := F) d i E A N (parts E A N) ∗ scopedBufs (thr d i) ∗ scopedSems0 (thr d i)
            ∗ ∃ W', ⌜∀ p ∈ W', p ∈ W ∨ p.2 = none ∨ p.2 = some (0 : Fin 1)⌝ ∗ owes (thr d i) O W') := by
  obtain ⟨RB, hB⟩ := ownBufs_split (F := F) d i
  obtain ⟨RS, hS⟩ := ownSems_split (F := F) d i
  rw [(K (F := F)).scopedBufs_V hF d ((i 0).castLE hcore0) ((i 1).castLE hsub0), SparseCore.Cfg.scopedSems0_V (Val := Elt F) d ((i 0).castLE hcore0) ((i 1).castLE hsub0), hB, hS]
  iintro ⟨#Hlv, -, HP, ⟨HB, HRB⟩, ⟨HS, HRS⟩, HO⟩
  ihave Hmw := (show levAts (K (F := F)).L (K (F := F)).lev ⊢ Transfers.MayWaits (thr d i) (none : HIx 1) O from
    (K (F := F)).mayWaits_none (thr := thr d i) hO) $$ Hlv
  iapply (wp_wand frame _ _) $$ [HP HB HS HO Hmw]
  · iapply (wp_tile (F := F) d i hs.1 hs.2.1 hs.2.2 _)
    iapply (res_of_part (F := F) d i E A N o)
    isplitl [HP]; · iexact HP
    isplitl [HB]; · iexact HB
    isplitl [HS]; · iexact HS
    unfold OW
    iexists W; isplitr
    · ipureintro; exact fun p hp => .inl hp
    isplitl [HO]; · iexact HO
    iexact Hmw
  iintro %_ H
  ihave H' := (part_of_res (F := F) d i E A N (parts E A N) (tileOf E A N i) (parts_row (F := F) d i E A N)) $$ H
  icases H' with ⟨HP, HB, HS, HW⟩
  isplitl [HP]; · iexact HP
  isplitl [HB HRB]; · isplitl [HB] <;> iassumption
  isplitl [HS HRS]; · isplitl [HS] <;> iassumption
  unfold OW
  icases HW with ⟨%W', %hW', HO, -⟩
  iexists W'; isplitr
  · ipureintro; exact fun p hp => (hW' p hp).imp_right Or.inl
  iexact HO

end Task

/-! ## What the handshakes carry -/

variable (E : Dev nD → S8192x4096.Idx → BitVec 32) (A : Dev nD → S524288.Idx → BitVec 32) (N : Dev nD → S8192.Idx → BitVec 32)
variable (o : Dev nD → S32x4608.Idx → F .f32)

abbrev crd (c : Fin 2) (s : Fin 16) : grid0.Coords := coordsV c s

/-- Each task is handed its part and hands it back with its histogram; a SparseCore, its tasks' parts. -/
def P : (K (F := F)).Pay (nD := nD) (Val := Elt F) (Name := ℕ) (U := UU) where
  st := fun q d c => match q with | 0 => bigSep Finset.univ fun s : Fin 16 => part (F := F) d (crd c s) (E d) (A d) (N d) (o d)
  dn := fun q d c => match q with | 0 => bigSep Finset.univ fun s : Fin 16 => part (F := F) d (crd c s) (E d) (A d) (N d) (parts (E d) (A d) (N d))
  go := fun q d c s => match q with | 0 => part (F := F) d (crd c s) (E d) (A d) (N d) (o d)
  td := fun q d c s => match q with | 0 => part (F := F) d (crd c s) (E d) (A d) (N d) (parts (E d) (A d) (N d))
  x := fun _ _ => iprop(emp)

instance P_storable : (P (F := F) E A N o).IsStorable where
  st q d c := match q with
    | 0 => (inferInstance : BI.Storable (upEmb : UEmb _ 𝕄) (bigSep Finset.univ fun s : Fin 16 => part (F := F) d (crd c s) (E d) (A d) (N d) (o d)))
  dn q d c := match q with
    | 0 => (inferInstance : BI.Storable (upEmb : UEmb _ 𝕄) (bigSep Finset.univ fun s : Fin 16 => part (F := F) d (crd c s) (E d) (A d) (N d) (parts (E d) (A d) (N d))))
  go q d c s := match q with
    | 0 => (inferInstance : BI.Storable (upEmb : UEmb _ 𝕄) (part (F := F) d (crd c s) (E d) (A d) (N d) (o d)))
  td q d c s := match q with
    | 0 => (inferInstance : BI.Storable (upEmb : UEmb _ 𝕄) (part (F := F) d (crd c s) (E d) (A d) (N d) (parts (E d) (A d) (N d))))

theorem vecSplit : (K (F := F)).VecSplit' (P (F := F) E A N o) 0 := by
  intro d c
  show (bigSep Finset.univ fun s : Fin 16 => part (F := F) d (crd c s) (E d) (A d) (N d) (o d)) ⊢ |={Set.univ}=> iprop(
      (bigSep Finset.univ fun s : Fin 16 => part (F := F) d (crd c s) (E d) (A d) (N d) (o d))
      ∗ ((bigSep Finset.univ fun s : Fin 16 => part (F := F) d (crd c s) (E d) (A d) (N d) (parts (E d) (A d) (N d)))
          -∗ bigSep Finset.univ fun s : Fin 16 => part (F := F) d (crd c s) (E d) (A d) (N d) (parts (E d) (A d) (N d))))
  iintro H; imodintro
  isplitl [H]; · iexact H
  iintro H; iexact H

set_option maxRecDepth 16384 in
theorem tileObl (hF : (K (F := F)).Facts) (hs : ∀ d, Small (E d) (A d) (N d)) : (K (F := F)).TileObl (D (F := F)) 𝒱 (P (F := F) E A N o) v₀ 0 := by
  intro d c i O W hO _ _
  simp only [show (P (F := F) E A N o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (F := F) d (coordsV ⟨_, hci.1⟩ ⟨_, hci.2⟩) (E d) (A d) (N d) hF (hs d) (o d) O W hO

/-! ## The arrays split and join -/

theorem oPts_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet (fun i _ j _ h => by rw [oSet_eq, oSet_eq]; exact Rect.part_disjoint odiv h),
    show (Finset.univ : Finset (Fin 32)).biUnion oSet = Finset.univ from (Finset.biUnion_congr rfl fun i _ => oSet_eq i).trans (Rect.biUnion_part odiv)]
  try rfl

/-- The thirty-two tasks, by SparseCore and subcore. -/
theorem bigSep_tasks (Φ : Fin 32 → sProp 𝕄) :
    (bigSep Finset.univ fun c : Fin 2 => bigSep Finset.univ fun s : Fin 16 => Φ (wid (crd c s))) = bigSep Finset.univ Φ := by
  rw [bigSep_univ_equiv ((Equiv.prodComm (Fin 2) (Fin 16)).trans (finProdFinEquiv : Fin 16 × Fin 2 ≃ Fin 32)) Φ, bigSep_univ_prod]
  refine bigSep_congr fun c _ => bigSep_congr fun s _ => congrArg Φ (Fin.ext ?_)
  show 2 * s.val + c.val = c.val + 2 * s.val
  omega

/-- All the tasks' parts are the four arrays. -/
theorem parts_all (d : Dev nD) (E : S8192x4096.Idx → BitVec 32) (A : S524288.Idx → BitVec 32) (N : S8192.Idx → BitVec 32) (o : S32x4608.Idx → F .f32) :
    (bigSep Finset.univ fun c : Fin 2 => bigSep Finset.univ fun s : Fin 16 => part (F := F) d (crd c s) E A N o)
      = iprop((eLoc d ↦{fullShare} (E : Buf (Elt F) (eLoc d))) ∗ (aLoc d ↦{fullShare} (A : Buf (Elt F) (aLoc d)))
          ∗ (nLoc d ↦{fullShare} (N : Buf (Elt F) (nLoc d))) ∗ oLoc d ↦{fullShare} (o : Buf (Elt F) (oLoc d))) := by
  have hl : ∀ (ℓ : Loc nD τ sig) (f : Buf (Elt F) ℓ), (bigSep Finset.univ fun w : Fin 32 => (ℓ ↦{leaf 5 fullShare w} f : sProp 𝕄)) = ℓ ↦{fullShare} f :=
    fun ℓ f => (pointsTo_leaves (ℓ := ℓ) Finset.univ f 5 fullShare).symm
  unfold part
  simp only [bigSep_sep']
  rw [bigSep_tasks (fun w => (eLoc d ↦{leaf 5 fullShare w} (E : Buf (Elt F) (eLoc d)) : sProp 𝕄)),
    bigSep_tasks (fun w => (aLoc d ↦{leaf 5 fullShare w} (A : Buf (Elt F) (aLoc d)) : sProp 𝕄)),
    bigSep_tasks (fun w => (nLoc d ↦{leaf 5 fullShare w} (N : Buf (Elt F) (nLoc d)) : sProp 𝕄)),
    bigSep_tasks (fun w => (oLoc d ↦[oSet w]{fullShare} (o : Buf (Elt F) (oLoc d)) : sProp 𝕄)),
    hl, hl, hl, ← oPts_rows]

end Cert.KernelIdeal.Tile

end
-- ==== Proof.Final.lean ====
/- The finishing call, on the TensorCore: its body run on its ten staging buffers, and the call as a step of the whole
   program, from any contents of the arrays to the five results written. -/
module

public import proofs.«01_k».proof.Proof.Launch
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.ValueKit

@[expose] public section

noncomputable section

namespace Cert.KernelIdeal.Tile

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## What the call computes -/

section Values

variable (p : S32x288x16.Idx → F .f32) (a3 : S65.Idx → F .f32) (a4 : S16.Idx → F .f32) (a5 : S5.Idx → F .f32) (a6 : S190.Idx → F .f32)

/-- The five results, of the partial histograms and the four targets. -/
def fin0 : S65.Idx → F .f32 := k1_pay6 p
def fin1 : S16.Idx → F .f32 := k1_pay7 p
def fin2 : S5.Idx → F .f32 := k1_pay8 (k1_pay5 p)
def fin3 : S190.Idx → F .f32 := k1_pay9 (k1_pay4 p)
def fin4 : S4.Idx → F .f32 := k1_pay1 (fin0 p) (fin1 p) (fin2 p) (fin3 p) (k1_pay10 a3) (k1_pay11 a4) (k1_pay12 a5) (k1_pay13 a6)

end Values

/-! ## The body -/

section Body

variable (c : Dev nD)

/-- The whole of `M`'s buffer is held, and `M` reads `v`. -/
def HoldsC {sp : Space} {s : Shape} {e : EltTy} (M : Memref sig .tc sp s e) (v : s.Idx → Elt F e) : sProp 𝕄 :=
  iprop(∃ f : Buf (Elt F) (M.view.loc (c : Thread nD τ)), ⌜M.view.read (Elt F) f = v⌝ ∗ M.view.loc (c : Thread nD τ) ↦{fullShare} f)

/-- The weakest precondition of the call's body. -/
abbrev wpC {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A rectangle of offset zero and full size is the whole shape. -/
theorem unit_emb {s : Shape} {off : Fin s.rank → ℕ} {hoff : ∀ a, off a + s.size a ≤ s.size a} (h0 : ∀ a, off a = 0) (x : s.Idx) :
    (Rect.unit (s := s) off s.size hoff).emb x = x := by
  funext a; apply Fin.ext
  show off a + 1 * (x a).val = (x a).val
  rw [h0 a]; omega

/-- A load of a whole buffer. -/
theorem wp_loadC {s : Shape} {e : EltTy} {M : Memref sig .tc .vmem s e} {off : Fin s.rank → ℕ} {hoff : ∀ a, off a + s.size a ≤ s.size a}
    (h0 : ∀ a, off a = 0) {hl : M.view.LoadsAt (Rect.unit (s := s) off s.size hoff).toLoadRect}
    {α : Type} {k : (s.Idx → Elt F e) → Prog (TpuEff nD τ sig (Elt F) Λ₀ .tc) α} {v : s.Idx → Elt F e} {Q : α → sProp 𝕄} :
    HoldsC c M v ⊢ iprop((HoldsC c M v -∗ wpC c (k v) Q) -∗ wpC c (Prog.lift (.load M (Rect.unit (s := s) off s.size hoff).toLoadRect hl) >>= k) Q) := by
  unfold HoldsC
  iintro ⟨%f, %hf, H⟩ Hk
  have hr : M.view.readAt (Elt F) (Rect.unit (s := s) off s.size hoff).toLoadRect f = v := by
    subst hf; funext x
    show M.view.read (Elt F) f ((Rect.unit (s := s) off s.size hoff).emb x) = _
    rw [unit_emb h0]
  iapply (wp_load (defs := defs₀ (F := F)) 𝒱₀ (c : Thread nD τ) none Set.univ (Q := Q) (m := M) (r := (Rect.unit (s := s) off s.size hoff).toLoadRect) (hl := hl) (k := k)
    (f := f) (q := fullShare) (S := Finset.univ) (Finset.subset_univ _)) $$ H; iintro H
  rw [hr]
  iapply Hk
  iexists f; isplitr; · ipureintro; exact hf
  iexact H

/-- A store over a whole buffer. -/
theorem wp_storeC {s : Shape} {e : EltTy} {M : Memref sig .tc .vmem s e} {off : Fin s.rank → ℕ} {hoff : ∀ a, off a + s.size a ≤ s.size a}
    (h0 : ∀ a, off a = 0) {w : s.Idx → Elt F e} {hx : (M.access (Rect.unit (s := s) off s.size hoff)).Stores Finset.univ} {hm}
    {α : Type} {k : PUnit → Prog (TpuEff nD τ sig (Elt F) Λ₀ .tc) α} {v : s.Idx → Elt F e} {Q : α → sProp 𝕄} :
    HoldsC c M v ⊢ iprop((HoldsC c M w -∗ wpC c (k ⟨⟩) Q)
      -∗ wpC c (Prog.lift (.store M (Rect.unit (s := s) off s.size hoff) w Finset.univ hx hm) >>= k) Q) := by
  unfold HoldsC
  iintro ⟨%f, %hf, H⟩ Hk
  iapply (wp_store (defs := defs₀ (F := F)) 𝒱₀ (c : Thread nD τ) none Set.univ (Q := Q) (m := M) (r := Rect.unit (s := s) off s.size hoff) (w := w) (Mk := Finset.univ)
    (hx := hx) (hm := hm) (k := k) (f := f) (S := Finset.univ) (Finset.subset_univ _)) $$ H; iintro H
  iapply Hk
  iexists (View.write (Elt F) (M.access (Rect.unit (s := s) off s.size hoff)) f w Finset.univ)
  isplitr
  · ipureintro
    funext y
    conv_lhs => rw [← unit_emb (hoff := hoff) h0 y]
    exact View.read_slice_write_emb (v := M.view) (Rect.unit (s := s) off s.size hoff) f w (Finset.mem_univ _)
  iexact H

theorem z1 : ∀ a : Fin 1, (![0] : Fin 1 → ℕ) a = 0 := by decide
theorem z3 : ∀ a : Fin 3, (![0, 0, 0] : Fin 3 → ℕ) a = 0 := by decide

/-- The body, from its inputs' staging buffers: the five results' buffers are left holding the results. -/
theorem wp_body (M0 : Memref sig .tc .vmem S32x288x16 .f32) (h0 : M0.IsWhole) (M1 : Memref sig .tc .vmem S65 .f32) (h1 : M1.IsWhole) (M2 : Memref sig .tc .vmem S16 .f32) (h2 : M2.IsWhole) (M3 : Memref sig .tc .vmem S5 .f32) (h3 : M3.IsWhole) (M4 : Memref sig .tc .vmem S190 .f32) (h4 : M4.IsWhole) (M5 : Memref sig .tc .vmem S65 .f32) (h5 : M5.IsWhole) (M6 : Memref sig .tc .vmem S16 .f32) (h6 : M6.IsWhole) (M7 : Memref sig .tc .vmem S5 .f32) (h7 : M7.IsWhole) (M8 : Memref sig .tc .vmem S190 .f32) (h8 : M8.IsWhole) (M9 : Memref sig .tc .vmem S4 .f32) (h9 : M9.IsWhole)
    {x0 : S32x288x16.Idx → F .f32} {x1 : S65.Idx → F .f32} {x2 : S16.Idx → F .f32} {x3 : S5.Idx → F .f32} {x4 : S190.Idx → F .f32} {y5 : S65.Idx → F .f32} {y6 : S16.Idx → F .f32} {y7 : S5.Idx → F .f32} {y8 : S190.Idx → F .f32} {y9 : S4.Idx → F .f32} {Q : PUnit → sProp 𝕄} :
    iprop((HoldsC c M0 x0 ∗ HoldsC c M1 x1 ∗ HoldsC c M2 x2 ∗ HoldsC c M3 x3 ∗ HoldsC c M4 x4 ∗ HoldsC c M5 y5 ∗ HoldsC c M6 y6 ∗ HoldsC c M7 y7 ∗ HoldsC c M8 y8 ∗ HoldsC c M9 y9)
      ∗ ((HoldsC c M0 x0 ∗ HoldsC c M1 x1 ∗ HoldsC c M2 x2 ∗ HoldsC c M3 x3 ∗ HoldsC c M4 x4 ∗ HoldsC c M5 (fin0 x0) ∗ HoldsC c M6 (fin1 x0) ∗ HoldsC c M7 (fin2 x0) ∗ HoldsC c M8 (fin3 x0) ∗ HoldsC c M9 (fin4 x0 x1 x2 x3 x4)) -∗ Q ⟨⟩))
      ⊢ wpC c (cc1__finalize_body M0 h0 M1 h1 M2 h2 M3 h3 M4 h4 M5 h5 M6 h6 M7 h7 M8 h8 M9 h9) Q := by
  rw [cc1__finalize_body_eq_skeleton]
  unfold cc1__finalize_body_skel
  rw [k1_part1_eq_skeleton, k1_part2_eq_skeleton]
  unfold k1_part1_skel k1_part2_skel
  simp only [bind_assoc, pure_bind]
  iintro ⟨⟨H0, H1, H2, H3, H4, H5, H6, H7, H8, H9⟩, Hk⟩
  iapply (wp_loadC c z3) $$ H0; iintro H0
  iapply (wp_loadC c z1) $$ H1; iintro H1
  iapply (wp_loadC c z1) $$ H2; iintro H2
  iapply (wp_loadC c z1) $$ H3; iintro H3
  iapply (wp_loadC c z1) $$ H4; iintro H4
  iapply (wp_loadC c z1) $$ H5; iintro H5
  iapply (wp_storeC c z1) $$ H5; iintro H5
  iapply (wp_loadC c z1) $$ H6; iintro H6
  iapply (wp_storeC c z1) $$ H6; iintro H6
  iapply (wp_loadC c z1) $$ H7; iintro H7
  iapply (wp_storeC c z1) $$ H7; iintro H7
  iapply (wp_loadC c z1) $$ H8; iintro H8
  iapply (wp_storeC c z1) $$ H8; iintro H8
  iapply (wp_loadC c z1) $$ H9; iintro H9
  iapply (wp_storeC c z1) $$ H9; iintro H9
  iapply le_wp_ret
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Body

/-! ## The proof data, at contents of the arrays -/

/-- Every TensorCore's unscoped buffer, at some contents. -/
abbrev Vals (F : FTy → Type) : Type := (c : Dev nD) → (b : Ref sig .tc) → Buf (Elt F) ((c : Thread nD τ).loc b)

variable (V : Vals F)

/-- The pairs a TensorCore's waits may have recorded by the finishing call. -/
def recd (c : Dev nD) : Set (SemLoc sig × HIx 1) := {p | (K (F := F)).lev (T c, p.1) p.2 ≤ 8}

/-- The proof data: the arrays at `V`; the inputs' buffers as fetched, the results' at the results. -/
def dat (c : Dev nD) : Dat τ (Elt F) (HIx 1) ℕ UU ℕ cfg1 c where
  A w := V c (Pipeline.arrRef spec1 w)
  after w _ := match w with
    | ⟨0, _⟩ => V c main_v3
    | ⟨1, _⟩ => V c main_arg3
    | ⟨2, _⟩ => V c main_arg4
    | ⟨3, _⟩ => V c main_arg5
    | ⟨4, _⟩ => V c main_arg6
    | ⟨5, _⟩ => fin0 (V c main_v3)
    | ⟨6, _⟩ => fin1 (V c main_v3)
    | ⟨7, _⟩ => fin2 (V c main_v3)
    | ⟨8, _⟩ => fin3 (V c main_v3)
    | ⟨9, _⟩ => fin4 (V c main_v3) (V c main_arg3) (V c main_arg4) (V c main_arg5) (V c main_arg6)
  Φ _ := Pipeline.scopedRest (Ix := HIx 1) (Name := ℕ) (U := UU) (Lvl := ℕ) (Val := Elt F) spec1 c
  q _ := fullShare
  owed _ := 0
  recorded _ := recd (F := F) c

theorem before_0 (c : Dev nD) (d : (cfg1.win 0).block.Idx → Elt F (cfg1.win 0).elt) : (dat V c).before 0 t1_0 d = V c main_v3 := by
  unfold Dat.before; rw [if_pos (fetch1_0 t1_0)]
  funext y
  show V c main_v3 (((cfg1.win 0).blk t1_0).view.emb y) = _
  congr 1
  funext a; apply Fin.ext
  show 0 * _ + 1 * (y a).val = _
  rw [Nat.zero_mul]; omega

theorem before_1 (c : Dev nD) (d : (cfg1.win 1).block.Idx → Elt F (cfg1.win 1).elt) : (dat V c).before 1 t1_0 d = V c main_arg3 := by
  unfold Dat.before; rw [if_pos (fetch1_1 t1_0)]
  funext y
  show V c main_arg3 (((cfg1.win 1).blk t1_0).view.emb y) = _
  congr 1
  funext a; apply Fin.ext
  show 0 * _ + 1 * (y a).val = _
  rw [Nat.zero_mul]; omega

theorem before_2 (c : Dev nD) (d : (cfg1.win 2).block.Idx → Elt F (cfg1.win 2).elt) : (dat V c).before 2 t1_0 d = V c main_arg4 := by
  unfold Dat.before; rw [if_pos (fetch1_2 t1_0)]
  funext y
  show V c main_arg4 (((cfg1.win 2).blk t1_0).view.emb y) = _
  congr 1
  funext a; apply Fin.ext
  show 0 * _ + 1 * (y a).val = _
  rw [Nat.zero_mul]; omega

theorem before_3 (c : Dev nD) (d : (cfg1.win 3).block.Idx → Elt F (cfg1.win 3).elt) : (dat V c).before 3 t1_0 d = V c main_arg5 := by
  unfold Dat.before; rw [if_pos (fetch1_3 t1_0)]
  funext y
  show V c main_arg5 (((cfg1.win 3).blk t1_0).view.emb y) = _
  congr 1
  funext a; apply Fin.ext
  show 0 * _ + 1 * (y a).val = _
  rw [Nat.zero_mul]; omega

theorem before_4 (c : Dev nD) (d : (cfg1.win 4).block.Idx → Elt F (cfg1.win 4).elt) : (dat V c).before 4 t1_0 d = V c main_arg6 := by
  unfold Dat.before; rw [if_pos (fetch1_4 t1_0)]
  funext y
  show V c main_arg6 (((cfg1.win 4).blk t1_0).view.emb y) = _
  congr 1
  funext a; apply Fin.ext
  show 0 * _ + 1 * (y a).val = _
  rw [Nat.zero_mul]; omega

/-- The body meets its obligation. -/
theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.succ = (dat V c).Φ t1_0.castSucc from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩⟩
  rw [before_0] at hf0
  rw [before_1] at hf1
  rw [before_2] at hf2
  rw [before_3] at hf3
  rw [before_4] at hf4
  iapply (wp_body c (st1_0 t1_0) (hstage1_0 0) (st1_1 t1_0) (hstage1_1 0) (st1_2 t1_0) (hstage1_2 0) (st1_3 t1_0) (hstage1_3 0) (st1_4 t1_0) (hstage1_4 0) (st1_5 t1_0) (hstage1_5 0) (st1_6 t1_0) (hstage1_6 0) (st1_7 t1_0) (hstage1_7 0) (st1_8 t1_0) (hstage1_8 0) (st1_9 t1_0) (hstage1_9 0) (x0 := V c main_v3) (x1 := V c main_arg3) (x2 := V c main_arg4) (x3 := V c main_arg5) (x4 := V c main_arg6) (y5 := View.read (Elt F) (st1_5 t1_0).view f5) (y6 := View.read (Elt F) (st1_6 t1_0).view f6) (y7 := View.read (Elt F) (st1_7 t1_0).view f7) (y8 := View.read (Elt F) (st1_8 t1_0).view f8) (y9 := View.read (Elt F) (st1_9 t1_0).view f9))
  isplitl [H0 H1 H2 H3 H4 H5 H6 H7 H8 H9]
  · isplitl [H0]; · unfold HoldsC; iexists f0; isplitr; swap; (· iexact H0); ipureintro; exact hf0
    isplitl [H1]; · unfold HoldsC; iexists f1; isplitr; swap; (· iexact H1); ipureintro; exact hf1
    isplitl [H2]; · unfold HoldsC; iexists f2; isplitr; swap; (· iexact H2); ipureintro; exact hf2
    isplitl [H3]; · unfold HoldsC; iexists f3; isplitr; swap; (· iexact H3); ipureintro; exact hf3
    isplitl [H4]; · unfold HoldsC; iexists f4; isplitr; swap; (· iexact H4); ipureintro; exact hf4
    isplitl [H5]; · unfold HoldsC; iexists f5; isplitr; swap; (· iexact H5); ipureintro; exact rfl
    isplitl [H6]; · unfold HoldsC; iexists f6; isplitr; swap; (· iexact H6); ipureintro; exact rfl
    isplitl [H7]; · unfold HoldsC; iexists f7; isplitr; swap; (· iexact H7); ipureintro; exact rfl
    isplitl [H8]; · unfold HoldsC; iexists f8; isplitr; swap; (· iexact H8); ipureintro; exact rfl
    unfold HoldsC; iexists f9; isplitr; swap; (· iexact H9); ipureintro; exact rfl
  unfold HoldsC
  iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩⟩
  isplitl [HΦ]; · iexact HΦ
  isplitl [Howes]; · iexact Howes
  isplitl [H0]; · iexists g0; isplitr; swap; (· iexact H0); ipureintro; exact hg0
  isplitl [H1]; · iexists g1; isplitr; swap; (· iexact H1); ipureintro; exact hg1
  isplitl [H2]; · iexists g2; isplitr; swap; (· iexact H2); ipureintro; exact hg2
  isplitl [H3]; · iexists g3; isplitr; swap; (· iexact H3); ipureintro; exact hg3
  isplitl [H4]; · iexists g4; isplitr; swap; (· iexact H4); ipureintro; exact hg4
  isplitl [H5]; · iexists g5; isplitr; swap; (· iexact H5); ipureintro; exact hg5
  isplitl [H6]; · iexists g6; isplitr; swap; (· iexact H6); ipureintro; exact hg6
  isplitl [H7]; · iexists g7; isplitr; swap; (· iexact H7); ipureintro; exact hg7
  isplitl [H8]; · iexists g8; isplitr; swap; (· iexact H8); ipureintro; exact hg8
  iexists g9; isplitr; swap; (· iexact H9); ipureintro; exact hg9

/-- Result 0's array after the call. -/
theorem arr_5 (c : Dev nD) : (dat V c).arrAt 5 cfg1.N = (fin0 (V c main_v3) : Buf (Elt F) ((c : Thread nD τ).loc main_v4_0)) :=
  (dat V c).arrAt_eq_of_covers 5 _ (by decide +kernel) fun t hf y => by
    obtain rfl := fin_N1 t
    show fin0 (V c main_v3) _ = fin0 (V c main_v3) (((cfg1.win 5).blk t1_0).view.emb y)
    congr 1
    funext a; apply Fin.ext
    show (y a).val = 0 * _ + 1 * (y a).val
    rw [Nat.zero_mul]; omega

/-- Result 1's array after the call. -/
theorem arr_6 (c : Dev nD) : (dat V c).arrAt 6 cfg1.N = (fin1 (V c main_v3) : Buf (Elt F) ((c : Thread nD τ).loc main_v4_1)) :=
  (dat V c).arrAt_eq_of_covers 6 _ (by decide +kernel) fun t hf y => by
    obtain rfl := fin_N1 t
    show fin1 (V c main_v3) _ = fin1 (V c main_v3) (((cfg1.win 6).blk t1_0).view.emb y)
    congr 1
    funext a; apply Fin.ext
    show (y a).val = 0 * _ + 1 * (y a).val
    rw [Nat.zero_mul]; omega

/-- Result 2's array after the call. -/
theorem arr_7 (c : Dev nD) : (dat V c).arrAt 7 cfg1.N = (fin2 (V c main_v3) : Buf (Elt F) ((c : Thread nD τ).loc main_v4_2)) :=
  (dat V c).arrAt_eq_of_covers 7 _ (by decide +kernel) fun t hf y => by
    obtain rfl := fin_N1 t
    show fin2 (V c main_v3) _ = fin2 (V c main_v3) (((cfg1.win 7).blk t1_0).view.emb y)
    congr 1
    funext a; apply Fin.ext
    show (y a).val = 0 * _ + 1 * (y a).val
    rw [Nat.zero_mul]; omega

/-- Result 3's array after the call. -/
theorem arr_8 (c : Dev nD) : (dat V c).arrAt 8 cfg1.N = (fin3 (V c main_v3) : Buf (Elt F) ((c : Thread nD τ).loc main_v4_3)) :=
  (dat V c).arrAt_eq_of_covers 8 _ (by decide +kernel) fun t hf y => by
    obtain rfl := fin_N1 t
    show fin3 (V c main_v3) _ = fin3 (V c main_v3) (((cfg1.win 8).blk t1_0).view.emb y)
    congr 1
    funext a; apply Fin.ext
    show (y a).val = 0 * _ + 1 * (y a).val
    rw [Nat.zero_mul]; omega

/-- Result 4's array after the call. -/
theorem arr_9 (c : Dev nD) : (dat V c).arrAt 9 cfg1.N = (fin4 (V c main_v3) (V c main_arg3) (V c main_arg4) (V c main_arg5) (V c main_arg6) : Buf (Elt F) ((c : Thread nD τ).loc main_v4_4)) :=
  (dat V c).arrAt_eq_of_covers 9 _ (by decide +kernel) fun t hf y => by
    obtain rfl := fin_N1 t
    show fin4 (V c main_v3) (V c main_arg3) (V c main_arg4) (V c main_arg5) (V c main_arg6) _ = fin4 (V c main_v3) (V c main_arg3) (V c main_arg4) (V c main_arg5) (V c main_arg6) (((cfg1.win 9).blk t1_0).view.emb y)
    congr 1
    funext a; apply Fin.ext
    show (y a).val = 0 * _ + 1 * (y a).val
    rw [Nat.zero_mul]; omega

/-! ## The call as a step of the program -/

/-- The one pipeline's proof data. -/
def pdats (adm : (p : Fin 1) → (pcfgs (F := F) p).Adm) : (p : Fin 1) → (c : Dev nD) → Dat τ (Elt F) (HIx 1) ℕ UU ℕ (Pipeline.pin (pcfgs (F := F)) adm p) c
  | ⟨0, _⟩ => fun c => dat V c

/-- The TensorCore's waits so far, nothing owed. -/
def owesN (c : Dev nD) : sProp 𝕄 := iprop(∃ W, ⌜(K (F := F)).WBelow (T c) W (8)⌝ ∗ owes (T c) (0 : CellTallies nD τ sig (HIx 1)) W)

variable (Vp : Vals F) (adm : (p : Fin 1) → (pcfgs (F := F) p).Adm)

set_option backward.isDefEq.respectTransparency.types false in
/-- The finishing call, over every unscoped buffer at `V`: it leaves them at `Vp`, which differs at the results. -/
def reg
    (hres : ∀ c, Vp c main_v4_0 = (dat V c).arrAt 5 cfg1.N ∧ Vp c main_v4_1 = (dat V c).arrAt 6 cfg1.N ∧ Vp c main_v4_2 = (dat V c).arrAt 7 cfg1.N ∧ Vp c main_v4_3 = (dat V c).arrAt 8 cfg1.N ∧ Vp c main_v4_4 = (dat V c).arrAt 9 cfg1.N)
    (hne : ∀ c (b : Ref sig .tc), b ∉ [main_v4_0, main_v4_1, main_v4_2, main_v4_3, main_v4_4] → Vp c b = V c b) :
    Pipeline.RegionSeg (pcfgs (F := F)) adm (pdats V adm) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesN c)
  post c := iprop(unscopedBufs c (Vp c) ∗ owesN c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) (launch1).win (launch1).arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesN
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V adm 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V adm) ((pdats V adm 0 c).share_full fun _ => rfl) (V c) (Vp c) ((pdats V adm 0 c).arrAt · cfg1.N)
      (fun w => by
        obtain ⟨e5, e6, e7, e8, e9⟩ := hres c
        fin_cases w
        · exact ((pdats V adm 0 c).arrAt_in 0 rfl _).trans (hne c main_v3 (by decide)).symm
        · exact ((pdats V adm 0 c).arrAt_in 1 rfl _).trans (hne c main_arg3 (by decide)).symm
        · exact ((pdats V adm 0 c).arrAt_in 2 rfl _).trans (hne c main_arg4 (by decide)).symm
        · exact ((pdats V adm 0 c).arrAt_in 3 rfl _).trans (hne c main_arg5 (by decide)).symm
        · exact ((pdats V adm 0 c).arrAt_in 4 rfl _).trans (hne c main_arg6 (by decide)).symm
        · exact e5.symm
        · exact e6.symm
        · exact e7.symm
        · exact e8.symm
        · exact e9.symm
        )
      (fun b hb => hne c b fun h => hb (by
        simp only [List.mem_cons, List.not_mem_nil, _root_.or_false] at h
        rcases h with rfl | rfl | rfl | rfl | rfl
        · exact Finset.mem_image.mpr ⟨5, Finset.mem_univ _, rfl⟩
        · exact Finset.mem_image.mpr ⟨6, Finset.mem_univ _, rfl⟩
        · exact Finset.mem_image.mpr ⟨7, Finset.mem_univ _, rfl⟩
        · exact Finset.mem_image.mpr ⟨8, Finset.mem_univ _, rfl⟩
        · exact Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin owesN
    icases HO with ⟨%W, %hW, HO⟩; iexists W; isplitr; swap; (· iexact HO)
    ipureintro
    intro p hp
    rcases hW hp with h | ⟨w, s, h⟩
    · exact h
    · rw [h]; exact Nat.zero_le _

end Cert.KernelIdeal.Tile
-- ==== Proof.Main.lean ====
/- The whole program: @main's reshapes, the call on the tiles, the finishing call, and what the memory holds at the end:
   the arguments as they were, and the five results as functions of the arguments. -/
module

public import proofs.«01_k».proof.Proof.Final

@[expose] public section

noncomputable section

namespace Cert.KernelIdeal.Tile

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The contents of the buffers along the program -/

section Contents

variable (m : (ℓ : Loc nD τ sig) → Buf (Elt F) ℓ) (d : Dev nD)

/-- The edges, the atoms and the molecule sizes, as the tiles are given them. -/
def eOf : S8192x4096.Idx → BitVec 32 := shapeCast S8192x4096 (m (d, (main_arg1 : Ref sig .tc)) : S8192x64x64.Idx → BitVec 32) shapeCasts_S8192x64x64_S8192x4096
def aOf : S524288.Idx → BitVec 32 := shapeCast S524288 (m (d, (main_arg0 : Ref sig .tc)) : S8192x64.Idx → BitVec 32) shapeCasts_S8192x64_S524288
def nOf : S8192.Idx → BitVec 32 := m (d, (main_arg2 : Ref sig .tc))
/-- The partial histograms, as the finishing call is given them. -/
def pOf : S32x288x16.Idx → F .f32 := shapeCast S32x288x16 (parts (F := F) (eOf m d) (aOf m d) (nOf m d)) shapeCasts_S32x4608_S32x288x16
def t3 : S65.Idx → F .f32 := m (d, (main_arg3 : Ref sig .tc))
def t4 : S16.Idx → F .f32 := m (d, (main_arg4 : Ref sig .tc))
def t5 : S5.Idx → F .f32 := m (d, (main_arg5 : Ref sig .tc))
def t6 : S190.Idx → F .f32 := m (d, (main_arg6 : Ref sig .tc))

abbrev op0 : HloOp τ sig (Elt F) := StableHlo.reshape main_arg0 main_v0 (rfl : (.i32 : EltTy) = .i32) shapeCasts_S8192x64_S524288
abbrev op1 : HloOp τ sig (Elt F) := StableHlo.reshape main_arg1 main_v1 (rfl : (.i32 : EltTy) = .i32) shapeCasts_S8192x64x64_S8192x4096
abbrev op3 : HloOp τ sig (Elt F) := StableHlo.reshape main_v2 main_v3 (rfl : (.f32 : EltTy) = .f32) shapeCasts_S32x4608_S32x288x16

/-- The buffers at launch, before the tiles run, after, and before the finishing call. -/
def V0 : Valuation τ sig (Elt F) := fun b => m (d, b)
def V1 : Valuation τ sig (Elt F) := op1.result (op0.result (V0 m d))
def V2 : Valuation τ sig (Elt F) := Function.update (V1 m d) (main_v2 : Ref sig .tc) (parts (F := F) (eOf m d) (aOf m d) (nOf m d))
def V3 : Valuation τ sig (Elt F) := op3.result (V2 m d)

theorem V1_v1 : V1 m d (main_v1 : Ref sig .tc) = eOf m d := by
  unfold V1 op1; rw [StableHlo.reshape_result', StableHlo.reshape_result_ne' (h := by decide)]; rfl
theorem V1_v0 : V1 m d (main_v0 : Ref sig .tc) = aOf m d := by
  unfold V1 op1; rw [StableHlo.reshape_result_ne' (h := by decide)]; unfold op0; rw [StableHlo.reshape_result']; rfl
theorem V1_ne (b : Ref sig .tc) (h0 : b ≠ main_v0) (h1 : b ≠ main_v1) : V1 m d b = m (d, b) := by
  unfold V1 op1 op0; rw [StableHlo.reshape_result_ne' (h := h1), StableHlo.reshape_result_ne' (h := h0)]; rfl
theorem V3_v3 : V3 m d (main_v3 : Ref sig .tc) = pOf m d := by
  unfold V3 op3 V2; rw [StableHlo.reshape_result']; rw [Function.update_self]; rfl
theorem V3_ne (b : Ref sig .tc) (h0 : b ≠ main_v0) (h1 : b ≠ main_v1) (h2 : b ≠ main_v2) (h3 : b ≠ main_v3) : V3 m d b = m (d, b) := by
  unfold V3 op3 V2; rw [StableHlo.reshape_result_ne' (h := h3), Function.update_of_ne, V1_ne m d b h0 h1]
  exact fun h => h2 (Proc.devRef_injective _ h)

/-- Before the finishing call, as contents of every TensorCore's buffers; and after. -/
def V3' : Vals F := fun c b => V3 m c b
def V4 : Vals F := fun c =>
  Function.update (Function.update (Function.update (Function.update (Function.update (V3' m c)
    main_v4_0 ((dat (V3' m) c).arrAt 5 cfg1.N)) main_v4_1 ((dat (V3' m) c).arrAt 6 cfg1.N)) main_v4_2 ((dat (V3' m) c).arrAt 7 cfg1.N))
    main_v4_3 ((dat (V3' m) c).arrAt 8 cfg1.N)) main_v4_4 ((dat (V3' m) c).arrAt 9 cfg1.N)

theorem V4_res (c : Dev nD) : V4 m c main_v4_0 = (dat (V3' m) c).arrAt 5 cfg1.N ∧ V4 m c main_v4_1 = (dat (V3' m) c).arrAt 6 cfg1.N
    ∧ V4 m c main_v4_2 = (dat (V3' m) c).arrAt 7 cfg1.N ∧ V4 m c main_v4_3 = (dat (V3' m) c).arrAt 8 cfg1.N ∧ V4 m c main_v4_4 = (dat (V3' m) c).arrAt 9 cfg1.N := by
  unfold V4
  refine ⟨?_, ?_, ?_, ?_, ?_⟩
  · rw [Function.update_of_ne (by decide), Function.update_of_ne (by decide), Function.update_of_ne (by decide), Function.update_of_ne (by decide), Function.update_self]
  · rw [Function.update_of_ne (by decide), Function.update_of_ne (by decide), Function.update_of_ne (by decide), Function.update_self]
  · rw [Function.update_of_ne (by decide), Function.update_of_ne (by decide), Function.update_self]
  · rw [Function.update_of_ne (by decide), Function.update_self]
  · rw [Function.update_self]

theorem V4_ne (c : Dev nD) (b : Ref sig .tc) (h : b ∉ [main_v4_0, main_v4_1, main_v4_2, main_v4_3, main_v4_4]) : V4 m c b = V3' m c b := by
  simp only [List.mem_cons, List.not_mem_nil, _root_.or_false, not_or] at h
  obtain ⟨h0, h1, h2, h3, h4⟩ := h
  unfold V4
  rw [Function.update_of_ne h4, Function.update_of_ne h3, Function.update_of_ne h2, Function.update_of_ne h1, Function.update_of_ne h0]

end Contents

/-! ## The launch element of the ghost state -/

/-- The pipeline's rounds library. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- No pipeline has a table. -/
abbrev adm0 : (p : Fin 1) → (pcfgs (F := F) p).Adm := fun p => (cfgs p).toPCfg_adm

abbrev pin0 := Pipeline.pin (pcfgs (F := F)) (adm0 (F := F))

theorem pinj : Function.Injective (Pipeline.cellOf (nD := nD) (τ := τ) (pin0 (F := F))) := cellOf_inj

/-- A TensorCore's part of the pipeline's ghost state. -/
def G (d : Dev nD) : sProp 𝕄 := iprop(Pipeline.cellsGhost (pin0 (F := F)) EP 0 d ∗ Pipeline.toksInit (pin0 (F := F)) EP 0 d)

def u₀ : UU := (initOf (K (F := F)).hsCells (K (F := F)).hsToks, (initOf (Pipeline.cells (pin0 (F := F)) pinj) (Pipeline.launchToks (pin0 (F := F)) pinj), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

section Run

variable (m : (ℓ : Loc nD τ sig) → Buf (Elt F) ℓ) (ρ : Dev nD → PrngReg)

/-- What the handshakes of the call carry. -/
abbrev PP : (K (F := F)).Pay (nD := nD) (Val := Elt F) (Name := ℕ) (U := UU) := P (F := F) (eOf m) (aOf m) (nOf m) (fun d => m (d, (main_v2 : Ref sig .tc)))

theorem bigSep_emp2 {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_split (F := F) _ _) $$ Hu
  icases H with ⟨HH, HP⟩
  imod (Pipeline.fund_ghost (pin0 (F := F)) EP pinj) $$ HP with ⟨Hg, Ht⟩
  imodintro
  isplitl [HH]; · iexact HH
  isplitl [Hg Ht]
  · unfold G
    rw [bigSep_sep']
    isplitl [Hg]
    · iapply (Entails.of_eq (show (bigSep Finset.univ fun c : Dev nD => bigSep Finset.univ fun p : Fin 1 => Pipeline.cellsGhost (pin0 (F := F)) EP p c)
        = (bigSep Finset.univ fun c : Dev nD => Pipeline.cellsGhost (pin0 (F := F)) EP 0 c : sProp 𝕄) from bigSep_congr fun d _ => bigSep_univ_of_subsingleton (0 : Fin 1))); iexact Hg
    · iapply (Entails.of_eq (show (bigSep Finset.univ fun c : Dev nD => bigSep Finset.univ fun p : Fin 1 => Pipeline.toksInit (pin0 (F := F)) EP p c)
        = (bigSep Finset.univ fun c : Dev nD => Pipeline.toksInit (pin0 (F := F)) EP 0 c : sProp 𝕄) from bigSep_congr fun d _ => bigSep_univ_of_subsingleton (0 : Fin 1))); iexact Ht
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp2]
  iempintro

/-! ## @main on the TensorCore -/

def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The arrays of the call. -/
def callRefs : Finset (DevRef τ sig) := {((main_v1 : Ref sig .tc) : DevRef τ sig), ((main_v0 : Ref sig .tc) : DevRef τ sig), ((main_arg2 : Ref sig .tc) : DevRef τ sig), ((main_v2 : Ref sig .tc) : DevRef τ sig)}

theorem callRefs_sub : callRefs ⊆ ucRefs := by
  intro b hb
  simp only [callRefs, Finset.mem_insert, Finset.mem_singleton] at hb
  unfold ucRefs
  rw [Finset.mem_filter]
  rcases hb with rfl | rfl | rfl | rfl <;> exact ⟨StableHlo.devRef_mem_tcRefs _, by decide⟩

theorem held_call (d : Dev nD) (W : Valuation τ sig (Elt F)) :
    (StableHlo.held (d : Thread nD τ) callRefs W : sProp 𝕄) = iprop((eLoc d ↦{fullShare} W (main_v1 : Ref sig .tc)) ∗ (aLoc d ↦{fullShare} W (main_v0 : Ref sig .tc))
      ∗ (nLoc d ↦{fullShare} W (main_arg2 : Ref sig .tc)) ∗ oLoc d ↦{fullShare} W (main_v2 : Ref sig .tc)) := by
  unfold StableHlo.held callRefs
  rw [SparseCore.bigSep_insert' (by decide), SparseCore.bigSep_insert' (by decide), SparseCore.bigSep_insert' (by decide), bigSep_singleton]

theorem sub_uc2 (op : HloOp τ sig (Elt F)) (x y : Ref sig .tc) (hb : op.bufs = {(x : DevRef τ sig), (y : DevRef τ sig)}) (hx : ¬ x.isScoped) (hy : ¬ y.isScoped) : op.bufs ⊆ ucRefs := by
  rw [hb]; intro b h
  rcases Finset.mem_insert.mp h with h | h
  · subst h; exact Finset.mem_filter.mpr ⟨StableHlo.devRef_mem_tcRefs _, hx⟩
  · obtain rfl := Finset.mem_singleton.mp h; exact Finset.mem_filter.mpr ⟨StableHlo.devRef_mem_tcRefs _, hy⟩

abbrev FIN (d : Dev nD) : sProp 𝕄 := unscopedBufs d (V4 m d)

theorem st_eq (d : Dev nD) : (bigSep Finset.univ fun c : Fin ((K (F := F)).nCore 0) => (PP m).st 0 d c)
    = iprop((eLoc d ↦{fullShare} (eOf m d : Buf (Elt F) (eLoc d))) ∗ (aLoc d ↦{fullShare} (aOf m d : Buf (Elt F) (aLoc d)))
          ∗ (nLoc d ↦{fullShare} (nOf m d : Buf (Elt F) (nLoc d))) ∗ oLoc d ↦{fullShare} m (d, (main_v2 : Ref sig .tc))) :=
  parts_all d _ _ _ _

theorem dn_eq (d : Dev nD) : (bigSep Finset.univ fun c : Fin ((K (F := F)).nCore 0) => (PP m).dn 0 d c)
    = iprop((eLoc d ↦{fullShare} (eOf m d : Buf (Elt F) (eLoc d))) ∗ (aLoc d ↦{fullShare} (aOf m d : Buf (Elt F) (aLoc d)))
          ∗ (nLoc d ↦{fullShare} (nOf m d : Buf (Elt F) (nLoc d))) ∗ oLoc d ↦{fullShare} (parts (F := F) (eOf m d) (aOf m d) (nOf m d) : Buf (Elt F) (oLoc d))) :=
  parts_all d _ _ _ _

theorem call_pre (d : Dev nD) : (StableHlo.held (d : Thread nD τ) callRefs (V1 m d) : sProp 𝕄) = bigSep Finset.univ fun c : Fin ((K (F := F)).nCore 0) => (PP m).st 0 d c := by
  rw [held_call, st_eq, V1_v1, V1_v0, V1_ne m d main_arg2 (by decide) (by decide), V1_ne m d main_v2 (by decide) (by decide)]; rfl

theorem V2_ne (d : Dev nD) (b : DevRef τ sig) (h : b ≠ ((main_v2 : Ref sig .tc) : DevRef τ sig)) : V2 m d b = V1 m d b := by
  unfold V2; exact Function.update_of_ne h _ _

theorem call_post (d : Dev nD) : (bigSep Finset.univ fun c : Fin ((K (F := F)).nCore 0) => (PP m).dn 0 d c) = (StableHlo.held (d : Thread nD τ) callRefs (V2 m d) : sProp 𝕄) := by
  rw [held_call, dn_eq, V2_ne m d _ (by decide), V2_ne m d _ (by decide), V2_ne m d _ (by decide), V1_v1, V1_v0, V1_ne m d main_arg2 (by decide) (by decide)]
  unfold V2; rw [Function.update_self]; rfl

theorem call_rest (d : Dev nD) : (StableHlo.held (d : Thread nD τ) (ucRefs \ callRefs) (V1 m d) : sProp 𝕄) = StableHlo.held (d : Thread nD τ) (ucRefs \ callRefs) (V2 m d) :=
  StableHlo.held_congr _ fun b hb => by
    rw [V2_ne m d b fun h => (Finset.mem_sdiff.mp hb).2 (h ▸ by simp [callRefs])]

theorem call_split (d : Dev nD) : (StableHlo.held (d : Thread nD τ) ucRefs (op1.result (op0.result (V0 m d))) : sProp 𝕄)
    = iprop((bigSep Finset.univ fun c : Fin ((K (F := F)).nCore 0) => (PP m).st 0 d c) ∗ StableHlo.held (d : Thread nD τ) (ucRefs \ callRefs) (V2 m d)) := by
  rw [show op1.result (op0.result (V0 m d)) = V1 m d from rfl, StableHlo.held_sub_split _ callRefs_sub, call_pre, call_rest]

/-- The finishing call, in the whole program's table. -/
theorem wp_finish (d : Dev nD) (Q : PUnit → sProp 𝕄) :
    iprop(boundary (SparseCore.T d) ∗ unscopedBufs d (V3' m d) ∗ owesN (F := F) d ∗ levAts (K (F := F)).L (K (F := F)).lev ∗ G (F := F) d
        ∗ ((boundary (SparseCore.T d) ∗ unscopedBufs d (V4 m d) ∗ owesN (F := F) d) -∗ Q ⟨⟩))
      ⊢ wp frame (wpE ((K (F := F)).defs (D (F := F))) 𝒱 (SparseCore.T d) none) Set.univ (Prog.lift (.customCall (SparseCore.inner (Pipeline.entry 0)) ())) Q := by
  have hl := (K (F := F)).wp_liftProg (D (F := F)) 𝒱 (SparseCore.T d) Set.univ none (Prog.lift (.customCall (Pipeline.entry 0) ())) Q
  have hw : iprop(((boundary (d : Thread nD τ) ∗ unscopedBufs d (V4 m d) ∗ owesN (F := F) d)
        -∗ wp frame (wpE (Pipeline.defs (pcfgs (F := F)) defs₀) 𝒱₀.lift (d : Thread nD τ) none) Set.univ (.ret ⟨⟩) Q)
      ∗ boundary (d : Thread nD τ) ∗ (unscopedBufs d (V3' m d) ∗ owesN (F := F) d) ∗ levAts (K (F := F)).L (K (F := F)).lev
      ∗ Pipeline.cellsGhost (Pipeline.pin (pcfgs (F := F)) adm0) EP 0 d ∗ Pipeline.toksInit (Pipeline.pin (pcfgs (F := F)) adm0) EP 0 d)
      ⊢ wp frame (wpE (Pipeline.defs (pcfgs (F := F)) defs₀) 𝒱₀.lift (d : Thread nD τ) none) Set.univ (.op (.customCall (Pipeline.entry 0) ()) .ret) Q := Pipeline.RegionSeg.wp (pcfgs (F := F)) adm0 (pdats (V3' m) adm0) none pinj EP defs₀ 𝒱₀ (K (F := F)).L (K (F := F)).lev
    (reg (V3' m) (V4 m) adm0 (V4_res m) (V4_ne m)) d none (fun u hu => nomatch hu) .ret Q
  refine BI.Entails.trans (?_ : iprop(boundary (SparseCore.T d) ∗ unscopedBufs d (V3' m d) ∗ owesN (F := F) d ∗ levAts (K (F := F)).L (K (F := F)).lev ∗ G (F := F) d
        ∗ ((boundary (SparseCore.T d) ∗ unscopedBufs d (V4 m d) ∗ owesN (F := F) d) -∗ Q ⟨⟩))
      ⊢ iprop(((boundary (d : Thread nD τ) ∗ unscopedBufs d (V4 m d) ∗ owesN (F := F) d)
        -∗ wp frame (wpE (Pipeline.defs (pcfgs (F := F)) defs₀) 𝒱₀.lift (d : Thread nD τ) none) Set.univ (.ret ⟨⟩) Q)
      ∗ boundary (d : Thread nD τ) ∗ (unscopedBufs d (V3' m d) ∗ owesN (F := F) d) ∗ levAts (K (F := F)).L (K (F := F)).lev
      ∗ Pipeline.cellsGhost (Pipeline.pin (pcfgs (F := F)) adm0) EP 0 d ∗ Pipeline.toksInit (Pipeline.pin (pcfgs (F := F)) adm0) EP 0 d)) (BI.Entails.trans hw hl)
  unfold G
  iintro ⟨Hb, Hu, HO, Hl, ⟨Hg, Ht⟩, Hk⟩
  isplitl [Hk]
  · iintro ⟨Hb, Hp⟩
    iapply le_wp_ret
    iapply Hk
    isplitl [Hb]; · iexact Hb
    iexact Hp
  isplitl [Hb]; · iexact Hb
  isplitl [Hu HO]
  · isplitl [Hu]; · iexact Hu
    iexact HO
  isplitl [Hl]; · iexact Hl
  isplitl [Hg] <;> iassumption

set_option maxRecDepth 4096 in
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (fun b : Ref sig .tc => m ((SparseCore.T d).loc b)) = (fun b : Ref sig .tc => V0 m d b) from rfl, unscopedBufs_held]
  simp only [main, wp_bind, wp_pure]
  iintro ⟨#Hctx, Hst, ⟨Hb, Hu, Hts, -⟩, HG⟩
  iapply (StableHlo.wp_hlo_within 𝒱 (SparseCore.T d) none Set.univ (op := op0) (S := ucRefs) (V := V0 m d) (sub_uc2 op0 main_arg0 main_v0 rfl (by decide) (by decide))) $$ [Hb Hu]
  · isplitl [Hb] <;> iassumption
  iintro ⟨Hb, Hu⟩
  iapply le_wp_ret
  iapply (StableHlo.wp_hlo_within 𝒱 (SparseCore.T d) none Set.univ (op := op1) (S := ucRefs) (V := op0.result (V0 m d)) (sub_uc2 op1 main_arg1 main_v1 rfl (by decide) (by decide))) $$ [Hb Hu]
  · isplitl [Hb] <;> iassumption
  iintro ⟨Hb, Hu⟩
  iapply le_wp_ret
  ihave Hu := (Entails.of_eq (call_split m d)) $$ Hu
  icases Hu with ⟨Hcall, Hrest⟩
  iapply ((K (F := F)).wp_run (D (F := F)) 𝒱 (EH := EH) (P := PP m) κ d 0)
  isplitr; · iexact Hctx
  isplitl [Hst]; · iexact Hst
  isplitl [Hcall]; · iexact Hcall
  iintro ⟨Hst, Hdn⟩
  ihave Hdn := (Entails.of_eq (call_post m d)) $$ Hdn
  ihave Hu := (Entails.of_eq (StableHlo.held_sub_split _ callRefs_sub (V2 m d)).symm) $$ [Hdn Hrest]
  · isplitl [Hdn] <;> iassumption
  iapply (StableHlo.wp_hlo_within 𝒱 (SparseCore.T d) none Set.univ (op := op3) (S := ucRefs) (V := V2 m d) (sub_uc2 op3 main_v2 main_v3 rfl (by decide) (by decide))) $$ [Hb Hu]
  · isplitl [Hb] <;> iassumption
  iintro ⟨Hb, Hu⟩
  iapply le_wp_ret
  ihave Hu := (Entails.of_eq (unscopedBufs_held d (op3.result (V2 m d))).symm) $$ Hu
  ihave Hlev := (SparseCore.Cfg.ctx_levAts κ) $$ Hctx
  unfold SparseCore.Cfg.tcSt
  icases Hst with ⟨⟨%W, %hW, HO⟩, Hat⟩
  rw [(K (F := F)).Otc_end d (n := 0 + 1) le_rfl, show (K (F := F)).Otc d (((0 : Fin 1) : ℕ) + 1) = 0 from (K (F := F)).Otc_end d (n := 0 + 1) le_rfl]
  iapply (wp_finish m d)
  isplitl [Hb]; · iexact Hb
  isplitl [Hu]; · iexact Hu
  isplitl [HO]; · unfold owesN; iexists W; isplitr; · ipureintro; exact hW
                  iexact HO
  isplitl [Hlev]; · iexact Hlev
  isplitl [HG]; · iexact HG
  iintro ⟨Hb, Hu, HO⟩
  unfold owesN
  icases HO with ⟨%W', %hW', HO⟩
  imodintro
  isplitl [Hat HO]
  · isplitl [HO]
    · iexists W'; isplitr; · ipureintro; exact hW'
      iexact HO
    iexact Hat
  isplitl [Hu]; · iexact Hu
  isplitl [Hb] <;> iassumption

/-! ## The end of the run -/

def fq (d : Dev nD) (s' : Phys nD τ sig (Elt F)) : Prop := ∀ b : Ref sig .tc, ¬ b.isScoped → s'.mem.mem ((SparseCore.T d).loc b) = V4 m d b

theorem hfin (d : Dev nD) (s' : Phys nD τ sig (Elt F)) : iprop(FIN m d ∗ SI s') ⊢ (⌜fq m d s'⌝ : sProp 𝕄) := by
  unfold fq FIN
  refine (forall_intro fun b => ?_).trans pure_forall.2
  by_cases hb : b.isScoped
  · iintro -; ipureintro; exact fun h => absurd hb h
  · unfold unscopedBufs
    rw [SparseCore.bigSep_erase' (Finset.mem_filter.mpr ⟨Finset.mem_univ b, hb⟩)]
    iintro ⟨⟨H, -⟩, HSI⟩
    ihave H := (SI_pointsTo_agree (st := s') (ℓ := (SparseCore.T d).loc b) (I := Finset.univ) (q := fullShare) (f := V4 m d b)) $$ [HSI H]
    · isplitl [HSI] <;> iassumption
    icases H with %h
    ipureintro; exact fun _ => funext fun i => h i (Finset.mem_univ i)

/-- The end: the arguments as they were, the results, and every semaphore at zero. -/
def QC (r : PUnit × MemSt nD τ sig (Elt F)) : Prop :=
  (∀ c : Dev nD, (∀ b ∈ [main_arg0, main_arg1, main_arg2, main_arg3, main_arg4, main_arg5, main_arg6], r.2.mem ((c : Thread nD τ).loc b) = m ((c : Thread nD τ).loc b))
    ∧ r.2.mem ((c : Thread nD τ).loc main_v4_0) = fin0 (pOf m c) ∧ r.2.mem ((c : Thread nD τ).loc main_v4_1) = fin1 (pOf m c)
    ∧ r.2.mem ((c : Thread nD τ).loc main_v4_2) = fin2 (pOf m c) ∧ r.2.mem ((c : Thread nD τ).loc main_v4_3) = fin3 (pOf m c)
    ∧ r.2.mem ((c : Thread nD τ).loc main_v4_4) = fin4 (pOf m c) (t3 m c) (t4 m c) (t5 m c) (t6 m c))
  ∧ r.2.sem = fun _ => 0

theorem arg_V4 (c : Dev nD) (b : Ref sig .tc) (hb : b ∈ [main_arg0, main_arg1, main_arg2, main_arg3, main_arg4, main_arg5, main_arg6]) :
    ¬ b.isScoped ∧ V4 m c b = m ((c : Thread nD τ).loc b) := by
  have hd : ∀ b ∈ [main_arg0, main_arg1, main_arg2, main_arg3, main_arg4, main_arg5, main_arg6],
      ¬ b.isScoped ∧ b ∉ [main_v4_0, main_v4_1, main_v4_2, main_v4_3, main_v4_4] ∧ b ≠ main_v0 ∧ b ≠ main_v1 ∧ b ≠ main_v2 ∧ b ≠ main_v3 := by decide
  obtain ⟨hs, h4, h0, h1, h2, h3⟩ := hd b hb
  exact ⟨hs, (V4_ne m c b h4).trans (V3_ne m c b h0 h1 h2 h3)⟩

theorem QC_of (s' : Phys nD τ sig (Elt F)) (h : ∀ d, fq m d s') (hz : s'.mem.sem = fun _ => 0) : QC m (⟨⟩, s'.mem) := by
  refine ⟨fun c => ⟨fun b hb => ?_, ?_⟩, hz⟩
  · obtain ⟨hs, he⟩ := arg_V4 m c b hb
    exact (h c b hs).trans he
  · obtain ⟨e0, e1, e2, e3, e4⟩ := V4_res m c
    have hp : V3' m c main_v3 = pOf m c := V3_v3 m c
    have a3 : V3' m c main_arg3 = t3 m c := V3_ne m c main_arg3 (by decide) (by decide) (by decide) (by decide)
    have a4 : V3' m c main_arg4 = t4 m c := V3_ne m c main_arg4 (by decide) (by decide) (by decide) (by decide)
    have a5 : V3' m c main_arg5 = t5 m c := V3_ne m c main_arg5 (by decide) (by decide) (by decide) (by decide)
    have a6 : V3' m c main_arg6 = t6 m c := V3_ne m c main_arg6 (by decide) (by decide) (by decide) (by decide)
    have r0 := (h c main_v4_0 (by decide)).trans (e0.trans (arr_5 (V3' m) c))
    have r1 := (h c main_v4_1 (by decide)).trans (e1.trans (arr_6 (V3' m) c))
    have r2 := (h c main_v4_2 (by decide)).trans (e2.trans (arr_7 (V3' m) c))
    have r3 := (h c main_v4_3 (by decide)).trans (e3.trans (arr_8 (V3' m) c))
    have r4 := (h c main_v4_4 (by decide)).trans (e4.trans (arr_9 (V3' m) c))
    rw [hp] at r0 r1 r2 r3 r4
    rw [a3, a4, a5, a6] at r4
    exact ⟨r0, r1, r2, r3, r4⟩

/-- Every run of the program ends, with the arguments unchanged, the results as stated, and every semaphore at zero. -/
theorem run_main [∀ e, Nonempty (Elt F e)] (hs : ∀ d, Small (eOf m d) (aOf m d) (nOf m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _ facts hs)
    (fun q _ => match q with | 0 => SparseCore.Cfg.VecSplit.of_plain (vecSplit _ _ _ _))
    m ρ main (G (F := F)) (FIN m) (u₀ (F := F)) (sep_elim_left.trans (hu₀ m)) (hmain m ρ) (fq m) (hfin m) (QC m) (fun s' h hz => QC_of m s' h hz)

end Run

end Cert.KernelIdeal.Tile
-- ==== Proof.Frames.lean ====
/- The ranges that the precondition states, and the frames. -/
module

public import proofs.«01_k».proof.Defs
public import proofs.«01_k».proof.Proof.Main
public import proofs.«01_k».proof.Proof.Gen.Kernel
public import proofs.«01_k».proof.Proof.Gen.ReferenceIdeal.Run
public import proofs.«01_k».proof.Proof.Gen.Pre_in_range
public import Idealize.ShloMosaic.Lib.ReduceAll

@[expose] public section

noncomputable section

namespace Cert.Proof

open Idealize.ShloMosaic Idealize.SL.Sem

/-- A word at least 0 and below `n`, both read signed, is below `n` read unsigned; and with "at most" for "below". -/
theorem lt_of_signed (v : BitVec 32) (n : ℕ) (hn : n < 2147483648) (e : IntOp.andi (IntOp.cmpi .sge v 0#32) (IntOp.cmpi .slt v (BitVec.ofNat 32 n)) = 1#1) : v.toNat < n := by
  obtain ⟨h0, h1⟩ := IntOp.andi_eq_one.1 e
  rw [IntOp.cmpi_sge] at h0
  rw [IntOp.cmpi_slt] at h1
  simp only [BitVec.toInt_eq_toNat_cond, BitVec.toNat_ofNat, Nat.reducePow] at h0 h1
  omega

theorem le_of_signed (v : BitVec 32) (n : ℕ) (hn : n < 2147483648) (e : IntOp.andi (IntOp.cmpi .sge v 0#32) (IntOp.cmpi .sle v (BitVec.ofNat 32 n)) = 1#1) : v.toNat < n + 1 := by
  obtain ⟨h0, h1⟩ := IntOp.andi_eq_one.1 e
  rw [IntOp.cmpi_sge] at h0
  rw [IntOp.cmpi_sle] at h1
  simp only [BitVec.toInt_eq_toNat_cond, BitVec.toNat_ofNat, Nat.reducePow] at h0 h1
  omega

/-- The three integer arrays are in range where the precondition holds. -/
theorem ranges {F : FTy → Type} [FloatOps F] (a : IVec Cert.Pre_in_range.S8192x64 32) (e : IVec Cert.Pre_in_range.S8192x64x64 32) (n : IVec Cert.Pre_in_range.S8192 32)
    (t3 : FVec F Cert.Pre_in_range.S65 .f32) (t4 : FVec F Cert.Pre_in_range.S16 .f32) (t5 : FVec F Cert.Pre_in_range.S5 .f32) (t6 : FVec F Cert.Pre_in_range.S190 .f32)
    (h : Cert.Pre_in_range.fn (F := F) a e n t3 t4 t5 t6 = fun _ => 1#1) :
    (∀ x, (e x).toNat < 5) ∧ (∀ x, (a x).toNat < 16) ∧ ∀ x, (n x).toNat < 65 := by
  have h := congrFun h (Shape.Idx.first Cert.Pre_in_range.Facts.h_S_)
  obtain ⟨h12, h3⟩ := IntOp.andi_eq_one.1 h
  obtain ⟨h1, h2⟩ := IntOp.andi_eq_one.1 h12
  exact ⟨fun x => lt_of_signed _ 5 (by omega) (Host.reduce_andi_all _ _ _ _ _ h2 x),
    fun x => lt_of_signed _ 16 (by omega) (Host.reduce_andi_all _ _ _ _ _ h1 x),
    fun x => le_of_signed _ 64 (by omega) (Host.reduce_andi_all _ _ _ _ _ h3 x)⟩

theorem small_of_pre {F : FTy → Type} [FloatOps F] (m : (ℓ : Loc Cert.KernelIdeal.nD Cert.KernelIdeal.τ Cert.KernelIdeal.sig) → Buf (Elt F) ℓ) (d : Dev Cert.KernelIdeal.nD)
    (t3 : FVec F Cert.Pre_in_range.S65 .f32) (t4 : FVec F Cert.Pre_in_range.S16 .f32) (t5 : FVec F Cert.Pre_in_range.S5 .f32) (t6 : FVec F Cert.Pre_in_range.S190 .f32)
    (h : Cert.Pre_in_range.fn (F := F) (m ((d.tc : Thread Cert.KernelIdeal.nD Cert.KernelIdeal.τ).loc Cert.KernelIdeal.main_arg0)) (m ((d.tc : Thread Cert.KernelIdeal.nD Cert.KernelIdeal.τ).loc Cert.KernelIdeal.main_arg1)) (m ((d.tc : Thread Cert.KernelIdeal.nD Cert.KernelIdeal.τ).loc Cert.KernelIdeal.main_arg2)) t3 t4 t5 t6 = fun _ => 1#1) :
    Cert.KernelIdeal.Tile.Small (Cert.KernelIdeal.Tile.eOf m d) (Cert.KernelIdeal.Tile.aOf m d) (Cert.KernelIdeal.Tile.nOf m d) := by
  obtain ⟨h1, h2, h3⟩ := ranges _ _ _ _ _ _ _ h
  exact ⟨fun x => h1 _, fun x => h2 _, fun x => h3 _⟩

/-- The arguments' part of the run's end. -/
theorem args_of {F : FTy → Type} [FloatOps F] {m : (ℓ : Loc Cert.KernelIdeal.nD Cert.KernelIdeal.τ Cert.KernelIdeal.sig) → Buf (Elt F) ℓ} {r : PUnit × MemSt Cert.KernelIdeal.nD Cert.KernelIdeal.τ Cert.KernelIdeal.sig (Elt F)}
    (h : Cert.KernelIdeal.Tile.QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) := by
  have h := (h.1 c).1
  exact ⟨h _ (by decide), h _ (by decide), h _ (by decide), h _ (by decide), h _ (by decide), h _ (by decide), h _ (by decide)⟩

theorem frame_kernelIdeal : Cert.quiescent_KernelIdeal := fun m ρ hpre =>
  (θ_run Cert.KernelIdeal.defs _ _).mono (fun _ h => ⟨args_of h, h.2⟩) (Cert.KernelIdeal.Tile.run_main (F := Ideal) m ρ fun d => small_of_pre m d _ _ _ _ (hpre d))

/-- The two kernel programs have the same text: the label tables agree, label by label, and so do the threads. -/
theorem defs₀_eq : Cert.Kernel.defs₀ (F := Bits) = Cert.KernelIdeal.defs₀ (F := Bits) := by
  funext p l a
  rcases p with ⟨⟩ | ⟨c⟩ | ⟨c, s⟩ <;> (match l with
    | 0 => rfl
    | 1 => rfl)

theorem defs_eq : Cert.Kernel.defs (F := Bits) = Cert.KernelIdeal.defs (F := Bits) := by
  unfold Cert.Kernel.defs
  rw [defs₀_eq]
  rfl

theorem threads_eq : Cert.Kernel.threads (F := Bits) = Cert.KernelIdeal.threads (F := Bits) := rfl

theorem frame_kernel : Cert.quiescent_Kernel := fun m ρ hpre => by
  rw [defs_eq, threads_eq]
  exact (θ_run Cert.KernelIdeal.defs _ _).mono (fun _ h => ⟨args_of h, h.2⟩) (Cert.KernelIdeal.Tile.run_main (F := Bits) m ρ fun d => small_of_pre (F := Bits) m d _ _ _ _ (hpre d))

theorem frame_reference : Cert.quiescent_ReferenceIdeal := fun m ρ _ =>
  (θ_run Cert.ReferenceIdeal.defs _ _).mono (fun r h => ⟨fun c => (h c).2.2.2.2.2, sem_eq_zero_of_no_sems (by decide) r.2⟩) (Cert.ReferenceIdeal.Value.run (F := Ideal) m ρ)

end Cert.Proof

end
-- ==== Proof.Count.lean ====
/- The counts that the kernel and the reference have in common, as sums of natural numbers: of the molecule sizes, of the
   atom types, of the bond types in the upper triangle and of the atoms' valencies, and how a sum over all molecules is
   one over the tiles, their molecules and their lanes. -/
module

public import proofs.«01_k».proof.Proof.Main

@[expose] public section

namespace Cert.Count

open Finset

/-- A sum over the first `p * q` numbers, by blocks of `q`. -/
theorem sum_block {M : Type} [AddCommMonoid M] (f : ℕ → M) (q : ℕ) : ∀ p : ℕ, ∑ x ∈ range (p * q), f x = ∑ i ∈ range p, ∑ j ∈ range q, f (i * q + j)
  | 0 => by simp
  | p + 1 => by rw [Nat.succ_mul, sum_range_add, sum_block f q p, sum_range_succ]

/-- A sum that is zero from `k` on stops there. -/
theorem sum_cut {M : Type} [AddCommMonoid M] {K k : ℕ} (f : ℕ → M) (hk : k ≤ K) (h : ∀ x, k ≤ x → f x = 0) : ∑ x ∈ range K, f x = ∑ x ∈ range k, f x := by
  obtain ⟨d, rfl⟩ := Nat.exists_eq_add_of_le hk
  rw [sum_range_add, sum_eq_zero fun x _ => h (k + x) (Nat.le_add_right _ _), add_zero]

/-- Twice the valency that a bond type counts for. -/
def twice (t : ℕ) : ℕ := if t = 4 then 3 else 2 * t

variable (n : ℕ → ℕ) (a : ℕ → ℕ → ℕ) (e : ℕ → ℕ → ℕ → ℕ)

/-- Twice the valency of atom `j` of molecule `b`, from the bonds of the first `k` atoms. -/
def val2 (b j k : ℕ) : ℕ := ∑ i ∈ range k, twice (e b i j)
/-- The valency's bin. -/
def bin (b j : ℕ) : ℕ := min 189 (val2 e b j (n b) / 2)
/-- The molecules of size `r`. -/
def sizes (r : ℕ) : ℕ := ∑ b ∈ range 8192, if n b = r then 1 else 0
/-- The atoms of type `t`. -/
def nodes (t : ℕ) : ℕ := ∑ b ∈ range 8192, ∑ j ∈ range 64, if j < n b ∧ a b j = t then 1 else 0
/-- The bonds of type `t` in the upper triangle. -/
def edges (t : ℕ) : ℕ := ∑ b ∈ range 8192, ∑ i ∈ range 64, ∑ j ∈ range 64, if i < j ∧ j < n b ∧ e b i j = t then 1 else 0
/-- The atoms whose valency is in bin `v`. -/
def vals (v : ℕ) : ℕ := ∑ b ∈ range 8192, ∑ j ∈ range 64, if j < n b ∧ bin n e b j = v then 1 else 0

/-! ## What one tile counts -/

/-- A molecule's two ones in lane `l` and row `r`, from its columns `16 c + l`. -/
def molCell (m r l : ℕ) : ℕ :=
  ∑ c ∈ range 4, ((if 16 * c + l < n m ∧ 86 + bin n e m (16 * c + l) = r then 1 else 0) + if 16 * c + l < n m ∧ 65 + a m (16 * c + l) = r then 1 else 0)
/-- A tile's histogram in lane `l` and row `r`, apart from the rows of the bond types. -/
def cell (r l : ℕ) : ℕ := (∑ q ∈ range 16, if n (16 * q + l) = r then 1 else 0) + ∑ m ∈ range 256, molCell n a e m r l
/-- A molecule's bonds of type `t` in lane `l`, from its first `k` rows. -/
def molEdge (m t l k : ℕ) : ℕ := ∑ i ∈ range k, ∑ c ∈ range 4, if i < 16 * c + l ∧ 16 * c + l < n m ∧ e m i (16 * c + l) = t then 1 else 0
/-- A tile's bonds of type `t` in lane `l`. -/
def edgeCell (t l : ℕ) : ℕ := ∑ m ∈ range 256, molEdge n e m t l (n m)

/-- The data of tile `w`. -/
abbrev tn (w m : ℕ) : ℕ := n (w * 256 + m)
abbrev ta (w m : ℕ) : ℕ → ℕ := a (w * 256 + m)
abbrev te (w m : ℕ) : ℕ → ℕ → ℕ := e (w * 256 + m)

theorem bin_tile (w m j : ℕ) : bin (tn n w) (te e w) m j = bin n e (w * 256 + m) j := rfl

/-- A sum over the tiles, the lanes, the molecules of a tile and the four vectors of columns is one over the molecules and their columns. -/
theorem sum_cols (g : ℕ → ℕ → ℕ) :
    ∑ w ∈ range 32, ∑ l ∈ range 16, ∑ m ∈ range 256, ∑ c ∈ range 4, g (w * 256 + m) (16 * c + l) = ∑ b ∈ range 8192, ∑ j ∈ range 64, g b j := by
  rw [show 8192 = 32 * 256 from rfl, sum_block]
  refine sum_congr rfl fun w _ => ?_
  rw [sum_comm]
  refine sum_congr rfl fun m _ => ?_
  rw [sum_comm, show 64 = 4 * 16 from rfl, sum_block]
  refine sum_congr rfl fun c _ => sum_congr rfl fun l _ => ?_
  rw [Nat.mul_comm c 16]

theorem sum_sizes (r : ℕ) : ∑ w ∈ range 32, ∑ l ∈ range 16, ∑ q ∈ range 16, (if n (w * 256 + (16 * q + l)) = r then 1 else 0) = sizes n r := by
  unfold sizes
  rw [show 8192 = 32 * 256 from rfl, sum_block]
  refine sum_congr rfl fun w _ => ?_
  rw [sum_comm, show 256 = 16 * 16 from rfl, sum_block]
  refine sum_congr rfl fun c _ => sum_congr rfl fun l _ => ?_
  rw [Nat.mul_comm 16 c]

variable (hn : ∀ b, n b < 65) (ha : ∀ b j, a b j < 16) (he : ∀ b i j, e b i j < 5)

/-- A row of all the tiles' histograms, in three parts. -/
theorem sum_cell (r : ℕ) : ∑ w ∈ range 32, ∑ l ∈ range 16, cell (tn n w) (ta a w) (te e w) r l
    = sizes n r + ((∑ b ∈ range 8192, ∑ j ∈ range 64, if j < n b ∧ 86 + bin n e b j = r then 1 else 0)
      + ∑ b ∈ range 8192, ∑ j ∈ range 64, if j < n b ∧ 65 + a b j = r then 1 else 0) := by
  have h := sum_cols fun b j => (if j < n b ∧ 86 + bin n e b j = r then 1 else 0) + (if j < n b ∧ 65 + a b j = r then 1 else 0)
  simp only [sum_add_distrib] at h
  simp only [cell, molCell, sum_add_distrib]
  exact congrArg₂ (· + ·) (sum_sizes n r) h

include hn in
theorem sizes_zero {r : ℕ} (hr : 65 ≤ r) : sizes n r = 0 :=
  sum_eq_zero fun b _ => if_neg fun h => by have := hn b; omega

/-- The rows of the molecule sizes. -/
theorem sum_cell_sizes {r : ℕ} (hr : r < 65) : ∑ w ∈ range 32, ∑ l ∈ range 16, cell (tn n w) (ta a w) (te e w) r l = sizes n r := by
  rw [sum_cell, sum_eq_zero fun b _ => sum_eq_zero fun j _ => if_neg fun h => by omega,
    sum_eq_zero fun b _ => sum_eq_zero fun j _ => if_neg fun h => by omega, Nat.add_zero, Nat.add_zero]

include hn in
/-- The rows of the atom types. -/
theorem sum_cell_nodes {t : ℕ} (ht : t < 16) : ∑ w ∈ range 32, ∑ l ∈ range 16, cell (tn n w) (ta a w) (te e w) (65 + t) l = nodes n a t := by
  rw [sum_cell, sizes_zero n hn (by omega), sum_eq_zero fun b _ => sum_eq_zero fun j _ => if_neg fun h => by omega, Nat.zero_add, Nat.zero_add]
  simp only [nodes, Nat.add_left_cancel_iff]

include hn ha in
/-- The rows of the valencies. -/
theorem sum_cell_vals {v : ℕ} : ∑ w ∈ range 32, ∑ l ∈ range 16, cell (tn n w) (ta a w) (te e w) (86 + v) l = vals n e v := by
  have h0 : (∑ b ∈ range 8192, ∑ j ∈ range 64, if j < n b ∧ 65 + a b j = 86 + v then 1 else 0) = 0 :=
    sum_eq_zero fun b _ => sum_eq_zero fun j _ => if_neg fun h => by have := ha b j; omega
  rw [sum_cell, sizes_zero n hn (by omega), h0, Nat.zero_add, Nat.add_zero]
  simp only [vals, Nat.add_left_cancel_iff]

include hn in
/-- The rows of the bond types. -/
theorem sum_edgeCell (t : ℕ) : ∑ w ∈ range 32, ∑ l ∈ range 16, edgeCell (tn n w) (te e w) t l = edges n e t := by
  have h := sum_cols fun b j => ∑ i ∈ range (n b), if i < j ∧ j < n b ∧ e b i j = t then 1 else 0
  unfold edgeCell molEdge edges
  rw [show (∑ b ∈ range 8192, ∑ i ∈ range 64, ∑ j ∈ range 64, if i < j ∧ j < n b ∧ e b i j = t then 1 else 0)
    = ∑ b ∈ range 8192, ∑ j ∈ range 64, ∑ i ∈ range (n b), if i < j ∧ j < n b ∧ e b i j = t then 1 else 0 from ?_, ← h]
  · exact sum_congr rfl fun w _ => sum_congr rfl fun l _ => sum_congr rfl fun m _ => sum_comm
  · refine sum_congr rfl fun b _ => ?_
    rw [sum_comm]
    refine sum_congr rfl fun j _ => sum_cut _ (by have := hn b; omega) fun i hi => if_neg fun h => by omega

/-- The pairs of the upper triangle, twice. -/
theorem pairs {k : ℕ} (hk : k < 65) : (∑ i ∈ range 64, ∑ j ∈ range 64, if i < j ∧ j < k then 1 else 0) * 2 = k * (k - 1) := by
  rw [← sum_range_id_mul_two, sum_comm]
  refine congrArg (· * 2) ?_
  rw [sum_cut (K := 64) (k := k) _ (by omega) fun j hj => sum_eq_zero fun i _ => if_neg fun h => by omega]
  refine sum_congr rfl fun j hj => ?_
  have hj := mem_range.1 hj
  rw [sum_cut (K := 64) (k := j) _ (by omega) fun i hi => if_neg fun h => by omega, sum_congr rfl fun i hi => if_pos ⟨mem_range.1 hi, hj⟩]
  simp

include hn he in
/-- The molecule sizes count the pairs of atoms, and so the bonds of all types. -/
theorem sum_pairs : ∑ r ∈ range 65, sizes n r * (r * (r - 1)) = (∑ t ∈ range 5, edges n e t) * 2 := by
  have h1 : ∑ r ∈ range 65, sizes n r * (r * (r - 1)) = ∑ b ∈ range 8192, n b * (n b - 1) := by
    simp only [sizes, sum_mul]
    rw [sum_comm]
    refine sum_congr rfl fun b _ => ?_
    rw [sum_eq_single (n b) (fun r _ h => by rw [if_neg (Ne.symm h), Nat.zero_mul]) (fun h => absurd (mem_range.2 (hn b)) h), if_pos rfl, Nat.one_mul]
  rw [h1]
  simp only [edges]
  rw [sum_comm, sum_mul]
  refine sum_congr rfl fun b _ => ?_
  rw [← pairs (hn b)]
  refine congrArg (· * 2) (Eq.trans (sum_congr rfl fun i _ => Eq.trans (sum_congr rfl fun j _ => ?_) sum_comm) sum_comm)
  by_cases h : i < j ∧ j < n b
  · rw [if_pos h, sum_eq_single (e b i j) (fun t _ ht => if_neg fun hh => ht hh.2.2.symm) (fun hh => absurd (mem_range.2 (he b i j)) hh),
      if_pos ⟨h.1, h.2, rfl⟩]
  · rw [if_neg h]
    exact (sum_eq_zero fun t _ => if_neg fun hh => h ⟨hh.1, hh.2.1⟩).symm

/-! ## The packed counts -/

/-- The packed weight of a bond type. -/
def weight (t : ℕ) : ℕ := if t = 0 then 0 else 256 ^ (t - 1)

/-- A molecule's packed counts in lane `l`, from its first `k` rows. -/
def packed (m l k : ℕ) : ℕ := ∑ i ∈ range k, ∑ c ∈ range 4, if i < 16 * c + l ∧ 16 * c + l < n m then weight (e m i (16 * c + l)) else 0

include he in
theorem packed_eq (m l k : ℕ) :
    packed n e m l k = molEdge n e m 1 l k + 256 * molEdge n e m 2 l k + 65536 * molEdge n e m 3 l k + 16777216 * molEdge n e m 4 l k := by
  simp only [packed, molEdge, mul_sum, ← sum_add_distrib]
  refine sum_congr rfl fun i _ => sum_congr rfl fun c _ => ?_
  have := he m i (16 * c + l)
  by_cases h : i < 16 * c + l ∧ 16 * c + l < n m
  · simp only [h, true_and, if_true]
    generalize e m i (16 * c + l) = t at this
    interval_cases t <;> simp [weight]
  · rw [if_neg h]
    simp only [← and_assoc, h, false_and, if_false, Nat.mul_zero, Nat.add_zero]

/-- No packed count reaches the next one's bits. -/
theorem molEdge_le (m t l k : ℕ) (hl : l < 16) : molEdge n e m t l k ≤ 156 := by
  unfold molEdge
  rw [sum_comm]
  have h : ∀ c ∈ range 4, (∑ i ∈ range k, if i < 16 * c + l ∧ 16 * c + l < n m ∧ e m i (16 * c + l) = t then 1 else 0) ≤ 16 * c + l := fun c _ => by
    rw [← card_filter]
    refine (card_le_card (t := range (16 * c + l)) fun i hi => ?_).trans (by rw [card_range])
    simp only [mem_filter, mem_range] at hi ⊢
    exact hi.2.1
  refine (sum_le_sum h).trans ?_
  simp only [sum_range_succ, sum_range_zero]
  omega

end Cert.Count
-- ==== Proof.Words.lean ====
/- Words below small bounds as natural numbers, and the float values that the counts are at the ideal instance: whole
   numbers and halves. -/
module

public import proofs.«01_k».proof.Proof.Count
public import Idealize.ShloMosaic.Lib.StableHlo.Predicate
public import Idealize.ShloMosaic.Lib.IdealHost

@[expose] public section

noncomputable section

namespace Cert.Words

open Idealize.ShloMosaic Cert.Count

/-- A count as an ideal value. -/
def num (k : ℕ) : EReal := (((k : ℕ) : ℝ) : EReal)
/-- Half a count as an ideal value. -/
def half (k : ℕ) : EReal := (((k : ℝ) / 2 : ℝ) : EReal)

theorem num_zero : num 0 = 0 := by simp [num]
theorem num_one : num 1 = 1 := by simp [num]
theorem num_add (a b : ℕ) : num (a + b) = num a + num b := by simp [num]
theorem num_ite (p : Prop) [Decidable p] : num (if p then 1 else 0) = if p then 1 else 0 := by split <;> simp [num]
theorem num_sum {ι : Type} (s : Finset ι) (f : ι → ℕ) : num (∑ i ∈ s, f i) = ∑ i ∈ s, num (f i) := by
  classical
  induction s using Finset.induction_on with
  | empty => simp [num_zero]
  | insert i s hi ih => rw [Finset.sum_insert hi, Finset.sum_insert hi, num_add, ih]
theorem half_zero : half 0 = 0 := by simp [half]
theorem half_add (a b : ℕ) : half (a + b) = half a + half b := by
  unfold half; rw [← EReal.coe_add]; congr 1; push_cast; ring
theorem half_sum {ι : Type} (s : Finset ι) (f : ι → ℕ) : half (∑ i ∈ s, f i) = ∑ i ∈ s, half (f i) := by
  classical
  induction s using Finset.induction_on with
  | empty => simp [half_zero]
  | insert i s hi ih => rw [Finset.sum_insert hi, Finset.sum_insert hi, half_add, ih]

theorem bits_zero : Ideal.ofBits .f32 0x00000000#32 = 0 := by simp [Ideal.ofBits, Ideal.ieee]
theorem bits_three_halves : Ideal.ofBits .f32 0x3FC00000#32 = half 3 := by
  simp [Ideal.ofBits, Ideal.ieee, half, -EReal.coe_mul]; norm_num
theorem bits_half : Ideal.ofBits .f32 0x3F000000#32 = ((1 / 2 : ℝ) : EReal) := by
  simp [Ideal.ofBits, Ideal.ieee, -EReal.coe_mul]; norm_num

theorem toInt_small {v : BitVec 32} (h : v.toNat < 2 ^ 31) : v.toInt = v.toNat := by
  rw [BitVec.toInt_eq_toNat_cond, if_pos (by omega)]

/-- A bond type's valency. -/
theorem valency {v : BitVec 32} (h : v.toNat < 5) :
    Scalar.select (IntOp.cmpi .eq v 4#32) (Ideal.ofBits .f32 0x3FC00000#32) ((v.toInt : ℝ) : EReal) = half (twice v.toNat) := by
  rw [toInt_small (by omega), bits_three_halves]
  unfold Scalar.select twice
  by_cases h4 : v.toNat = 4
  · rw [if_pos (by rw [show v = 4#32 from BitVec.eq_of_toNat_eq h4]; decide), if_pos h4]
  · rw [if_neg (fun hh => h4 (by rw [StableHlo.Predicate.cmpi_eq_iff.1 hh]; rfl)), if_neg h4]
    unfold half
    congr 1
    push_cast
    ring

/-- The whole part of half a count, clipped. -/
theorem clipped {k : ℕ} (hk : k < 2 ^ 31) : IntOp.minsi 189#32 (IntOp.maxsi 0#32 (Ideal.fptosi 32 (half k))) = BitVec.ofNat 32 (min 189 (k / 2)) := by
  have h : Ideal.fptosi 32 (half k) = BitVec.ofNat 32 (k / 2) := by
    unfold Ideal.fptosi half
    rw [Ideal.toIntClamped_coe, if_pos (by positivity)]
    rw [show ⌊((k : ℝ) / 2)⌋ = ((k / 2 : ℕ) : ℤ) from by
      rw [Int.floor_eq_iff]
      have h2 : 2 * (k / 2) ≤ k := Nat.mul_div_le k 2
      have h3 : k < 2 * (k / 2) + 2 := by omega
      have h2' : (2 : ℝ) * ((k / 2 : ℕ) : ℝ) ≤ k := by exact_mod_cast h2
      have h3' : (k : ℝ) < 2 * ((k / 2 : ℕ) : ℝ) + 2 := by exact_mod_cast h3
      rw [Int.cast_natCast]; constructor <;> linarith]
    rw [max_eq_right (by omega), min_eq_right (by omega), BitVec.ofInt_natCast]
  rw [h]
  have ht : (BitVec.ofNat 32 (k / 2)).toInt = (k / 2 : ℕ) := StableHlo.Predicate.toInt_ofNat_small _ (by omega)
  have h0 : IntOp.maxsi 0#32 (BitVec.ofNat 32 (k / 2)) = BitVec.ofNat 32 (k / 2) := by
    unfold IntOp.maxsi
    simp only [BitVec.slt, ht, BitVec.toInt_zero, decide_eq_true_eq]
    exact if_neg (by omega)
  rw [h0]
  unfold IntOp.minsi
  simp only [BitVec.slt, ht, show (189#32).toInt = 189 from rfl, decide_eq_true_eq]
  by_cases hh : 189 < k / 2
  · rw [if_pos (by omega), min_eq_left (by omega)]
  · rw [if_neg (by omega), min_eq_right (by omega)]

/-- Eight bits of a word, read by a signed shift. -/
theorem field_bits (x : BitVec 32) (k : ℕ) (hk : k ≤ 24) : (x.sshiftRight k &&& 255#32).toNat = x.toNat / 2 ^ k % 256 := by
  have h : x.sshiftRight k &&& 255#32 = (x >>> k) &&& 255#32 := by
    apply BitVec.eq_of_getLsbD_eq
    intro i hi
    rw [BitVec.getLsbD_and, BitVec.getLsbD_and, BitVec.getLsbD_sshiftRight, BitVec.getLsbD_ushiftRight]
    by_cases h8 : i < 8
    · have h1 : k + i < 32 := by omega
      simp [h1, show ¬ 32 ≤ i by omega]
    · have : (255#32).getLsbD i = false := by
        rw [show (255#32) = BitVec.ofNat 32 (2 ^ 8 - 1) from rfl, BitVec.getLsbD_ofNat, Nat.testBit_two_pow_sub_one]; simp [h8]
      rw [this, Bool.and_false, Bool.and_false]
  rw [h, BitVec.toNat_and, BitVec.toNat_ushiftRight, Nat.shiftRight_eq_div_pow]
  exact Nat.and_two_pow_sub_one_eq_mod _ 8

end Cert.Words
-- ==== Proof.TileCount.lean ====
/- What a tile of the SparseCore hands back, at the ideal instance: its histogram is the counts of the tile's molecules, one
   lane of each row a sum over that lane's columns. -/
module

public import proofs.«01_k».proof.Proof.Words

@[expose] public section

noncomputable section

namespace Cert.KernelIdeal.Tile

open Cert.KernelIdeal Cert.KernelIdeal.Gen Idealize.ShloMosaic Cert.Count Cert.Words

/-- The lane of an index. -/
abbrev ln (x : S16.Idx) : ℕ := (x 0).val

theorem ln_lt (x : S16.Idx) : ln x < 16 := (x 0).isLt

theorem S16_ext {x y : S16.Idx} (h : ln x = ln y) : x = y := funext fun a => Fin.ext (by rw [Fin.eq_zero a]; exact h)

/-! ## A scatter of ones -/

/-- A histogram that holds the counts `H`, by row and lane. -/
def Is (h : Vec Ideal S4608 .f32) (H : ℕ → ℕ → ℕ) : Prop := ∀ y : S4608.Idx, h y = num (H ((y 0).val / 16) ((y 0).val % 16))

theorem Is.congr {h : Vec Ideal S4608 .f32} {H H' : ℕ → ℕ → ℕ} (hh : Is h H) (e : ∀ r l, r < 288 → l < 16 → H r l = H' r l) : Is h H' := fun y => by
  have hy : (y 0).val < 4608 := (y 0).isLt
  rw [hh y, e _ _ (by omega) (by omega)]

/-- The fold of a scatter, at one element: the ones of the lanes that name it. -/
theorem fold_apply (pos : Fin 16 → ℕ) (m : Fin 16 → Prop) [DecidablePred m] (step : (S4608.Idx → EReal) → Fin 16 → S4608.Idx → EReal)
    (hs : ∀ g k y, step g k y = g y + if m k ∧ pos k = (y 0).val then 1 else 0) (y : S4608.Idx) :
    ∀ (L : List (Fin 16)) (g : S4608.Idx → EReal), L.foldl step g y = g y + (L.map fun k => if m k ∧ pos k = (y 0).val then (1 : EReal) else 0).sum
  | [], g => by simp
  | k :: L, g => by rw [List.foldl_cons, fold_apply pos m step hs y L, hs, List.map_cons, List.sum_cons, add_assoc]

theorem scat_is {h : Vec Ideal S4608 .f32} {H : ℕ → ℕ → ℕ} {iv : IVec S16 32} {mask : IVec S16 1} (row : ℕ → ℕ) (mk : ℕ → Prop) [DecidablePred mk]
    (hh : Is h H) (hiv : ∀ x, (iv x).toNat = row (ln x) * 16 + ln x) (hr : ∀ l, l < 16 → row l < 288) (hm : ∀ x, mask x = 1 ↔ mk (ln x)) :
    Is (scat h iv mask) fun r l => H r l + if mk l ∧ row l = r then 1 else 0 := fun y => by
  have hy : (y 0).val < 4608 := (y 0).isLt
  have hc : k0_chk12 iv := fun a x => by
    rw [Fin.eq_zero a]
    have := hiv x; have := hr _ (ln_lt x); have := ln_lt x
    show (iv x).toNat < 4608
    omega
  have hl : ∀ k : Fin 16, ln (Shape.ofLane (d := ![16]) k) = k.val := fun k => rfl
  unfold scat
  rw [dif_pos hc]
  unfold storeIdx
  refine (fold_apply (fun k => row k.val * 16 + k.val) (fun k => mk k.val) _ (fun g k z => ?_) y (List.finRange 16) h).trans ?_
  rotate_left
  · rw [hh y, num_add, num_ite]
    refine congrArg (num _ + ·) ?_
    rw [← Fin.sum_univ_def]
    rw [Finset.sum_eq_single (⟨(y 0).val % 16, Nat.mod_lt _ (by decide)⟩ : Fin 16) (fun k _ hk => if_neg fun h => hk (Fin.ext (by
      have := k.isLt
      show k.val = (y 0).val % 16
      omega))) (fun h => absurd (Finset.mem_univ _) h)]
    exact if_congr (show (mk ((y 0).val % 16) ∧ row ((y 0).val % 16) * 16 + (y 0).val % 16 = (y 0).val) ↔ (mk ((y 0).val % 16) ∧ row ((y 0).val % 16) = (y 0).val / 16) from
      and_congr_right fun _ => by constructor <;> intro h <;> omega) rfl rfl
  · have hx := hiv (Shape.ofLane (d := ![16]) k)
    rw [hl] at hx
    dsimp only
    by_cases hmk : mk k.val
    · rw [if_pos ((hm _).2 hmk)]
      by_cases hp : row k.val * 16 + k.val = (z 0).val
      · have hz : idxAt ![iv] (k0_idx11_inb iv hc) (Shape.ofLane (d := ![16]) k) = z := funext fun a => Fin.ext (by
          rw [Fin.eq_zero a]; show (iv _).toNat = (z 0).val; rw [hx, hp])
        refine (if_pos fun a => by rw [hz]).trans ?_
        rw [if_pos (show mk k.val ∧ row k.val * 16 + k.val = (z 0).val from ⟨hmk, hp⟩)]
        refine (if_pos rfl).trans ?_
        show g (idxAt ![iv] (k0_idx11_inb iv hc) (Shape.ofLane (d := ![16]) k)) + Ideal.ofBits .f32 0x3F800000#32 = _
        rw [hz, Ideal.ofBits_one_f32]
      · rw [if_neg (show ¬ (mk k.val ∧ row k.val * 16 + k.val = (z 0).val) from fun h => hp h.2), add_zero]
        exact if_neg fun h => hp (by have h0 := h 0; rw [← hx]; exact h0.symm)
    · rw [if_neg fun h => hmk ((hm _).1 h), if_neg fun h => hmk h.1, add_zero]

/-! ## The words of a vector -/

theorem lanes_apply (x : S16.Idx) : lanes x = BitVec.ofNat 32 (ln x) := by
  show BitVec.ofNat 32 (0 * 16 + ln x) = _
  rw [Nat.zero_mul, Nat.zero_add]

/-- The column numbers of the vector at column `o`. -/
theorem col_apply (x : S16.Idx) (o : ℕ) : IntOp.addi (lanes x) (BitVec.ofNat 32 o) = BitVec.ofNat 32 (o + ln x) := by
  rw [lanes_apply, Nat.add_comm]; exact (BitVec.ofNat_add _ _).symm

theorem look_apply (ew : IVec S16 32) (x : S16.Idx) (h : (ew x).toNat < 5) : look ew x = BitVec.ofNat 32 (weight (ew x).toNat) := by
  unfold look
  generalize (ew x).toNat = t at h
  interval_cases t <;> rfl

theorem keep_apply (j nv ew : IVec S16 32) (i J n : ℕ) (x : S16.Idx) (hj : j x = BitVec.ofNat 32 J) (hJ : J < 64) (hn : (nv x).toNat = n) (hn' : n < 65)
    (hi : i < 65) (h : (ew x).toNat < 5) : keep j nv (BitVec.ofNat 32 i) ew x = BitVec.ofNat 32 (if i < J ∧ J < n then weight (ew x).toNat else 0) := by
  have hJ' : (j x).toNat = J := by rw [hj, BitVec.toNat_ofNat]; omega
  have hi' : (BitVec.ofNat 32 i).toNat = i := by rw [BitVec.toNat_ofNat]; omega
  have h1 : IntOp.andi (IntOp.cmpi .slt (j x) (nv x)) (IntOp.cmpi .sgt (j x) (BitVec.ofNat 32 i)) = 1#1 ↔ (i < J ∧ J < n) := by
    rw [IntOp.andi_eq_one, StableHlo.Predicate.slt_iff_toNat (by omega) (by omega), StableHlo.Predicate.sgt_iff_toNat (by omega) (by omega), hJ', hn, hi']
    exact And.comm
  show Scalar.select (IntOp.andi (IntOp.cmpi .slt (j x) (nv x)) (IntOp.cmpi .sgt (j x) (BitVec.ofNat 32 i))) (look ew x) 0#32 = _
  unfold Scalar.select
  rw [look_apply ew x h]
  by_cases hc : i < J ∧ J < n
  · refine (if_pos (h1.2 hc)).trans ?_; rw [if_pos hc]
  · refine (if_neg fun hh => hc (h1.1 hh)).trans ?_; rw [if_neg hc]

/-! ## The rows of a molecule -/

section Rows

variable (ev : Vec Ideal S4096 .i32) (nv : IVec S16 32)

/-- The bond type of a row and a column. -/
def eAt (i j : ℕ) : ℕ := (at1 (N := 4096) ev (i * 64 + j)).toNat

variable (hev : ∀ i j, eAt ev i j < 5)

theorem acc_apply (acc : FVec Ideal S16 .f32) (k o : ℕ) (x : S16.Idx) (h : eAt ev k (o + ln x) < 5) (S : ℕ) (hS : acc x = half S) :
    k0_pay2 acc (words (N := 4096) ev (k * 64 + o)) x = half (S + twice (eAt ev k (o + ln x))) := by
  have e : words (N := 4096) ev (k * 64 + o) x = at1 (N := 4096) ev (k * 64 + (o + ln x)) := by unfold words; rw [Nat.add_assoc]
  show acc x + Scalar.select (IntOp.cmpi .eq (words (N := 4096) ev (k * 64 + o) x) 4#32) (Ideal.ofBits .f32 0x3FC00000#32)
    (((words (N := 4096) ev (k * 64 + o) x).toInt : ℝ) : EReal) = _
  rw [hS, valency (by rw [e]; exact h), half_add, e]
  rfl

include hev in
theorem rows_acc (x : S16.Idx) : ∀ k : ℕ,
    (rowsV (F := Ideal) ev nv k).1 x = half (∑ i ∈ Finset.range k, twice (eAt ev i (16 * 0 + ln x)))
    ∧ (rowsV (F := Ideal) ev nv k).2.1 x = half (∑ i ∈ Finset.range k, twice (eAt ev i (16 * 1 + ln x)))
    ∧ (rowsV (F := Ideal) ev nv k).2.2.1 x = half (∑ i ∈ Finset.range k, twice (eAt ev i (16 * 2 + ln x)))
    ∧ (rowsV (F := Ideal) ev nv k).2.2.2.1 x = half (∑ i ∈ Finset.range k, twice (eAt ev i (16 * 3 + ln x)))
  | 0 => by
    have h : (Ideal.ofBits .f32 0x00000000#32 : EReal) = half 0 := by rw [bits_zero, half_zero]
    exact ⟨h, h, h, h⟩
  | k + 1 => by
    obtain ⟨h0, h1, h2, h3⟩ := rows_acc x k
    simp only [Finset.sum_range_succ]
    exact ⟨acc_apply ev _ k 0 x (hev _ _) _ h0, acc_apply ev _ k 16 x (hev _ _) _ h1, acc_apply ev _ k 32 x (hev _ _) _ h2, acc_apply ev _ k 48 x (hev _ _) _ h3⟩

include hev in
theorem rows_packed (x : S16.Idx) (n : ℕ) (hn : (nv x).toNat = n) (hn' : n < 65) : ∀ k : ℕ, k < 65 →
    (rowsV (F := Ideal) ev nv k).2.2.2.2 x
      = BitVec.ofNat 32 (∑ i ∈ Finset.range k, ∑ c ∈ Finset.range 4, if i < 16 * c + ln x ∧ 16 * c + ln x < n then weight (eAt ev i (16 * c + ln x)) else 0)
  | 0, _ => rfl
  | k + 1, hk => by
    have ih := rows_packed x n hn hn' k (by omega)
    have hl := ln_lt x
    have hw : ∀ o : ℕ, (words (N := 4096) ev (k * 64 + o) x).toNat = eAt ev k (o + ln x) := fun o => by unfold words eAt; rw [Nat.add_assoc]
    have hk' : ∀ (j : IVec S16 32) (o : ℕ), j x = IntOp.addi (lanes x) (BitVec.ofNat 32 o) → o < 49 →
        keep j nv (BitVec.ofNat 32 k) (words (N := 4096) ev (k * 64 + o)) x = BitVec.ofNat 32 (if k < o + ln x ∧ o + ln x < n then weight (eAt ev k (o + ln x)) else 0) := fun j o hj ho => by
      rw [keep_apply j nv _ k (o + ln x) n x (by rw [hj, col_apply]) (by omega) hn hn' (by omega) (by rw [hw]; exact hev _ _), hw]
    rw [Finset.sum_range_succ, BitVec.ofNat_add, ← ih]
    simp only [Finset.sum_range_succ (n := 3), Finset.sum_range_succ (n := 2), Finset.sum_range_succ (n := 1), Finset.sum_range_succ (n := 0), Finset.sum_range_zero,
      BitVec.ofNat_add, Nat.zero_add]
    show IntOp.addi (IntOp.addi (IntOp.addi (IntOp.addi ((rowsV (F := Ideal) ev nv k).2.2.2.2 x) (keep jv0 nv (BitVec.ofNat 32 k) (words (N := 4096) ev (k * 64 + 0)) x))
      (keep jv1 nv (BitVec.ofNat 32 k) (words (N := 4096) ev (k * 64 + 16)) x)) (keep jv2 nv (BitVec.ofNat 32 k) (words (N := 4096) ev (k * 64 + 32)) x))
      (keep jv3 nv (BitVec.ofNat 32 k) (words (N := 4096) ev (k * 64 + 48)) x) = _
    rw [hk' jv0 0 rfl (by decide), hk' jv1 16 rfl (by decide), hk' jv2 32 rfl (by decide), hk' jv3 48 rfl (by decide)]
    simp only [IntOp.addi, BitVec.add_assoc]

end Rows

/-! ## Rows of the histogram that words name -/

/-- The word of lane `x` and a row that is a constant plus a small word. -/
theorem row_word (c r : ℕ) (v : BitVec 32) (x : S16.Idx) (hv : v.toNat = r) (hc : c + r < 288) :
    (IntOp.addi (IntOp.muli (IntOp.addi (BitVec.ofNat 32 c) v) 16#32) (lanes x)).toNat = (c + r) * 16 + ln x := by
  have hl := ln_lt x
  rw [lanes_apply]
  simp only [IntOp.addi, IntOp.muli, BitVec.toNat_add, BitVec.toNat_mul, BitVec.toNat_ofNat, hv]
  omega

theorem twice_le {t : ℕ} (h : t < 5) : twice t ≤ 6 := by interval_cases t <;> decide

theorem twice_sum_le (g : ℕ → ℕ) (hg : ∀ i, g i < 5) (k : ℕ) : ∑ i ∈ Finset.range k, twice (g i) ≤ 6 * k := by
  refine (Finset.sum_le_sum fun i _ => twice_le (hg i)).trans ?_
  rw [Finset.sum_const, Finset.card_range, smul_eq_mul, Nat.mul_comm]

theorem hist_is (nb : Vec Ideal S256 .i32) (hn : ∀ m, (at1 (N := 256) nb m).toNat < 65) :
    ∀ k : ℕ, Is (histN nb k) fun r l => ∑ q ∈ Finset.range k, if (at1 (N := 256) nb (16 * q + l)).toNat = r then 1 else 0
  | 0 => fun y => by dsimp only; rw [Finset.sum_range_zero, num_zero]; exact bits_zero
  | k + 1 => by
    refine (scat_is (fun l => (at1 (N := 256) nb (16 * k + l)).toNat) (fun _ => True) (hist_is nb hn k) (fun x => ?_) (fun l _ => by
      have := hn (16 * k + l); omega) fun x => ?_).congr fun r l _ _ => ?_
    · have h := row_word 0 _ (words (N := 256) nb (k * 16) x) x rfl (by have := hn (k * 16 + (x 0).val); unfold words; omega)
      refine h.trans ?_
      rw [Nat.zero_add]
      show (at1 (N := 256) nb (k * 16 + ln x)).toNat * 16 + ln x = _
      rw [Nat.mul_comm k 16]
    · have hl := ln_lt x
      refine ⟨fun _ => trivial, fun _ => ?_⟩
      show IntOp.cmpi .slt (lanes x) 16#32 = 1#1
      have h16 : (lanes x).toNat = ln x := by rw [lanes_apply, BitVec.toNat_ofNat]; omega
      exact (StableHlo.Predicate.slt_iff_toNat (by omega) (by decide)).2 (by rw [h16]; exact hl)
    · rw [Finset.sum_range_succ]
      simp only [true_and]

theorem col_is {h : Vec Ideal S4608 .f32} {H : ℕ → ℕ → ℕ} {at' : IVec S16 32} {mask : IVec S16 1} {acc : FVec Ideal S16 .f32} (mk : ℕ → Prop) [DecidablePred mk] (V T : ℕ → ℕ)
    (hh : Is h H) (hm : ∀ x, mask x = 1 ↔ mk (ln x)) (hV : ∀ l, V l < 2 ^ 31) (ha : ∀ x, acc x = half (V (ln x))) (hT : ∀ l, T l < 16) (hat : ∀ x, (at' x).toNat = T (ln x)) :
    Is (colV h at' mask acc) fun r l => H r l + ((if mk l ∧ 86 + min 189 (V l / 2) = r then 1 else 0) + if mk l ∧ 65 + T l = r then 1 else 0) := by
  have h1 := scat_is (iv := k0_pay110 lanes acc) (fun l => 86 + min 189 (V l / 2)) mk hh (fun x => by
    refine (row_word 86 (min 189 (V (ln x) / 2)) _ x ?_ (by omega))
    show (IntOp.minsi 189#32 (IntOp.maxsi 0#32 (Ideal.fptosi 32 (acc x)))).toNat = _
    rw [ha, clipped (hV _), BitVec.toNat_ofNat]
    omega) (fun l _ => by omega) hm
  refine (scat_is (iv := k0_pay111 (F := Ideal) lanes at') (fun l => 65 + T l) mk h1 (fun x => row_word 65 _ _ x (hat x) (by have := hT (ln x); omega)) (fun l _ => by
    have := hT l; omega) hm).congr fun r l _ _ => by rw [Nat.add_assoc]

/-! ## A molecule -/

section Mol

variable (en : ℕ → Vec Ideal S4096 .i32) (av : Vec Ideal S16384 .i32) (nb : Vec Ideal S256 .i32)

/-- The data of a tile, as numbers. -/
def nT (m : ℕ) : ℕ := (at1 (N := 256) nb m).toNat
def aT (m j : ℕ) : ℕ := (at1 (N := 16384) av (m * 64 + j)).toNat
def eT (m i j : ℕ) : ℕ := eAt (en m) i j

variable (hn : ∀ m, nT nb m < 65) (ha : ∀ m j, aT av m j < 16) (he : ∀ m i j, eT en m i j < 5)

theorem mask_apply (j : IVec S16 32) (m c : ℕ) (hc : c < 4) (hj : ∀ x, j x = IntOp.addi (lanes x) (BitVec.ofNat 32 (16 * c))) (hn : nT nb m < 65) (x : S16.Idx) :
    cmpi .slt j (broadcast S16 (at1 (N := 256) nb m)) x = 1 ↔ 16 * c + ln x < nT nb m := by
  have hl := ln_lt x
  have hj' : (j x).toNat = 16 * c + ln x := by rw [hj, col_apply, BitVec.toNat_ofNat]; omega
  show IntOp.cmpi .slt (j x) (at1 (N := 256) nb m) = 1#1 ↔ _
  unfold nT at hn ⊢
  rw [StableHlo.Predicate.slt_iff_toNat (by omega) (by omega), hj']

include hn ha he in
theorem mol_is (m : ℕ) (hc : Vec Ideal S4608 .f32 × Cnts Ideal) (H : ℕ → ℕ → ℕ) (hh : Is hc.1 H) :
    Is (molV (en m) av nb m hc).1 fun r l => H r l + molCell (nT nb) (aT av) (eT en) m r l := by
  have hr := fun x => rows_acc (en m) (broadcast S16 (at1 (N := 256) nb m)) (he m) x (nT nb m)
  have hV : ∀ c l, val2 (eT en) m (16 * c + l) (nT nb m) < 2 ^ 31 := fun c l => by
    have := twice_sum_le (fun i => eT en m i (16 * c + l)) (fun i => he m i _) (nT nb m)
    have := hn m
    unfold val2
    omega
  have hat : ∀ c x, (words (N := 16384) av (m * 64 + 16 * c) x).toNat = aT av m (16 * c + ln x) := fun c x => by unfold words aT; rw [Nat.add_assoc]
  have h0 := col_is (fun l => 16 * 0 + l < nT nb m) (fun l => val2 (eT en) m (16 * 0 + l) (nT nb m)) (fun l => aT av m (16 * 0 + l)) hh
    (mask_apply nb jv0 m 0 (by decide) (fun _ => rfl) (hn m)) (hV 0) (fun x => (hr x).1) (fun l => ha m _) (hat 0)
  have h1 := col_is (fun l => 16 * 1 + l < nT nb m) (fun l => val2 (eT en) m (16 * 1 + l) (nT nb m)) (fun l => aT av m (16 * 1 + l)) h0
    (mask_apply nb jv1 m 1 (by decide) (fun _ => rfl) (hn m)) (hV 1) (fun x => (hr x).2.1) (fun l => ha m _) (hat 1)
  have h2 := col_is (fun l => 16 * 2 + l < nT nb m) (fun l => val2 (eT en) m (16 * 2 + l) (nT nb m)) (fun l => aT av m (16 * 2 + l)) h1
    (mask_apply nb jv2 m 2 (by decide) (fun _ => rfl) (hn m)) (hV 2) (fun x => (hr x).2.2.1) (fun l => ha m _) (hat 2)
  have h3 := col_is (fun l => 16 * 3 + l < nT nb m) (fun l => val2 (eT en) m (16 * 3 + l) (nT nb m)) (fun l => aT av m (16 * 3 + l)) h2
    (mask_apply nb jv3 m 3 (by decide) (fun _ => rfl) (hn m)) (hV 3) (fun x => (hr x).2.2.2) (fun l => ha m _) (hat 3)
  refine Is.congr (H := _) (h := (molV (en m) av nb m hc).1) h3 fun r l _ _ => ?_
  simp only [molCell, bin, Finset.sum_range_succ, Finset.sum_range_zero, Nat.zero_add, Nat.add_assoc]
  rfl

/-- The four counts of a tile's vector hold `C`, by bond type and lane. -/
def CIs (c : Cnts Ideal) (C : ℕ → ℕ → ℕ) : Prop := ∀ x, c.1 x = num (C 1 (ln x)) ∧ c.2.1 x = num (C 2 (ln x)) ∧ c.2.2.1 x = num (C 3 (ln x)) ∧ c.2.2.2 x = num (C 4 (ln x))

theorem count_apply (pk : BitVec 32) (z : EReal) (k C f : ℕ) (hz : z = num C) (hk : k ≤ 24) (hf : pk.toNat / 2 ^ k % 256 = f) :
    z + (((IntOp.andi (pk.sshiftRight k) 255#32).toInt : ℝ) : EReal) = num (C + f) := by
  have hb : (IntOp.andi (pk.sshiftRight k) 255#32).toNat = f := (field_bits pk k hk).trans hf
  have hs : (IntOp.andi (pk.sshiftRight k) 255#32).toInt = f := by
    rw [toInt_small (by rw [hb, ← hf]; exact (Nat.mod_lt _ (by decide)).trans (by decide)), hb]
  rw [hs, hz, num_add]
  simp [num]

include hn he in
theorem mol_counts (m : ℕ) (hc : Vec Ideal S4608 .f32 × Cnts Ideal) (C : ℕ → ℕ → ℕ) (hh : CIs hc.2 C) :
    CIs (molV (en m) av nb m hc).2 fun t l => C t l + molEdge (nT nb) (eT en) m t l (nT nb m) := fun x => by
  obtain ⟨h1, h2, h3, h4⟩ := hh x
  have hp := rows_packed (en m) (broadcast S16 (at1 (N := 256) nb m)) (he m) x (nT nb m) rfl (hn m) (nT nb m) (hn m)
  replace hp : (rowsV (F := Ideal) (en m) (broadcast S16 (at1 (N := 256) nb m)) (nT nb m)).2.2.2.2 x = BitVec.ofNat 32 (packed (nT nb) (eT en) m (ln x) (nT nb m)) := hp
  rw [packed_eq (nT nb) (eT en) he] at hp
  have l1 := molEdge_le (nT nb) (eT en) m 1 (ln x) (nT nb m) (ln_lt x)
  have l2 := molEdge_le (nT nb) (eT en) m 2 (ln x) (nT nb m) (ln_lt x)
  have l3 := molEdge_le (nT nb) (eT en) m 3 (ln x) (nT nb m) (ln_lt x)
  have l4 := molEdge_le (nT nb) (eT en) m 4 (ln x) (nT nb m) (ln_lt x)
  have hp' := congrArg BitVec.toNat hp
  rw [BitVec.toNat_ofNat, Nat.mod_eq_of_lt (by omega)] at hp'
  have g := fun k z C f hz hk hf => count_apply ((rowsV (F := Ideal) (en m) (broadcast S16 (at1 (N := 256) nb m)) (nT nb m)).2.2.2.2 x) z k C f hz hk hf
  refine ⟨?_, g 8 _ _ _ h2 (by decide) (by rw [hp']; omega), g 16 _ _ _ h3 (by decide) (by rw [hp']; omega), g 24 _ _ _ h4 (by decide) (by rw [hp']; omega)⟩
  have g0 := g 0 _ _ _ h1 (by decide) (by rw [hp'])
  rw [BitVec.sshiftRight_zero] at g0
  refine Eq.trans g0 (congrArg num (congrArg (C 1 (ln x) + ·) ?_))
  rw [Nat.pow_zero, Nat.div_one]
  omega

include hn ha he in
theorem mols_is : ∀ k : ℕ,
    Is (molsV en av nb k).1 (fun r l => (∑ q ∈ Finset.range 16, if nT nb (16 * q + l) = r then 1 else 0) + ∑ m ∈ Finset.range k, molCell (nT nb) (aT av) (eT en) m r l)
    ∧ CIs (molsV en av nb k).2 fun t l => ∑ m ∈ Finset.range k, molEdge (nT nb) (eT en) m t l (nT nb m)
  | 0 => by
    rw [molsV]
    have hh := hist_is nb hn 16
    generalize histN nb 16 = h0 at hh ⊢
    refine ⟨hh.congr fun r l _ _ => ?_, fun x => ?_⟩
    · rw [Finset.sum_range_zero, Nat.add_zero]
      exact Finset.sum_congr rfl fun q _ => rfl
    · have h : (Ideal.ofBits .f32 0x00000000#32 : EReal) = num 0 := by rw [bits_zero, num_zero]
      exact ⟨h, h, h, h⟩
  | k + 1 => by
    obtain ⟨ih, ic⟩ := mols_is k
    refine ⟨(mol_is en av nb hn ha he k _ _ ih).congr fun r l _ _ => ?_, ?_⟩
    · rw [Finset.sum_range_succ (fun m => molCell (nT nb) (aT av) (eT en) m r l) k, Nat.add_assoc]
    · have h := mol_counts en av nb hn he k _ _ ic
      simp only [← Finset.sum_range_succ] at h
      exact h

/-- A tile's count in row `r` and lane `l`. -/
def tileCell (n : ℕ → ℕ) (a : ℕ → ℕ → ℕ) (e : ℕ → ℕ → ℕ → ℕ) (r l : ℕ) : ℕ := if 82 ≤ r ∧ r < 86 then edgeCell n e (r - 81) l else cell n a e r l

theorem put_is {h : Vec Ideal S4608 .f32} {H : ℕ → ℕ → ℕ} (w : FVec Ideal S16 .f32) (r0 : ℕ) (g : ℕ → ℕ) (hh : Is h H) (hw : ∀ x, w x = num (g (ln x))) :
    Is (putRow (N := 4608) h (r0 * 16) w) fun r l => if r = r0 then g l else H r l := fun y => by
  unfold putRow
  by_cases hc : r0 * 16 ≤ (y 0).val ∧ (y 0).val < r0 * 16 + 16
  · dsimp only
    rw [dif_pos hc, hw, if_pos (by omega)]
    refine congrArg (fun l => num (g l)) ?_
    show (y 0).val - r0 * 16 = _
    omega
  · dsimp only
    rw [dif_neg hc, if_neg (by omega), hh y]

include hn ha he in
theorem tile_is : Is (tileV en av nb) (tileCell (nT nb) (aT av) (eT en)) := by
  obtain ⟨h, hc⟩ := mols_is en av nb hn ha he 256
  have h1 := put_is _ 82 (fun l => edgeCell (nT nb) (eT en) 1 l) h fun x => (hc x).1
  have h2 := put_is _ 83 (fun l => edgeCell (nT nb) (eT en) 2 l) h1 fun x => (hc x).2.1
  have h3 := put_is _ 84 (fun l => edgeCell (nT nb) (eT en) 3 l) h2 fun x => (hc x).2.2.1
  have h4 := put_is _ 85 (fun l => edgeCell (nT nb) (eT en) 4 l) h3 fun x => (hc x).2.2.2
  refine Is.congr (h := tileV en av nb) h4 fun r l _ _ => ?_
  unfold tileCell
  by_cases hr : 82 ≤ r ∧ r < 86
  · rw [if_pos hr]
    obtain ⟨hr1, hr2⟩ := hr
    interval_cases r <;> rfl
  · rw [if_neg hr, if_neg (by omega), if_neg (by omega), if_neg (by omega), if_neg (by omega)]
    rfl

end Mol

end Cert.KernelIdeal.Tile
-- ==== Proof.Total.lean ====
/- The sum of the tiles' histograms: a row of it, as the finishing call adds it up, is the number of all the molecules, atoms
   or bonds that the row counts. -/
module

public import proofs.«01_k».proof.Proof.TileCount

@[expose] public section

noncomputable section

namespace Cert.KernelIdeal.Tile

open Cert.KernelIdeal Cert.KernelIdeal.Gen Idealize.ShloMosaic Idealize.SL.Sem Cert.Count Cert.Words

/-! ## Positions in row-major order -/

theorem rank1 {a : ℕ} (x : (⟨1, ![a]⟩ : Shape).Idx) : ((⟨1, ![a]⟩ : Shape).rowMajor x).val = (x 0).val := by
  show (x 0).val * 1 + 0 = _
  omega
theorem rank2 {a b : ℕ} (x : (⟨2, ![a, b]⟩ : Shape).Idx) : ((⟨2, ![a, b]⟩ : Shape).rowMajor x).val = (x 0).val * b + (x 1).val := by
  show (x 0).val * (b * 1) + ((x 1).val * 1 + 0) = _
  rw [Nat.mul_one, Nat.mul_one, Nat.add_zero]
theorem rank3 {a b c : ℕ} (x : (⟨3, ![a, b, c]⟩ : Shape).Idx) : ((⟨3, ![a, b, c]⟩ : Shape).rowMajor x).val = ((x 0).val * b + (x 1).val) * c + (x 2).val := by
  show (x 0).val * (b * (c * 1)) + ((x 1).val * (c * 1) + ((x 2).val * 1 + 0)) = _
  ring

/-! ## A tile's counts depend on its own data alone -/

section Congr

variable {n n' : ℕ → ℕ} {a a' : ℕ → ℕ → ℕ} {e e' : ℕ → ℕ → ℕ → ℕ}
variable (hn : ∀ m, m < 256 → n m = n' m) (ha : ∀ m j, m < 256 → j < 64 → a m j = a' m j) (he : ∀ m i j, m < 256 → e m i j = e' m i j)

include hn ha he in
theorem tileCell_congr (r l : ℕ) (hl : l < 16) : tileCell n a e r l = tileCell n' a' e' r l := by
  unfold tileCell
  split
  · unfold edgeCell molEdge
    refine Finset.sum_congr rfl fun m hm => ?_
    rw [Finset.mem_range] at hm
    rw [hn m hm]
    refine Finset.sum_congr rfl fun i _ => Finset.sum_congr rfl fun c _ => ?_
    rw [he m i _ hm]
  · unfold cell
    refine congrArg₂ (· + ·) (Finset.sum_congr rfl fun q hq => ?_) (Finset.sum_congr rfl fun m hm => ?_)
    · rw [Finset.mem_range] at hq
      rw [hn _ (by omega)]
    · rw [Finset.mem_range] at hm
      unfold molCell
      refine Finset.sum_congr rfl fun c hc => ?_
      rw [Finset.mem_range] at hc
      have hb : bin n e m (16 * c + l) = bin n' e' m (16 * c + l) := by
        unfold bin val2
        rw [hn m hm]
        refine congrArg (fun s => min 189 (s / 2)) (Finset.sum_congr rfl fun i _ => ?_)
        rw [he m i _ hm]
      rw [hn m hm, hb, ha m _ hm (by omega)]

end Congr

/-! ## All the tiles -/

section Tiles

variable (E : S8192x4096.Idx → BitVec 32) (A : S524288.Idx → BitVec 32) (N : S8192.Idx → BitVec 32)

/-- The molecules' sizes, atom types and bond types as numbers. -/
def nG (b : ℕ) : ℕ := (at1 (N := 8192) N b).toNat
def aG (b j : ℕ) : ℕ := (at1 (N := 524288) A (b * 64 + j)).toNat
def eG (b i j : ℕ) : ℕ := eAt (rowOf E b) i j

theorem at1_lt {K : ℕ} (v : (⟨1, ![K]⟩ : Shape).Idx → BitVec 32) (B : ℕ) (hB : 0 < B) (h : ∀ x, (v x).toNat < B) (k : ℕ) : (at1 (N := K) v k).toNat < B := by
  unfold at1
  split
  · exact h _
  · exact hB

variable {E A N} (hs : Small E A N)

include hs in
theorem nG_lt (b : ℕ) : nG N b < 65 := at1_lt (K := 8192) N 65 (by decide) hs.2.2 b
include hs in
theorem aG_lt (b j : ℕ) : aG A b j < 16 := at1_lt (K := 524288) A 16 (by decide) hs.2.1 _
include hs in
theorem eG_lt (b i j : ℕ) : eG E b i j < 5 := at1_lt (K := 4096) (rowOf E b) 5 (by decide) (fun _ => hs.1 _) _

theorem at1_seg {K k : ℕ} (v : (⟨1, ![K]⟩ : Shape).Idx → BitVec 32) (o x : ℕ) (hx : x < k) : at1 (N := k) (segOf (N := K) (n := k) v o) x = at1 (N := K) v (o + x) :=
  dif_pos hx

include hs in
theorem tileOf_is (w : ℕ) (i : grid0.Coords) (hi : base i = w * 256) : Is (tileOf (F := Ideal) E A N i) (tileCell (tn (nG N) w) (ta (aG A) w) (te (eG E) w)) := by
  unfold tileOf
  refine (tile_is (rowsOf (F := Ideal) E i) (segOf (N := 524288) (n := 16384) A (base i * 64)) (segOf (N := 8192) (n := 256) N (base i))
    (fun m => at1_lt (K := 256) _ 65 (by decide) (segOf_lt (by decide) hs.2.2 _) m) (fun m j => at1_lt (K := 16384) _ 16 (by decide) (segOf_lt (by decide) hs.2.1 _) _)
    (fun m i j => at1_lt (K := 4096) _ 5 (by decide) (fun _ => hs.1 _) _)).congr fun r l _ hl => ?_
  refine tileCell_congr (fun m hm => ?_) (fun m j hm hj => ?_) (fun m i' j hm => ?_) r l hl
  · unfold nT tn nG
    rw [at1_seg N _ m hm, hi]
  · unfold aT ta aG
    rw [at1_seg A _ _ (by omega), hi, ← Nat.add_assoc, ← Nat.add_mul]
  · unfold eT te eG rowsOf
    rw [hi]

include hs in
theorem parts_apply (y : S32x4608.Idx) :
    parts (F := Ideal) E A N y = num (tileCell (tn (nG N) (y 0).val) (ta (aG A) (y 0).val) (te (eG E) (y 0).val) ((y 1).val / 16) ((y 1).val % 16)) := by
  unfold parts
  refine tileOf_is hs (y 0).val _ ?_ _
  show 512 * ((y 0).val / 2) + 256 * ((y 0).val % 2) = (y 0).val * 256
  omega

end Tiles

section Sum

variable (m : (ℓ : Loc nD τ sig) → Buf (Elt Ideal) ℓ) (d : Dev nD) (hs : Small (eOf m d) (aOf m d) (nOf m d))

/-- The molecules' data as numbers, of the arguments. -/
abbrev nM := nG (nOf m d)
abbrev aM := aG (aOf m d)
abbrev eM := eG (eOf m d)

include hs in
theorem pOf_apply (y : S32x288x16.Idx) :
    pOf m d y = num (tileCell (tn (nM m d) (y 0).val) (ta (aM m d) (y 0).val) (te (eM m d) (y 0).val) (y 1).val (y 2).val) := by
  have h1 : (y 1).val < 288 := (y 1).isLt
  have h2 : (y 2).val < 16 := (y 2).isLt
  have h0 : (y 0).val < 32 := (y 0).isLt
  unfold pOf
  let k : S32x4608.Idx := fun | 0 => ⟨(y 0).val, h0⟩ | 1 => ⟨(y 1).val * 16 + (y 2).val, by show _ < 4608; omega⟩
  refine (shapeCast_apply (parts (F := Ideal) (eOf m d) (aOf m d) (nOf m d)) shapeCasts_S32x4608_S32x288x16 y k ?_).trans ?_
  · refine (rank2 (a := 32) (b := 4608) k).trans ((rank3 (a := 32) (b := 288) (c := 16) y).trans ?_).symm
    show ((y 0).val * 288 + (y 1).val) * 16 + (y 2).val = (y 0).val * 4608 + ((y 1).val * 16 + (y 2).val)
    omega
  · rw [parts_apply hs]
    show num (tileCell _ _ _ (((y 1).val * 16 + (y 2).val) / 16) (((y 1).val * 16 + (y 2).val) % 16)) = _
    rw [show ((y 1).val * 16 + (y 2).val) / 16 = (y 1).val by omega, show ((y 1).val * 16 + (y 2).val) % 16 = (y 2).val by omega]

/-- A row of the histogram, of all the tiles and lanes. -/
def rowSum (r : ℕ) : ℕ := ∑ w ∈ Finset.range 32, ∑ l ∈ Finset.range 16, tileCell (tn (nM m d) w) (ta (aM m d) w) (te (eM m d) w) r l

include hs in
theorem pay2_apply (j : S288.Idx) : k1_pay2 (pOf m d) j = num (rowSum m d (j 0).val) := by
  unfold k1_pay2
  simp only
  rw [shapeCast_self]
  refine (Ideal.multiReduction_add_single _ _ reduces_S288x16_S288 _ _ j).trans ?_
  unfold rowSum
  rw [Finset.sum_comm, num_sum, Finset.sum_range]
  refine Finset.sum_congr rfl fun l _ => ?_
  refine (Ideal.multiReduction_add_single _ _ reduces_S32x288x16_S288x16 _ _ _).trans ?_
  rw [num_sum, Finset.sum_range]
  refine Finset.sum_congr rfl fun w _ => ?_
  rw [pOf_apply m d hs]
  rfl

theorem rowSum_cell {r : ℕ} (hr : ¬ (82 ≤ r ∧ r < 86)) :
    rowSum m d r = ∑ w ∈ Finset.range 32, ∑ l ∈ Finset.range 16, cell (tn (nM m d) w) (ta (aM m d) w) (te (eM m d) w) r l :=
  Finset.sum_congr rfl fun _ _ => Finset.sum_congr rfl fun _ _ => if_neg hr

theorem rowSum_sizes {r : ℕ} (hr : r < 65) : rowSum m d r = sizes (nM m d) r := by
  rw [rowSum_cell m d (by omega)]; exact sum_cell_sizes _ _ _ hr

include hs in
theorem rowSum_nodes {t : ℕ} (ht : t < 16) : rowSum m d (65 + t) = nodes (nM m d) (aM m d) t := by
  rw [rowSum_cell m d (by omega)]; exact sum_cell_nodes _ _ _ (nG_lt hs) ht

include hs in
theorem rowSum_vals (v : ℕ) : rowSum m d (86 + v) = vals (nM m d) (eM m d) v := by
  rw [rowSum_cell m d (by omega)]; exact sum_cell_vals _ _ _ (nG_lt hs) (aG_lt hs)

include hs in
theorem rowSum_edges {t : ℕ} (h0 : 1 ≤ t) (ht : t < 5) : rowSum m d (81 + t) = edges (nM m d) (eM m d) t := by
  rw [← sum_edgeCell (nM m d) (eM m d) (nG_lt hs) t]
  refine Finset.sum_congr rfl fun _ _ => Finset.sum_congr rfl fun _ _ => ?_
  unfold tileCell
  rw [if_pos (by omega), show 81 + t - 81 = t by omega]

end Sum

end Cert.KernelIdeal.Tile
-- ==== Proof.Norm.lean ====
/- A vector divided by its sum, and the mean absolute difference of two vectors, over the reals with infinities: as the
   finishing call computes them, and as the reference does. -/
module

public import proofs.«01_k».proof.Proof.Total
public import Idealize.ShloMosaic.Lib.IdealHost

@[expose] public section

noncomputable section

namespace Cert.Norm

open Idealize.ShloMosaic Cert.Words

/-- A vector divided by its sum. -/
def norm {s : Shape} (v : s.Idx → EReal) : s.Idx → EReal := fun x => Ideal.div (v x) (∑ i, v i)
/-- The sum of the absolute differences, divided by `c`. -/
def mae {s : Shape} (c : EReal) (v w : s.Idx → EReal) : EReal := Ideal.div (∑ i, max (v i - w i) (-(v i - w i))) c

/-- A sum over the indices of a vector. -/
theorem sum_idx1 {M : Type} [AddCommMonoid M] {N : ℕ} (g : ℕ → M) : ∑ x : (⟨1, ![N]⟩ : Shape).Idx, g (x 0).val = ∑ r ∈ Finset.range N, g r := by
  rw [Finset.sum_range]
  refine Fintype.sum_bijective (fun x : (⟨1, ![N]⟩ : Shape).Idx => (x 0 : Fin N)) ⟨fun x y h => funext fun a => ?_, fun k => ⟨fun a => ⟨k.val, by rw [Fin.eq_zero a]; exact k.isLt⟩, rfl⟩⟩ _ _ fun _ => rfl
  rw [Fin.eq_zero a]; exact h

/-- A sum over a shape is one over any shape it is cast to. -/
theorem sum_cast {M : Type} [AddCommMonoid M] {s t : Shape} (h : s.ShapeCasts t) (v : s.Idx → M) : ∑ j, shapeCast t v h j = ∑ i, v i :=
  Equiv.sum_comp (Shape.reshapeEquiv _) v

/-! ## As the finishing call computes them -/

section Tc

variable {N : ℕ} (h1 : (⟨1, ![N]⟩ : Shape).ShapeCasts ⟨2, ![1, N]⟩) (h2 : (⟨2, ![1, N]⟩ : Shape).Reduces [1] ⟨1, ![1]⟩)
variable (h3 : (⟨1, ![1]⟩ : Shape).ShapeCasts ⟨2, ![1, 1]⟩) (h4 : ∀ a : Fin 2, (![0, 0] : Fin 2 → ℕ) a < (⟨2, ![1, 1]⟩ : Shape).size a)
variable (hφ : FKind.Formats FTy.f32) (hacc : 0x00000000#32 = FKind.add.neutral FTy.f32 hφ)

theorem tc_sum (v : FVec Ideal ⟨1, ![N]⟩ .f32) :
    extractAt ![0, 0] (shapeCast ⟨2, ![1, 1]⟩ (multiReduction .add [1] ⟨1, ![1]⟩ (shapeCast ⟨2, ![1, N]⟩ v h1) 0x00000000#32 h2 hφ hacc) h3) h4 = ∑ i, v i :=
  (Ideal.multiReduction_add_total _ _ h2 (fun b => by rw [Fin.eq_zero b]; rfl) hφ hacc _).trans (sum_cast h1 v)

theorem tc_norm (v : FVec Ideal ⟨1, ![N]⟩ .f32) :
    divf v (broadcast ⟨1, ![N]⟩ (extractAt ![0, 0] (shapeCast ⟨2, ![1, 1]⟩ (multiReduction .add [1] ⟨1, ![1]⟩ (shapeCast ⟨2, ![1, N]⟩ v h1) 0x00000000#32 h2 hφ hacc) h3) h4)) = norm v := by
  rw [tc_sum]; rfl

theorem tc_mae (c : BitVec 32) (v w : FVec Ideal ⟨1, ![N]⟩ .f32) :
    Scalar.divf (extractAt ![0, 0] (shapeCast ⟨2, ![1, 1]⟩ (multiReduction .add [1] ⟨1, ![1]⟩ (shapeCast ⟨2, ![1, N]⟩ (absf (subf v w)) h1) 0x00000000#32 h2 hφ hacc) h3) h4)
      (Scalar.ofBits (F := Ideal) .f32 c) = mae (Ideal.ofBits .f32 c) v w := by
  rw [tc_sum]; rfl

end Tc

/-! ## As the reference computes them -/

section Host

variable {N : ℕ} (hb : (⟨0, ![]⟩ : Shape).BroadcastsInDim ⟨1, ![N]⟩ ![]) (hb1 : (⟨0, ![]⟩ : Shape).BroadcastsInDim ⟨1, ![1]⟩ ![])
variable (hr : (⟨1, ![N]⟩ : Shape).ReducesTo [0] ⟨0, ![]⟩) (hu : 0 < (⟨0, ![]⟩ : Shape).numel)

theorem host_sum (v : FVec Ideal ⟨1, ![N]⟩ .f32) (j : (⟨0, ![]⟩ : Shape).Idx) :
    Host.reduceAdd v (constant (F := Ideal) ⟨0, ![]⟩ .f32 0x00000000#32) hr hu j = ∑ i, v i := by
  refine (Ideal.hostReduceAdd_total hr (fun b => b.elim0) v _ j).trans ?_
  show Ideal.ofBits .f32 0x00000000#32 + _ = _
  rw [bits_zero, zero_add]

theorem host_norm (v : FVec Ideal ⟨1, ![N]⟩ .f32) :
    Host.divf v (broadcastInDim ⟨1, ![N]⟩ ![] hb (Host.reduceAdd v (constant (F := Ideal) ⟨0, ![]⟩ .f32 0x00000000#32) hr hu)) = norm v :=
  funext fun x => congrArg (Ideal.div (v x)) (host_sum hr hu v _)

theorem host_mae (c : BitVec 32) (v w : FVec Ideal ⟨1, ![N]⟩ .f32) :
    broadcastInDim ⟨1, ![1]⟩ ![] hb1 (Host.divf (Host.reduceAdd (Host.absf (subf v w)) (constant (F := Ideal) ⟨0, ![]⟩ .f32 0x00000000#32) hr hu) (constant (F := Ideal) ⟨0, ![]⟩ .f32 c))
      = fun _ => mae (Ideal.ofBits .f32 c) v w :=
  funext fun x => congrArg (Ideal.div · (Ideal.ofBits .f32 c)) (host_sum hr hu _ _)

end Host

/-- Four numbers as a vector. -/
theorem cat4 {α : Type} {t : Shape} (a : Fin t.rank) (x0 x1 x2 x3 y0 y1 y2 y3 : (⟨1, ![1]⟩ : Shape).Idx → α) (h h') (e0 : x0 = y0) (e1 : x1 = y1) (e2 : x2 = y2) (e3 : x3 = y3) :
    concatenate t a [⟨⟨1, ![1]⟩, x0⟩, ⟨⟨1, ![1]⟩, x1⟩, ⟨⟨1, ![1]⟩, x2⟩, ⟨⟨1, ![1]⟩, x3⟩] h = concatenate t a [⟨⟨1, ![1]⟩, y0⟩, ⟨⟨1, ![1]⟩, y1⟩, ⟨⟨1, ![1]⟩, y2⟩, ⟨⟨1, ![1]⟩, y3⟩] h' := by
  subst e0 e1 e2 e3; rfl

/-- Five numbers as a vector, at an index. -/
theorem cat5 (z : ℕ → EReal) (x0 x1 x2 x3 x4 : (⟨1, ![1]⟩ : Shape).Idx → EReal) (h) (x : (⟨1, ![5]⟩ : Shape).Idx)
    (e0 : x0 = fun _ => z 0) (e1 : x1 = fun _ => z 1) (e2 : x2 = fun _ => z 2) (e3 : x3 = fun _ => z 3) (e4 : x4 = fun _ => z 4) :
    concatenate (⟨1, ![5]⟩ : Shape) 0 [⟨(⟨1, ![1]⟩ : Shape), x0⟩, ⟨⟨1, ![1]⟩, x1⟩, ⟨⟨1, ![1]⟩, x2⟩, ⟨⟨1, ![1]⟩, x3⟩, ⟨⟨1, ![1]⟩, x4⟩] h x = z (x 0).val := by
  subst e0 e1 e2 e3 e4
  exact concatenate_ofFn_unit_apply (t := ⟨1, ![5]⟩) (s₁ := ⟨1, ![1]⟩) 0 (N := 5) (fun n _ => z n.val) h rfl rfl x (x 0) rfl (fun a => ⟨0, by rw [Fin.eq_zero a]; exact Nat.one_pos⟩)
    fun b hb => absurd (Fin.eq_zero _) hb

end Cert.Norm
-- ==== Proof.Hist.lean ====
/- The reference's histograms: a scatter that adds up the updates at the words' positions is a count, and the words and
   masks that it scatters, read at an index. -/
module

public import proofs.«01_k».proof.Proof.Norm
public import Idealize.ShloMosaic.Lib.Routing.Ops
public import Idealize.ShloMosaic.Lib.Routing.OpsPair

@[expose] public section

noncomputable section

namespace Cert.Hist

open Idealize.ShloMosaic hiding ix1 ix2 ix3 eq_ix1 eq_ix2 eq_ix3 sum_idx2
open Idealize.ShloMosaic.ValueIdx Idealize.ShloMosaic.Routing Cert.Words Cert.Norm

/-! ## Bits -/

/-- A proposition as a bit. -/
def bit (p : Prop) [Decidable p] : BitVec 1 := if p then 1#1 else 0#1

theorem bit_toNat (p : Prop) [Decidable p] : (bit p).toNat = if p then 1 else 0 := by unfold bit; split <;> rfl
theorem bit_and (p q : Prop) [Decidable p] [Decidable q] : IntOp.andi (bit p) (bit q) = bit (p ∧ q) := by
  unfold bit; by_cases hp : p <;> by_cases hq : q <;> simp [hp, hq, IntOp.andi]
theorem bit_congr {p q : Prop} [Decidable p] [Decidable q] (h : p ↔ q) : bit p = bit q := if_congr h rfl rfl

theorem bit_slt {x y : BitVec 32} (hx : x.toNat < 2 ^ 31) (hy : y.toNat < 2 ^ 31) : IntOp.cmpi .slt x y = bit (x.toNat < y.toNat) := by
  have h := StableHlo.Predicate.slt_iff_toNat hx hy
  unfold bit
  split
  · next hlt => exact h.2 hlt
  · next hlt => exact eq_zero_of_ne_one fun e => hlt (h.1 e)

theorem maxsi_zero {v : BitVec 32} (h : v.toNat < 2 ^ 31) : IntOp.maxsi 0#32 v = v := by
  unfold IntOp.maxsi
  rw [if_neg]
  rw [BitVec.slt, toInt_small h]
  simp

theorem uitofp_num {w : ℕ} (v : BitVec w) : FloatOps.uitofp (F := Ideal) .f32 v = num v.toNat := rfl

/-! ## Sums over the indices of a matrix and of a block -/

theorem sum_grid2 {M : Type} [AddCommMonoid M] {a b : ℕ} (g : ℕ → ℕ → M) :
    ∑ x : (⟨2, ![a, b]⟩ : Shape).Idx, g (x 0).val (x 1).val = ∑ i ∈ Finset.range a, ∑ j ∈ Finset.range b, g i j := by
  rw [sum_idx2, Finset.sum_range]
  refine Finset.sum_congr rfl fun i _ => ?_
  rw [Finset.sum_range]
  rfl

/-- The indices of a block are triples of coordinates. -/
def triples {a b c : ℕ} : (⟨3, ![a, b, c]⟩ : Shape).Idx ≃ Fin a × Fin b × Fin c where
  toFun x := (x 0, x 1, x 2)
  invFun p := ix3 p.1 p.2.1 p.2.2
  left_inv x := (eq_ix3 x).symm
  right_inv _ := rfl

theorem sum_grid3 {M : Type} [AddCommMonoid M] {a b c : ℕ} (g : ℕ → ℕ → ℕ → M) :
    ∑ x : (⟨3, ![a, b, c]⟩ : Shape).Idx, g (x 0).val (x 1).val (x 2).val = ∑ i ∈ Finset.range a, ∑ j ∈ Finset.range b, ∑ k ∈ Finset.range c, g i j k := by
  rw [← Equiv.sum_comp (triples (a := a) (b := b) (c := c)).symm, Fintype.sum_prod_type, Finset.sum_range]
  refine Finset.sum_congr rfl fun i _ => ?_
  rw [Fintype.sum_prod_type, Finset.sum_range]
  refine Finset.sum_congr rfl fun j _ => ?_
  rw [Finset.sum_range]
  rfl

/-! ## The scatters -/

section Scatter

variable {K U : ℕ} (d : ScatterDims (shape1 K) (shape2 U 1) (shape1 U)) (hiw : d.insertedWindowDims = [0])
variable (hsd : d.scatterDimsToOperandDims = [0]) (hiv : d.indexVectorDim = 1)

include hiw hsd hiv in
/-- An update lands where its word says. -/
theorem lands (idx : IVec (shape2 U 1) 32) (k : (shape1 U).Idx) (x : (shape1 K).Idx) :
    d.resultIdx? k idx = some x ↔ (idx (ix2 (k 0) (0 : Fin 1))).toInt = ((x 0).val : ℤ) := by
  have hm : (0 : Fin 1) ∈ d.scatterDimsToOperandDims := by rw [hsd]; exact List.mem_singleton.2 rfl
  have hw : d.window k 0 = 0 := dif_neg fun h => (of_decide_eq_true (List.mem_filter.1 h).2) (by rw [hiw]; exact List.mem_singleton.2 rfl)
  have hi : d.siIdx k ⟨d.scatterDimsToOperandDims.idxOf 0, List.idxOf_lt_length_iff.2 hm⟩ = ix2 (k 0) (0 : Fin 1) := by
    refine funext fun c => Fin.ext ?_
    match c with
    | ⟨0, _⟩ =>
      unfold ScatterDims.siIdx
      rw [dif_neg (by rw [hiv]; exact Nat.zero_ne_one)]
      unfold ScatterDims.siCoord
      exact congrArg (fun q : Fin 1 => (k q).val) (Fin.eq_zero _)
    | ⟨1, _⟩ =>
      unfold ScatterDims.siIdx
      rw [dif_pos hiv.symm]
      show d.scatterDimsToOperandDims.idxOf 0 = 0
      rw [hsd]; rfl
  have hst : d.start k idx 0 = (idx (ix2 (k 0) (0 : Fin 1))).toInt := by
    unfold ScatterDims.start
    rw [dif_pos hm, hi]; rfl
  rw [resultIdx?_eq_some]
  constructor
  · intro h
    have := h 0
    rw [hw, hst] at this
    simpa using this
  · intro h a
    obtain rfl : a = 0 := Fin.eq_zero a
    rw [hw, hst, h]
    exact add_zero _

/-- The words that the scatter reads, from the words `v`: those below zero would wrap around. -/
abbrev wrapped (h0 : shape0.BroadcastsInDim (shape1 U) ![]) (h1 : (shape1 U).BroadcastsInDim (shape2 U 1) (![0] : Fin 1 → Fin (shape2 U 1).rank)) (c : BitVec 32)
    (v : IVec (shape1 U) 32) : IVec (shape2 U 1) 32 :=
  broadcastInDim (shape2 U 1) ![0] h1 (select (cmpi .slt (maxsi (broadcastInDim (shape1 U) ![] h0 (id (constantI shape0 32 0#32))) v) (broadcastInDim (shape1 U) ![] h0 (constantI shape0 32 0#32)))
    (addi (maxsi (broadcastInDim (shape1 U) ![] h0 (id (constantI shape0 32 0#32))) v) (broadcastInDim (shape1 U) ![] h0 (constantI shape0 32 c)))
    (maxsi (broadcastInDim (shape1 U) ![] h0 (id (constantI shape0 32 0#32))) v))

theorem wrapped_apply (h0 : shape0.BroadcastsInDim (shape1 U) ![]) (h1 : (shape1 U).BroadcastsInDim (shape2 U 1) (![0] : Fin 1 → Fin (shape2 U 1).rank)) (c : BitVec 32)
    (v : IVec (shape1 U) 32) (k : (shape1 U).Idx) (hv : (v k).toNat < 2 ^ 31) : wrapped h0 h1 c v (ix2 (k 0) (0 : Fin 1)) = v k := by
  refine (bcCol h1 _ (k 0)).trans ((congrArg _ (eq_ix1 k).symm).trans ?_)
  show Scalar.select (IntOp.cmpi .slt (IntOp.maxsi 0#32 (v k)) 0#32) _ (IntOp.maxsi 0#32 (v k)) = _
  rw [maxsi_zero hv]
  exact wrap_of_lt _ _ hv

include hiw hsd hiv in
theorem lands_wrapped (h0 : shape0.BroadcastsInDim (shape1 U) ![]) (h1 : (shape1 U).BroadcastsInDim (shape2 U 1) (![0] : Fin 1 → Fin (shape2 U 1).rank)) (c : BitVec 32)
    (v : IVec (shape1 U) 32) (hv : ∀ k, (v k).toNat < 2 ^ 31) (k : (shape1 U).Idx) (x : (shape1 K).Idx) : d.resultIdx? k (wrapped h0 h1 c v) = some x ↔ (v k).toNat = (x 0).val := by
  rw [lands d hiw hsd hiv, wrapped_apply h0 h1 c v k (hv k), toInt_small (hv k)]
  exact Int.ofNat_inj

include hiw hsd hiv in
/-- The bits of the mask, added up at the words' positions. -/
theorem scatter_bits (hz : shape0.BroadcastsInDim (shape1 K) ![]) (h0 : shape0.BroadcastsInDim (shape1 U) ![]) (h1 : (shape1 U).BroadcastsInDim (shape2 U 1) (![0] : Fin 1 → Fin (shape2 U 1).rank)) (c : BitVec 32)
    (v : IVec (shape1 U) 32) (hv : ∀ k, (v k).toNat < 2 ^ 31) (msk : IVec (shape1 U) 1) (x : (shape1 K).Idx) :
    Host.scatterAdd (F := Ideal) d (broadcastInDim (shape1 K) ![] hz (constant shape0 .f32 0x00000000#32)) (wrapped h0 h1 c v) (uitofp .f32 msk) x
      = num (∑ k, if (v k).toNat = (x 0).val then (msk k).toNat else 0) := by
  show Ideal.ofBits .f32 0x00000000#32 + ∑ k ∈ Finset.univ.filter (fun k => d.resultIdx? k (wrapped h0 h1 c v) = some x), num (msk k).toNat = _
  rw [bits_zero, zero_add, num_sum, Finset.sum_filter]
  refine Finset.sum_congr rfl fun k _ => ?_
  by_cases h : (v k).toNat = (x 0).val
  · rw [if_pos ((lands_wrapped d hiw hsd hiv h0 h1 c v hv k x).2 h), if_pos h]
  · rw [if_neg fun e => h ((lands_wrapped d hiw hsd hiv h0 h1 c v hv k x).1 e), if_neg h, num_zero]

theorem foldl_ones {ι : Type} (p : ι → Prop) [DecidablePred p] : ∀ (l : List ι) (k : ℕ),
    l.foldl (fun a n => if p n then IntOp.addi a 1#32 else a) (BitVec.ofNat 32 k) = BitVec.ofNat 32 (k + (l.map fun n => if p n then 1 else 0).sum)
  | [], k => by simp
  | n :: l, k => by
    rw [List.foldl_cons, List.map_cons, List.sum_cons, ← Nat.add_assoc]
    by_cases h : p n
    · rw [if_pos h, if_pos h, show IntOp.addi (BitVec.ofNat 32 k) 1#32 = BitVec.ofNat 32 (k + 1) from (BitVec.ofNat_add k 1).symm]
      exact foldl_ones p l (k + 1)
    · rw [if_neg h, if_neg h]
      exact foldl_ones p l k

include hiw hsd hiv in
/-- Ones, added up at the words' positions. -/
theorem scatter_ones (hz : shape0.BroadcastsInDim (shape1 K) ![]) (h0 : shape0.BroadcastsInDim (shape1 U) ![]) (h1 : (shape1 U).BroadcastsInDim (shape2 U 1) (![0] : Fin 1 → Fin (shape2 U 1).rank)) (c : BitVec 32)
    (v : IVec (shape1 U) 32) (hv : ∀ k, (v k).toNat < 2 ^ 31) (x : (shape1 K).Idx) :
    Host.scatter d IntOp.addi (broadcastInDim (shape1 K) ![] hz (constantI shape0 32 0#32)) (wrapped h0 h1 c v) (broadcastInDim (shape1 U) ![] h0 (constantI shape0 32 1#32)) x
      = BitVec.ofNat 32 (∑ k, if (v k).toNat = (x 0).val then 1 else 0) := by
  refine (scatter_at d _ _ _ _ x).trans ?_
  refine (foldl_ones (fun n => d.resultIdx? ((shape1 U).rowMajor.symm n) (wrapped h0 h1 c v) = some x) _ 0).trans ?_
  rw [Nat.zero_add, ← Fin.sum_univ_def, Equiv.sum_comp (shape1 U).rowMajor.symm fun k => if d.resultIdx? k (wrapped h0 h1 c v) = some x then 1 else 0]
  refine congrArg _ (Finset.sum_congr rfl fun k _ => ?_)
  exact if_congr (lands_wrapped d hiw hsd hiv h0 h1 c v hv k x) rfl rfl

end Scatter

end Cert.Hist
-- ==== Proof.Results.lean ====
/- The five results of the kernel as functions of the numbers of molecules, atoms and bonds that the rows count. -/
module

public import proofs.«01_k».proof.Proof.Norm

@[expose] public section

noncomputable section

namespace Cert.KernelIdeal.Tile

open Cert.KernelIdeal Cert.KernelIdeal.Gen Idealize.ShloMosaic Idealize.SL.Sem Cert.Count Cert.Words Cert.Norm

/-- A vector of numbers. -/
abbrev nums (N : ℕ) (g : ℕ → ℕ) : (⟨1, ![N]⟩ : Shape).Idx → EReal := fun x => num (g (x 0).val)

/-- The mean absolute differences of four normalised vectors. -/
def maes (v0 w0 : S65.Idx → EReal) (v1 w1 : S16.Idx → EReal) (v2 w2 : S5.Idx → EReal) (v3 w3 : S190.Idx → EReal) : S4.Idx → EReal :=
  concatenate S4 0 [⟨S1, fun _ => mae (Ideal.ofBits .f32 0x42820000#32) (norm v0) (norm w0)⟩, ⟨S1, fun _ => mae (Ideal.ofBits .f32 0x41800000#32) (norm v1) (norm w1)⟩,
    ⟨S1, fun _ => mae (Ideal.ofBits .f32 0x40A00000#32) (norm v2) (norm w2)⟩, ⟨S1, fun _ => mae (Ideal.ofBits .f32 0x433E0000#32) (norm v3) (norm w3)⟩] concatenates_S1_S1_S1_S1_S4_d0

section

variable (m : (ℓ : Loc nD τ sig) → Buf (Elt Ideal) ℓ) (d : Dev nD) (hs : Small (eOf m d) (aOf m d) (nOf m d))

include hs in
theorem pay3_eq : k1_pay3 (pOf m d) = nums 65 (sizes (nM m d)) := funext fun x => by
  have hx : (x 0).val < 65 := (x 0).isLt
  unfold k1_pay3
  refine (extractStridedSlice_apply (s := S288) (t := S65) ![0] _ _ x (fun a => ⟨(x 0).val, by rw [Fin.eq_zero a]; show _ < 288; omega⟩) (fun a => by
    rw [Fin.eq_zero a]; show (x 0).val = 0 + (x 0).val; omega)).trans ?_
  rw [pay2_apply m d hs]
  exact congrArg num (rowSum_sizes m d hx)

include hs in
theorem pay4_eq : k1_pay4 (pOf m d) = nums 190 (vals (nM m d) (eM m d)) := funext fun x => by
  have hx : (x 0).val < 190 := (x 0).isLt
  unfold k1_pay4
  refine (extractStridedSlice_apply (s := S288) (t := S190) ![86] _ _ x (fun a => ⟨86 + (x 0).val, by rw [Fin.eq_zero a]; show _ < 288; omega⟩) (fun a => by
    rw [Fin.eq_zero a]; rfl)).trans ?_
  rw [pay2_apply m d hs]
  exact congrArg num (rowSum_vals m d hs _)

include hs in
theorem slice16_eq : extractStridedSlice S16 ![65] (k1_pay2 (pOf m d)) slices_S288_o65_S16 = nums 16 (nodes (nM m d) (aM m d)) := funext fun x => by
  have hx : (x 0).val < 16 := (x 0).isLt
  refine (extractStridedSlice_apply (s := S288) (t := S16) ![65] _ _ x (fun a => ⟨65 + (x 0).val, by rw [Fin.eq_zero a]; show _ < 288; omega⟩) (fun a => by
    rw [Fin.eq_zero a]; rfl)).trans ?_
  rw [pay2_apply m d hs]
  exact congrArg num (rowSum_nodes m d hs hx)

include hs in
/-- The number of bonds of type `t`, of its row. -/
theorem edge_row (t : ℕ) (h0 : 1 ≤ t) (ht : t < 5) (o : ℕ) (ho : o = 81 + t) (h : S288.Slices ![o] S1) (hp) :
    extractAt ![0] (extractStridedSlice S1 ![o] (k1_pay2 (pOf m d)) h) hp = num (edges (nM m d) (eM m d) t) := by
  subst ho
  unfold extractAt
  refine (extractStridedSlice_apply (s := S288) (t := S1) ![81 + t] _ _ _ (fun a => ⟨81 + t, by rw [Fin.eq_zero a]; show _ < 288; omega⟩) (fun a => by
    rw [Fin.eq_zero a]; rfl)).trans ?_
  rw [pay2_apply m d hs]
  exact congrArg num (rowSum_edges m d hs h0 ht)

/-- A molecule size's share of the pairs. -/
theorem share (s r : ℕ) : num s * ((r : ℝ) : EReal) * (((r : ℝ) : EReal) - 1) * ((1 / 2 : ℝ) : EReal) = half (s * (r * (r - 1))) := by
  unfold num half
  rw [show (1 : EReal) = ((1 : ℝ) : EReal) from rfl, ← EReal.coe_sub, ← EReal.coe_mul, ← EReal.coe_mul, ← EReal.coe_mul]
  refine congrArg _ ?_
  rcases r with _ | r
  · simp
  · push_cast [Nat.add_sub_cancel]
    ring

include hs in
theorem pay5_eq : k1_pay5 (pOf m d) = nums 5 (edges (nM m d) (eM m d)) := by
  have hp : ∀ (h : S65.ShapeCasts S1x65), (mulf (mulf (mulf (shapeCast S1x65 (k1_pay3 (pOf m d)) h) (sitofp .f32 (iota .tc S1x65 32 [1] iota_S1x65_d1_w32)))
      (subf (sitofp .f32 (iota .tc S1x65 32 [1] iota_S1x65_d1_w32)) (broadcast S1x65 (Scalar.ofBits (F := Ideal) .f32 0x3F800000#32))))
      (broadcast S1x65 (Scalar.ofBits (F := Ideal) .f32 0x3F000000#32)) : FVec Ideal S1x65 .f32)
      = shapeCast S1x65 (fun x : S65.Idx => half (sizes (nM m d) (x 0).val * ((x 0).val * ((x 0).val - 1)))) h := fun h => funext fun y => by
    have hy : (y 1).val < 65 := (y 1).isLt
    have hi : ((iota .tc S1x65 32 [1] iota_S1x65_d1_w32 y).toInt : ℝ) = ((y 1).val : ℝ) := by
      have e : iota .tc S1x65 32 [1] iota_S1x65_d1_w32 y = BitVec.ofNat 32 (y 1).val := by
        show BitVec.ofNat 32 (0 * 65 + (y 1).val) = _
        rw [Nat.zero_mul, Nat.zero_add]
      rw [e, toInt_small (by rw [BitVec.toNat_ofNat]; omega), BitVec.toNat_ofNat, Nat.mod_eq_of_lt (by omega)]
      simp
    rw [shapeCast_addUnit_apply, ← share]
    show shapeCast S1x65 (k1_pay3 (pOf m d)) h y * (((iota .tc S1x65 32 [1] iota_S1x65_d1_w32 y).toInt : ℝ) : EReal)
      * ((((iota .tc S1x65 32 [1] iota_S1x65_d1_w32 y).toInt : ℝ) : EReal) - Ideal.ofBits .f32 0x3F800000#32) * Ideal.ofBits .f32 0x3F000000#32 = _
    rw [hi, shapeCast_addUnit_apply, pay3_eq m d hs, bits_half, Ideal.ofBits_one_f32]
    rfl
  have hs0 : ∀ (h1 : S1x65.ShapeCasts S1x1x65) (h : S65.ShapeCasts S1x65) (h2 : S1x1x65.Reduces [1, 2] S1) (hφ) (hacc) (h3 : S1.ShapeCasts S1x1x1) (h4),
      extractAt ![0, 0, 0] (shapeCast S1x1x1 (multiReduction (F := Ideal) (φ := .f32) .add [1, 2] S1 (shapeCast S1x1x65 (shapeCast S1x65 (fun x : S65.Idx => half (sizes (nM m d) (x 0).val * ((x 0).val * ((x 0).val - 1)))) h) h1)
        0x00000000#32 h2 hφ hacc) h3) h4 = num (∑ t ∈ Finset.range 5, edges (nM m d) (eM m d) t) := fun h1 h h2 hφ hacc h3 h4 => by
    refine (Ideal.multiReduction_add_total _ _ h2 (fun b => by rw [Fin.eq_zero b]; rfl) hφ hacc _).trans ?_
    rw [sum_cast, sum_cast, sum_idx1 (fun r => half (sizes (nM m d) r * (r * (r - 1)))), ← half_sum, sum_pairs _ _ (nG_lt hs) (eG_lt hs)]
    unfold half num
    refine congrArg _ ?_
    push_cast
    ring
  unfold k1_pay5
  simp only
  rw [hp]
  have h0 : Scalar.subf (F := Ideal) (φ := .f32) (Scalar.subf (Scalar.subf (Scalar.subf (num (∑ t ∈ Finset.range 5, edges (nM m d) (eM m d) t)) (num (edges (nM m d) (eM m d) 1))) (num (edges (nM m d) (eM m d) 2)))
      (num (edges (nM m d) (eM m d) 3))) (num (edges (nM m d) (eM m d) 4)) = num (edges (nM m d) (eM m d) 0) := by
    show (((num (∑ t ∈ Finset.range 5, edges (nM m d) (eM m d) t) - num (edges (nM m d) (eM m d) 1)) - num (edges (nM m d) (eM m d) 2)) - num (edges (nM m d) (eM m d) 3)) - num (edges (nM m d) (eM m d) 4) = _
    unfold num
    rw [← EReal.coe_sub, ← EReal.coe_sub, ← EReal.coe_sub, ← EReal.coe_sub]
    refine congrArg _ ?_
    simp only [Finset.sum_range_succ, Finset.sum_range_zero]
    push_cast
    ring
  have r1 := edge_row m d hs 1 (by decide) (by decide) 82 rfl slices_S288_o82_S1 inpos_S1_p0
  have r2 := edge_row m d hs 2 (by decide) (by decide) 83 rfl slices_S288_o83_S1 inpos_S1_p0
  have r3 := edge_row m d hs 3 (by decide) (by decide) 84 rfl slices_S288_o84_S1 inpos_S1_p0
  have r4 := edge_row m d hs 4 (by decide) (by decide) 85 rfl slices_S288_o85_S1 inpos_S1_p0
  exact funext fun x => cat5 (fun t => num (edges (nM m d) (eM m d) t)) _ _ _ _ _ _ x
    (congrArg (broadcast S1) ((congrArg₂ Scalar.subf (congrArg₂ Scalar.subf (congrArg₂ Scalar.subf (congrArg₂ Scalar.subf (hs0 _ _ _ _ _ _ _) r1) r2) r3) r4).trans h0))
    (congrArg (broadcast S1) r1) (congrArg (broadcast S1) r2) (congrArg (broadcast S1) r3) (congrArg (broadcast S1) r4)

include hs in
theorem fin0_eq : fin0 (pOf m d) = norm (nums 65 (sizes (nM m d))) := by
  unfold fin0 k1_pay6; simp only; rw [pay3_eq m d hs]; exact tc_norm ..
include hs in
theorem fin1_eq : fin1 (pOf m d) = norm (nums 16 (nodes (nM m d) (aM m d))) := by
  unfold fin1 k1_pay7; simp only; rw [slice16_eq m d hs]; exact tc_norm ..
include hs in
theorem fin2_eq : fin2 (pOf m d) = norm (nums 5 (edges (nM m d) (eM m d))) := by
  unfold fin2 k1_pay8; simp only; rw [pay5_eq m d hs]; exact tc_norm ..
include hs in
theorem fin3_eq : fin3 (pOf m d) = norm (nums 190 (vals (nM m d) (eM m d))) := by
  unfold fin3 k1_pay9; simp only; rw [pay4_eq m d hs]; exact tc_norm ..

include hs in
theorem fin4_eq (a3 : S65.Idx → EReal) (a4 : S16.Idx → EReal) (a5 : S5.Idx → EReal) (a6 : S190.Idx → EReal) : fin4 (F := Ideal) (pOf m d) a3 a4 a5 a6
    = maes (nums 65 (sizes (nM m d))) a3 (nums 16 (nodes (nM m d) (aM m d))) a4 (nums 5 (edges (nM m d) (eM m d))) a5 (nums 190 (vals (nM m d) (eM m d))) a6 := by
  unfold fin4 maes
  rw [fin0_eq m d hs, fin1_eq m d hs, fin2_eq m d hs, fin3_eq m d hs]
  have e3 : k1_pay10 (F := Ideal) a3 = norm a3 := by unfold k1_pay10; exact tc_norm ..
  have e4 : k1_pay11 (F := Ideal) a4 = norm a4 := by unfold k1_pay11; exact tc_norm ..
  have e5 : k1_pay12 (F := Ideal) a5 = norm a5 := by unfold k1_pay12; exact tc_norm ..
  have e6 : k1_pay13 (F := Ideal) a6 = norm a6 := by unfold k1_pay13; exact tc_norm ..
  rw [e3, e4, e5, e6]
  unfold k1_pay1
  exact cat4 (t := S4) 0 _ _ _ _ _ _ _ _ _ _ (congrArg (broadcast S1) (tc_mae ..)) (congrArg (broadcast S1) (tc_mae ..)) (congrArg (broadcast S1) (tc_mae ..)) (congrArg (broadcast S1) (tc_mae ..))

end

end Cert.KernelIdeal.Tile
-- ==== Proof.RefCount.lean ====
/- The reference's four histograms are the counts: of the molecule sizes, of the atom types, of the bond types in the
   upper triangle and of the atoms' valencies. -/
module

public import proofs.«01_k».proof.Proof.Hist
public import proofs.«01_k».proof.Proof.Results
public import proofs.«01_k».proof.Proof.Gen.ReferenceIdeal.Run

@[expose] public section

noncomputable section

namespace Cert.ReferenceIdeal.Hist

open Cert.ReferenceIdeal Cert.ReferenceIdeal.Gen Cert.Hist Cert.Words Cert.Norm Cert.Count
open Idealize.ShloMosaic hiding ix1 ix2 ix3 eq_ix1 eq_ix2 eq_ix3 sum_idx2
open Idealize.ShloMosaic.ValueIdx Idealize.ShloMosaic.Routing
open Cert.KernelIdeal.Tile (nums)

/-! ## The terms, by name -/

/-- The atoms that a molecule has. -/
abbrev nodeMask (a2 : IVec S8192 32) : IVec S8192x64 1 :=
  cmpi .slt (broadcastInDim S8192x64 ![0, 1] bcast_S1x64_S8192x64_0_1 (broadcastInDim S1x64 ![1] bcast_S64_S1x64_1 (iotaInDim S64 32 0)))
    (broadcastInDim S8192x64 ![0, 1] bcast_S8192x1_S8192x64_0_1 (broadcastInDim S8192x1 ![0] bcast_S8192_S8192x1_0 a2))
/-- The pairs of atoms of a molecule. -/
abbrev pairMask (a2 : IVec S8192 32) : IVec S8192x64x64 1 :=
  andi (broadcastInDim S8192x64x64 ![0, 1, 2] bcast_S8192x64x1_S8192x64x64_0_1_2 (broadcastInDim S8192x64x1 ![0, 1] bcast_S8192x64_S8192x64x1_0_1 (nodeMask a2)))
    (broadcastInDim S8192x64x64 ![0, 1, 2] bcast_S8192x1x64_S8192x64x64_0_1_2 (broadcastInDim S8192x1x64 ![0, 2] bcast_S8192x64_S8192x1x64_0_2 (nodeMask a2)))
/-- The pairs above the diagonal. -/
abbrev upper : IVec S8192x64x64 1 :=
  broadcastInDim S8192x64x64 ![0, 1, 2] bcast_S1x64x64_S8192x64x64_0_1_2 (broadcastInDim S1x64x64 ![1, 2] bcast_S64x64_S1x64x64_1_2
    (select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 0#1)) (broadcastInDim S64x64 ![] bcast_S_S64x64 (constantI S_ 1 1#1))))
/-- What each pair counts for, and the atoms' valencies, clipped. -/
abbrev weight (a1 : IVec S8192x64x64 32) (a2 : IVec S8192 32) : FVec Ideal S8192x64x64 .f32 :=
  mulf (select (cmpi .eq a1 (broadcastInDim S8192x64x64 ![] bcast_S_S8192x64x64 (constantI S_ 32 4#32))) (broadcastInDim S8192x64x64 ![] bcast_S_S8192x64x64 (constant S_ .f32 0x3FC00000#32)) (sitofp .f32 a1))
    (uitofp .f32 (pairMask a2))
abbrev binWord (a1 : IVec S8192x64x64 32) (a2 : IVec S8192 32) : IVec S8192x64 32 :=
  minsi (broadcastInDim S8192x64 ![] bcast_S_S8192x64 (id (constantI S_ 32 189#32))) (maxsi (broadcastInDim S8192x64 ![] bcast_S_S8192x64 (id (constantI S_ 32 0#32)))
    (fptosi 32 (Host.reduceAdd (weight a1 a2) (constant (F := Ideal) S_ .f32 0x00000000#32) reducesTo_S8192x64x64_S8192x64_d1 h_S_)))

/-- The four histograms. -/
abbrev hist0 (a2 : IVec S8192 32) : FVec Ideal S65 .f32 :=
  sitofp .f32 (Host.scatter scatter_S65_S8192x1_S8192_n_0_0_1 IntOp.addi (broadcastInDim S65 ![] bcast_S_S65 (constantI S_ 32 0#32))
    (wrapped (U := 8192) bcast_S_S8192 bcast_S8192_S8192x1_0 65#32 a2) (broadcastInDim S8192 ![] bcast_S_S8192 (constantI S_ 32 1#32)))
abbrev hist1 (a0 : IVec S8192x64 32) (a2 : IVec S8192 32) : FVec Ideal S16 .f32 :=
  Host.scatterAdd scatter_S16_S524288x1_S524288_n_0_0_1 (broadcastInDim S16 ![] bcast_S_S16 (constant S_ .f32 0x00000000#32))
    (wrapped (U := 524288) bcast_S_S524288 bcast_S524288_S524288x1_0 16#32 (shapeCast _ a0 shapeCasts_S8192x64_S524288)) (uitofp .f32 (shapeCast _ (nodeMask a2) shapeCasts_S8192x64_S524288))
abbrev hist2 (a1 : IVec S8192x64x64 32) (a2 : IVec S8192 32) : FVec Ideal S5 .f32 :=
  Host.scatterAdd scatter_S5_S33554432x1_S33554432_n_0_0_1 (broadcastInDim S5 ![] bcast_S_S5 (constant S_ .f32 0x00000000#32))
    (wrapped (U := 33554432) bcast_S_S33554432 bcast_S33554432_S33554432x1_0 5#32 (shapeCast _ a1 shapeCasts_S8192x64x64_S33554432))
    (uitofp .f32 (shapeCast _ (andi (pairMask a2) upper) shapeCasts_S8192x64x64_S33554432))
abbrev hist3 (a1 : IVec S8192x64x64 32) (a2 : IVec S8192 32) : FVec Ideal S190 .f32 :=
  Host.scatterAdd scatter_S190_S524288x1_S524288_n_0_0_1 (broadcastInDim S190 ![] bcast_S_S190 (constant S_ .f32 0x00000000#32))
    (wrapped (U := 524288) bcast_S_S524288 bcast_S524288_S524288x1_0 190#32 (shapeCast _ (binWord a1 a2) shapeCasts_S8192x64_S524288)) (uitofp .f32 (shapeCast _ (nodeMask a2) shapeCasts_S8192x64_S524288))

/-! ## The masks -/

section Data

variable (a0 : IVec S8192x64 32) (a1 : IVec S8192x64x64 32) (a2 : IVec S8192 32) (n : ℕ → ℕ) (a : ℕ → ℕ → ℕ) (e : ℕ → ℕ → ℕ → ℕ)
variable (hn : ∀ x : S8192.Idx, (a2 x).toNat = n (x 0).val) (ha : ∀ x : S8192x64.Idx, (a0 x).toNat = a (x 0).val (x 1).val)
variable (he : ∀ x : S8192x64x64.Idx, (a1 x).toNat = e (x 0).val (x 1).val (x 2).val)
variable (bn : ∀ b, n b < 65) (ba : ∀ b j, a b j < 16) (be : ∀ b i j, e b i j < 5)

include hn bn in
theorem nodeMask_ix2 (p : Fin 8192) (q : Fin 64) : nodeMask a2 (ix2 p q) = bit (q.val < n p.val) := by
  have h1 := bcCols bcast_S64_S1x64_1 bcast_S1x64_S8192x64_0_1 (iotaInDim S64 32 0) p q
  have h2 := bcRows bcast_S8192_S8192x1_0 bcast_S8192x1_S8192x64_0_1 a2 p q
  refine (congrArg₂ (IntOp.cmpi .slt) h1 h2).trans ?_
  have hq : (BitVec.ofNat 32 q.val).toNat = q.val := by rw [BitVec.toNat_ofNat]; have := q.isLt; omega
  have hp : (a2 (ix1 p)).toNat = n p.val := hn _
  have := bn p.val
  have := q.isLt
  show IntOp.cmpi .slt (BitVec.ofNat 32 q.val) (a2 (ix1 p)) = _
  rw [bit_slt (by omega) (by omega)]
  exact bit_congr (by rw [hq, hp])

include hn bn in
theorem nodeMask_apply (x : S8192x64.Idx) : nodeMask a2 x = bit ((x 1).val < n (x 0).val) :=
  (congrArg (nodeMask a2) (eq_ix2 x)).trans (nodeMask_ix2 a2 n hn bn (x 0) (x 1))

include hn bn in
theorem pairMask_apply (x : S8192x64x64.Idx) : pairMask a2 x = bit ((x 1).val < n (x 0).val ∧ (x 2).val < n (x 0).val) := by
  refine (congrArg₂ IntOp.andi ?_ ?_).trans (bit_and _ _)
  · refine (broadcastInDim_apply _ bcast_S8192x64x1_S8192x64x64_0_1_2 _ x (ix3 (x 0) (x 1) (0 : Fin 1)) fun c => ?_).trans
      ((broadcastInDim_apply _ bcast_S8192x64_S8192x64x1_0_1 _ _ (ix2 (x 0) (x 1)) fun c => ?_).trans (nodeMask_ix2 a2 n hn bn (x 0) (x 1)))
    · match c with
      | ⟨0, _⟩ => exact (if_neg (show ¬ (8192 : ℕ) = 1 by decide)).symm
      | ⟨1, _⟩ => exact (if_neg (show ¬ (64 : ℕ) = 1 by decide)).symm
      | ⟨2, _⟩ => exact (if_pos rfl).symm
    · match c with
      | ⟨0, _⟩ => exact (if_neg (show ¬ (8192 : ℕ) = 1 by decide)).symm
      | ⟨1, _⟩ => exact (if_neg (show ¬ (64 : ℕ) = 1 by decide)).symm
  · refine (broadcastInDim_apply _ bcast_S8192x1x64_S8192x64x64_0_1_2 _ x (ix3 (x 0) (0 : Fin 1) (x 2)) fun c => ?_).trans
      ((broadcastInDim_apply _ bcast_S8192x64_S8192x1x64_0_2 _ _ (ix2 (x 0) (x 2)) fun c => ?_).trans (nodeMask_ix2 a2 n hn bn (x 0) (x 2)))
    · match c with
      | ⟨0, _⟩ => exact (if_neg (show ¬ (8192 : ℕ) = 1 by decide)).symm
      | ⟨1, _⟩ => exact (if_pos rfl).symm
      | ⟨2, _⟩ => exact (if_neg (show ¬ (64 : ℕ) = 1 by decide)).symm
    · match c with
      | ⟨0, _⟩ => exact (if_neg (show ¬ (8192 : ℕ) = 1 by decide)).symm
      | ⟨1, _⟩ => exact (if_neg (show ¬ (64 : ℕ) = 1 by decide)).symm

theorem upper_apply (x : S8192x64x64.Idx) : upper x = bit ((x 1).val < (x 2).val) := by
  refine (broadcastInDim_apply _ bcast_S1x64x64_S8192x64x64_0_1_2 _ x (ix3 (0 : Fin 1) (x 1) (x 2)) fun c => ?_).trans
    ((broadcastInDim_apply _ bcast_S64x64_S1x64x64_1_2 _ _ (ix2 (x 1) (x 2)) fun c => ?_).trans ?_)
  · match c with
    | ⟨0, _⟩ => exact (if_pos rfl).symm
    | ⟨1, _⟩ => exact (if_neg (show ¬ (64 : ℕ) = 1 by decide)).symm
    | ⟨2, _⟩ => exact (if_neg (show ¬ (64 : ℕ) = 1 by decide)).symm
  · match c with
    | ⟨0, _⟩ => exact (if_neg (show ¬ (64 : ℕ) = 1 by decide)).symm
    | ⟨1, _⟩ => exact (if_neg (show ¬ (64 : ℕ) = 1 by decide)).symm
  · have h1 : (x 1).val < 64 := (x 1).isLt
    have h2 : (x 2).val < 64 := (x 2).isLt
    show Scalar.select (IntOp.cmpi .sge (BitVec.ofNat 32 (x 1).val + 0#32) (BitVec.ofNat 32 (x 2).val)) 0#1 1#1 = _
    have t1 : (BitVec.ofNat 32 (x 1).val).toNat = (x 1).val := by rw [BitVec.toNat_ofNat]; omega
    have t2 : (BitVec.ofNat 32 (x 2).val).toNat = (x 2).val := by rw [BitVec.toNat_ofNat]; omega
    rw [BitVec.add_zero]
    have h := StableHlo.Predicate.sge_iff_toNat (a := BitVec.ofNat 32 (x 1).val) (b := BitVec.ofNat 32 (x 2).val) (by omega) (by omega)
    rw [t1, t2] at h
    unfold bit
    by_cases hlt : (x 1).val < (x 2).val
    · rw [if_pos hlt, eq_zero_of_ne_one fun hh => absurd (h.1 hh) (by omega)]; rfl
    · rw [if_neg hlt, h.2 (by omega)]; rfl

/-! ## The counts -/

include hn bn in
theorem hist0_eq : hist0 a2 = nums 65 (sizes n) := by
  refine funext fun x => ?_
  have h := scatter_ones (K := 65) (U := 8192) scatter_S65_S8192x1_S8192_n_0_0_1 rfl rfl rfl bcast_S_S65 bcast_S_S8192 bcast_S8192_S8192x1_0 65#32 a2
    (fun k => by rw [hn]; have := bn (k 0).val; omega) x
  have hc : (∑ k : S8192.Idx, if (a2 k).toNat = (x 0).val then 1 else 0) = sizes n (x 0).val :=
    (Finset.sum_congr rfl fun k _ => by rw [hn]).trans (sum_idx1 (N := 8192) fun b => if n b = (x 0).val then 1 else 0)
  have hle : sizes n (x 0).val ≤ 8192 := by
    unfold sizes
    refine (Finset.sum_le_card_nsmul _ _ 1 fun b _ => by split <;> omega).trans ?_
    rw [Finset.card_range, smul_eq_mul]
  refine (congrArg (fun w : BitVec 32 => ((w.toInt : ℝ) : EReal)) (h.trans (congrArg _ hc))).trans ?_
  dsimp only
  rw [StableHlo.Predicate.toInt_ofNat_small _ (by omega)]
  rfl

include hn bn ha ba in
theorem hist1_eq : hist1 a0 a2 = nums 16 (nodes n a) := by
  refine funext fun x => ?_
  refine (scatter_bits (K := 16) (U := 524288) scatter_S16_S524288x1_S524288_n_0_0_1 rfl rfl rfl bcast_S_S16 bcast_S_S524288 bcast_S524288_S524288x1_0 16#32 _
    (fun k => ?_) _ x).trans (congrArg num ?_)
  · refine lt_of_lt_of_le (?_ : _ < 16) (by decide)
    exact (ha _).trans_lt (ba _ _)
  · refine (sum_cast shapeCasts_S8192x64_S524288 (fun y : S8192x64.Idx => if (a0 y).toNat = (x 0).val then (nodeMask a2 y).toNat else 0)).trans ?_
    refine Eq.trans (Finset.sum_congr rfl fun y _ => ?_) (sum_grid2 (a := 8192) (b := 64) fun b j => if j < n b ∧ a b j = (x 0).val then 1 else 0)
    rw [nodeMask_apply a2 n hn bn, bit_toNat, ha]
    split <;> split <;> simp_all

include hn bn he be in
theorem hist2_eq : hist2 a1 a2 = nums 5 (edges n e) := by
  refine funext fun x => ?_
  refine (scatter_bits (K := 5) (U := 33554432) scatter_S5_S33554432x1_S33554432_n_0_0_1 rfl rfl rfl bcast_S_S5 bcast_S_S33554432 bcast_S33554432_S33554432x1_0 5#32 _
    (fun k => ?_) _ x).trans (congrArg num ?_)
  · refine lt_of_lt_of_le (?_ : _ < 5) (by decide)
    exact (he _).trans_lt (be _ _ _)
  · refine (sum_cast shapeCasts_S8192x64x64_S33554432 (fun y : S8192x64x64.Idx => if (a1 y).toNat = (x 0).val then (andi (pairMask a2) upper y).toNat else 0)).trans ?_
    refine Eq.trans (Finset.sum_congr rfl fun y _ => ?_) (sum_grid3 (a := 8192) (b := 64) (c := 64) fun b i j => if i < j ∧ j < n b ∧ e b i j = (x 0).val then 1 else 0)
    rw [show andi (pairMask a2) upper y = bit (((y 1).val < n (y 0).val ∧ (y 2).val < n (y 0).val) ∧ (y 1).val < (y 2).val) from
      (congrArg₂ IntOp.andi (pairMask_apply a2 n hn bn y) (upper_apply y)).trans (bit_and _ _), bit_toNat, he]
    by_cases h : e (y 0).val (y 1).val (y 2).val = (x 0).val
    · rw [if_pos h]
      exact if_congr ⟨fun q => ⟨q.2, q.1.2, h⟩, fun q => ⟨⟨lt_trans q.1 q.2.1, q.2.1⟩, q.1⟩⟩ rfl rfl
    · rw [if_neg h, if_neg fun q => h q.2.2]

include hn bn he be in
theorem weight_apply (y : S8192x64x64.Idx) :
    weight a1 a2 y = half (if (y 1).val < n (y 0).val ∧ (y 2).val < n (y 0).val then twice (e (y 0).val (y 1).val (y 2).val) else 0) := by
  have hv : (a1 y).toNat < 5 := (he y).trans_lt (be _ _ _)
  show Scalar.select (IntOp.cmpi .eq (a1 y) 4#32) (Ideal.ofBits .f32 0x3FC00000#32) (((a1 y).toInt : ℝ) : EReal) * num (pairMask a2 y).toNat = _
  rw [valency hv, pairMask_apply a2 n hn bn, bit_toNat, he]
  split
  · rw [num_one, mul_one]
  · rw [num_zero, mul_zero, half_zero]

include hn bn he be in
theorem sums_apply (y : S8192x64.Idx) : Host.reduceAdd (weight a1 a2) (constant (F := Ideal) S_ .f32 0x00000000#32) reducesTo_S8192x64x64_S8192x64_d1 h_S_ y
    = half (∑ i ∈ Finset.range 64, if i < n (y 0).val ∧ (y 1).val < n (y 0).val then twice (e (y 0).val i (y 1).val) else 0) := by
  have hr : S8192x64x64.Reduces [1] S8192x64 := by decide
  refine (Ideal.hostReduceAdd_single reducesTo_S8192x64x64_S8192x64_d1 hr (weight a1 a2) _ y).trans ?_
  show Ideal.ofBits .f32 0x00000000#32 + _ = _
  rw [bits_zero, zero_add, half_sum, Finset.sum_range]
  refine Finset.sum_congr rfl fun i _ => ?_
  exact weight_apply a1 a2 n e hn he bn be (hr.lift y i)

/-- The bin of an atom's valency as the reference has it, whether or not the molecule has the atom. -/
def refBin (b j : ℕ) : ℕ := min 189 ((∑ i ∈ Finset.range 64, if i < n b ∧ j < n b then twice (e b i j) else 0) / 2)

include bn in
theorem refBin_eq (b j : ℕ) (h : j < n b) : refBin n e b j = bin n e b j := by
  unfold refBin bin val2
  have hb := bn b
  rw [sum_cut (k := n b) _ (by omega) fun i hi => if_neg fun q => absurd q.1 (by omega)]
  refine congrArg (fun s => min 189 (s / 2)) (Finset.sum_congr rfl fun i hi => ?_)
  exact if_pos ⟨Finset.mem_range.1 hi, h⟩

include hn bn he be in
theorem binWord_apply (y : S8192x64.Idx) : binWord a1 a2 y = BitVec.ofNat 32 (refBin n e (y 0).val (y 1).val) := by
  have hle : (∑ i ∈ Finset.range 64, if i < n (y 0).val ∧ (y 1).val < n (y 0).val then twice (e (y 0).val i (y 1).val) else 0) ≤ 64 * 8 := by
    refine (Finset.sum_le_card_nsmul _ _ 8 fun i _ => ?_).trans (by rw [Finset.card_range, smul_eq_mul])
    have := be (y 0).val i (y 1).val
    unfold twice
    split <;> [split <;> omega; omega]
  show IntOp.minsi 189#32 (IntOp.maxsi 0#32 (Ideal.fptosi 32 (Host.reduceAdd (weight a1 a2) (constant (F := Ideal) S_ .f32 0x00000000#32) reducesTo_S8192x64x64_S8192x64_d1 h_S_ y))) = _
  rw [sums_apply a1 a2 n e hn he bn be]
  exact clipped (by omega)

include hn bn he be in
theorem hist3_eq : hist3 a1 a2 = nums 190 (vals n e) := by
  have hb : ∀ y, (binWord a1 a2 y).toNat = refBin n e (y 0).val (y 1).val := fun y => by
    rw [binWord_apply a1 a2 n e hn he bn be, BitVec.toNat_ofNat]
    unfold refBin
    omega
  refine funext fun x => ?_
  refine (scatter_bits (K := 190) (U := 524288) scatter_S190_S524288x1_S524288_n_0_0_1 rfl rfl rfl bcast_S_S190 bcast_S_S524288 bcast_S524288_S524288x1_0 190#32 _
    (fun k => ?_) _ x).trans (congrArg num ?_)
  · refine lt_of_le_of_lt (?_ : _ ≤ 189) (by decide)
    exact (hb _).trans_le (min_le_left _ _)
  · refine (sum_cast shapeCasts_S8192x64_S524288 (fun y : S8192x64.Idx => if (binWord a1 a2 y).toNat = (x 0).val then (nodeMask a2 y).toNat else 0)).trans ?_
    refine Eq.trans (Finset.sum_congr rfl fun y _ => ?_) (sum_grid2 (a := 8192) (b := 64) fun b j => if j < n b ∧ bin n e b j = (x 0).val then 1 else 0)
    rw [nodeMask_apply a2 n hn bn, bit_toNat, hb]
    by_cases h : (y 1).val < n (y 0).val
    · rw [refBin_eq n e bn _ _ h, if_pos h]
      exact if_congr ⟨fun q => ⟨h, q⟩, fun q => q.2⟩ rfl rfl
    · rw [if_neg h, ite_self, if_neg fun q => h q.1]

end Data

end Cert.ReferenceIdeal.Hist
-- ==== Proof.Value.lean ====
/- The kernel's results are the reference's, at the ideal instance. -/
module

public import proofs.«01_k».proof.Proof.RefCount
public import proofs.«01_k».proof.Proof.Frames

@[expose] public section

noncomputable section

namespace Cert.Proof

open Idealize.ShloMosaic Idealize.SL.Sem Cert.Count Cert.Norm Cert.ReferenceIdeal.Hist
open Cert.KernelIdeal.Tile (nums maes nM aM eM nOf aOf eOf nG_lt aG_lt eG_lt rank1 rank2 rank3 at1)

/-! ## The kernel's data, as the arguments have them -/

section Data

variable (m : (ℓ : Loc Cert.KernelIdeal.nD Cert.KernelIdeal.τ Cert.KernelIdeal.sig) → Buf (Elt Ideal) ℓ) (d : Dev Cert.KernelIdeal.nD)

theorem at1_apply {N k : ℕ} (v : (⟨1, ![N]⟩ : Shape).Idx → BitVec 32) (x : (⟨1, ![N]⟩ : Shape).Idx) (h : (x 0).val = k) : at1 (N := N) v k = v x := by
  subst h
  refine (dif_pos (x 0).isLt).trans (congrArg v (funext fun c => ?_))
  obtain rfl : c = 0 := Fin.eq_zero c
  rfl

theorem sizes_at (x : Cert.ReferenceIdeal.S8192.Idx) : ((m ((d.tc : Thread Cert.KernelIdeal.nD Cert.KernelIdeal.τ).loc Cert.KernelIdeal.main_arg2) : IVec Cert.ReferenceIdeal.S8192 32) x).toNat = nM m d (x 0).val :=
  congrArg BitVec.toNat (at1_apply (N := 8192) _ x rfl).symm

theorem types_at (x : Cert.ReferenceIdeal.S8192x64.Idx) : ((m ((d.tc : Thread Cert.KernelIdeal.nD Cert.KernelIdeal.τ).loc Cert.KernelIdeal.main_arg0) : IVec Cert.ReferenceIdeal.S8192x64 32) x).toNat = aM m d (x 0).val (x 1).val := by
  have h0 : (x 0).val < 8192 := (x 0).isLt
  have h1 : (x 1).val < 64 := (x 1).isLt
  let k : (⟨1, ![524288]⟩ : Shape).Idx := fun | 0 => ⟨(x 0).val * 64 + (x 1).val, by show _ < 524288; omega⟩
  refine congrArg BitVec.toNat (((at1_apply (N := 524288) (aOf m d) k rfl).trans ?_).symm)
  refine shapeCast_apply _ Cert.KernelIdeal.Gen.shapeCasts_S8192x64_S524288 k x ?_
  exact (rank2 (a := 8192) (b := 64) x).trans (rank1 k).symm

theorem bonds_at (x : Cert.ReferenceIdeal.S8192x64x64.Idx) :
    ((m ((d.tc : Thread Cert.KernelIdeal.nD Cert.KernelIdeal.τ).loc Cert.KernelIdeal.main_arg1) : IVec Cert.ReferenceIdeal.S8192x64x64 32) x).toNat = eM m d (x 0).val (x 1).val (x 2).val := by
  have h0 : (x 0).val < 8192 := (x 0).isLt
  have h1 : (x 1).val < 64 := (x 1).isLt
  have h2 : (x 2).val < 64 := (x 2).isLt
  let k : (⟨1, ![4096]⟩ : Shape).Idx := fun | 0 => ⟨(x 1).val * 64 + (x 2).val, by show _ < 4096; omega⟩
  refine congrArg BitVec.toNat (((at1_apply (N := 4096) _ k rfl).trans ?_).symm)
  refine shapeCast_apply _ Cert.KernelIdeal.Gen.shapeCasts_S8192x64x64_S8192x4096 (Cert.KernelIdeal.Tile.eIx (x 0).val (k 0)) x ?_
  refine (rank3 (a := 8192) (b := 64) (c := 64) x).trans ((rank2 (a := 8192) (b := 4096) _).trans ?_).symm
  show min (x 0).val 8191 * 4096 + ((x 1).val * 64 + (x 2).val) = ((x 0).val * 64 + (x 1).val) * 64 + (x 2).val
  omega

end Data

/-! ## The reference's results -/

section Ref

variable (m' : (ℓ : Loc Cert.ReferenceIdeal.nD Cert.ReferenceIdeal.τ Cert.ReferenceIdeal.sig) → Buf (Elt Ideal) ℓ) (c : Dev Cert.ReferenceIdeal.nD)

/-- An argument of the reference. -/
abbrev refArg (b : Ref Cert.ReferenceIdeal.sig .tc) := m' ((c.tc : Thread Cert.ReferenceIdeal.nD Cert.ReferenceIdeal.τ).loc b)

variable (n : ℕ → ℕ) (a : ℕ → ℕ → ℕ) (e : ℕ → ℕ → ℕ → ℕ)
variable (hn : ∀ x : Cert.ReferenceIdeal.S8192.Idx, ((refArg m' c Cert.ReferenceIdeal.main_arg2 : IVec Cert.ReferenceIdeal.S8192 32) x).toNat = n (x 0).val)
variable (ha : ∀ x : Cert.ReferenceIdeal.S8192x64.Idx, ((refArg m' c Cert.ReferenceIdeal.main_arg0 : IVec Cert.ReferenceIdeal.S8192x64 32) x).toNat = a (x 0).val (x 1).val)
variable (he : ∀ x : Cert.ReferenceIdeal.S8192x64x64.Idx, ((refArg m' c Cert.ReferenceIdeal.main_arg1 : IVec Cert.ReferenceIdeal.S8192x64x64 32) x).toNat = e (x 0).val (x 1).val (x 2).val)
variable (bn : ∀ b, n b < 65) (ba : ∀ b j, a b j < 16) (be : ∀ b i j, e b i j < 5)

include hn he bn be in
theorem ref2_eq : Cert.ReferenceIdeal.Value.res_main_v80 m' c = norm (nums 5 (edges n e)) := by
  unfold Cert.ReferenceIdeal.Value.res_main_v80
  exact (host_norm _ _ _ (hist2 _ _)).trans (congrArg norm (hist2_eq _ _ n e hn he bn be))

include hn he bn be in
theorem ref3_eq : Cert.ReferenceIdeal.Value.res_main_v83 m' c = norm (nums 190 (vals n e)) := by
  unfold Cert.ReferenceIdeal.Value.res_main_v83
  exact (host_norm _ _ _ (hist3 _ _)).trans (congrArg norm (hist3_eq _ _ n e hn he bn be))

/-- The absolute difference of two normalised vectors, as the reference has it. -/
theorem mae_eq {N : ℕ} (hb : (⟨0, ![]⟩ : Shape).BroadcastsInDim ⟨1, ![N]⟩ ![]) (hb1 : (⟨0, ![]⟩ : Shape).BroadcastsInDim ⟨1, ![1]⟩ ![])
    (hr : (⟨1, ![N]⟩ : Shape).ReducesTo [0] ⟨0, ![]⟩) (hu : 0 < (⟨0, ![]⟩ : Shape).numel) (k : BitVec 32) (v v' w : FVec Ideal ⟨1, ![N]⟩ .f32) (h : v = v') :
    broadcastInDim ⟨1, ![1]⟩ ![] hb1 (Host.divf (Host.reduceAdd (Host.absf (subf
        (Host.divf v (broadcastInDim ⟨1, ![N]⟩ ![] hb (Host.reduceAdd v (constant (F := Ideal) ⟨0, ![]⟩ .f32 0x00000000#32) hr hu)))
        (Host.divf w (broadcastInDim ⟨1, ![N]⟩ ![] hb (Host.reduceAdd w (constant (F := Ideal) ⟨0, ![]⟩ .f32 0x00000000#32) hr hu)))))
        (constant (F := Ideal) ⟨0, ![]⟩ .f32 0x00000000#32) hr hu) (constant (F := Ideal) ⟨0, ![]⟩ .f32 k))
      = fun _ => mae (Ideal.ofBits .f32 k) (norm v') (norm w) := by
  rw [host_norm hb hr hu v, host_norm hb hr hu w, h]
  exact host_mae hb1 hr hu k _ _

include hn ha he bn ba be in
theorem ref4_eq : Cert.ReferenceIdeal.Value.res_main_v116 m' c
    = maes (nums 65 (sizes n)) (refArg m' c Cert.ReferenceIdeal.main_arg3) (nums 16 (nodes n a)) (refArg m' c Cert.ReferenceIdeal.main_arg4)
        (nums 5 (edges n e)) (refArg m' c Cert.ReferenceIdeal.main_arg5) (nums 190 (vals n e)) (refArg m' c Cert.ReferenceIdeal.main_arg6) := by
  unfold Cert.ReferenceIdeal.Value.res_main_v116 maes
  exact cat4 (t := Cert.ReferenceIdeal.S4) 0 _ _ _ _ _ _ _ _ _ _
    (mae_eq _ _ _ _ _ (hist0 _) _ _ (hist0_eq _ n hn bn)) (mae_eq _ _ _ _ _ (hist1 _ _) _ _ (hist1_eq _ _ n a hn ha bn ba))
    (mae_eq _ _ _ _ _ (hist2 _ _) _ _ (hist2_eq _ _ n e hn he bn be)) (mae_eq _ _ _ _ _ (hist3 _ _) _ _ (hist3_eq _ _ n e hn he bn be))

end Ref

/-! ## The claims -/

theorem frame_reference_pre : Cert.quiescent_ReferenceIdeal_pre_in_range := fun m ρ _ => frame_reference m ρ trivial

theorem algebraic : Cert.algebraic_KernelIdeal_ReferenceIdeal := by
  intro m g m' g' hpre hargs
  have hs := fun d => small_of_pre m d _ _ _ _ (hpre d)
  refine ⟨fun c => norm (nums 65 (sizes (nM m c))), fun c => norm (nums 16 (nodes (nM m c) (aM m c))), fun c => norm (nums 5 (edges (nM m c) (eM m c))),
    fun c => norm (nums 190 (vals (nM m c) (eM m c))),
    fun c => maes (nums 65 (sizes (nM m c))) (Cert.KernelIdeal.Tile.t3 m c) (nums 16 (nodes (nM m c) (aM m c))) (Cert.KernelIdeal.Tile.t4 m c)
      (nums 5 (edges (nM m c) (eM m c))) (Cert.KernelIdeal.Tile.t5 m c) (nums 190 (vals (nM m c) (eM m c))) (Cert.KernelIdeal.Tile.t6 m c), ?_, ?_⟩
  · refine (θ_run Cert.KernelIdeal.defs _ _).mono (fun r h c => ?_) (Cert.KernelIdeal.Tile.run_main (F := Ideal) m g hs)
    obtain ⟨e0, e1, e2, e3, e4⟩ := (h.1 c).2
    exact ⟨e0.trans (Cert.KernelIdeal.Tile.fin0_eq m c (hs c)), e1.trans (Cert.KernelIdeal.Tile.fin1_eq m c (hs c)), e2.trans (Cert.KernelIdeal.Tile.fin2_eq m c (hs c)),
      e3.trans (Cert.KernelIdeal.Tile.fin3_eq m c (hs c)), e4.trans (Cert.KernelIdeal.Tile.fin4_eq m c (hs c) _ _ _ _), args_of h c⟩
  · refine (θ_run Cert.ReferenceIdeal.defs _ _).mono (fun r h c => ?_) (Cert.ReferenceIdeal.Value.run (F := Ideal) m' g')
    obtain ⟨e0, e1, e2, e3, e4, hrest⟩ := h c
    obtain ⟨a0, a1, a2, a3, a4, a5, a6⟩ := hargs c
    have hn : ∀ x : Cert.ReferenceIdeal.S8192.Idx, ((refArg m' c Cert.ReferenceIdeal.main_arg2 : IVec Cert.ReferenceIdeal.S8192 32) x).toNat = nM m c (x 0).val :=
      fun x => (congrArg BitVec.toNat (congrFun a2 x)).trans (sizes_at m c x)
    have ha : ∀ x : Cert.ReferenceIdeal.S8192x64.Idx, ((refArg m' c Cert.ReferenceIdeal.main_arg0 : IVec Cert.ReferenceIdeal.S8192x64 32) x).toNat = aM m c (x 0).val (x 1).val :=
      fun x => (congrArg BitVec.toNat (congrFun a0 x)).trans (types_at m c x)
    have he : ∀ x : Cert.ReferenceIdeal.S8192x64x64.Idx, ((refArg m' c Cert.ReferenceIdeal.main_arg1 : IVec Cert.ReferenceIdeal.S8192x64x64 32) x).toNat = eM m c (x 0).val (x 1).val (x 2).val :=
      fun x => (congrArg BitVec.toNat (congrFun a1 x)).trans (bonds_at m c x)
    have bn := nG_lt (hs c)
    have ba := aG_lt (hs c)
    have be := eG_lt (hs c)
    refine ⟨e0.trans ((host_norm _ _ _ (hist0 _)).trans (congrArg norm (hist0_eq _ _ hn bn))), e1.trans ((host_norm _ _ _ (hist1 _ _)).trans (congrArg norm (hist1_eq _ _ _ _ hn ha bn ba))),
      e2.trans (ref2_eq m' c _ _ hn he bn be), e3.trans (ref3_eq m' c _ _ hn he bn be), e4.trans ((ref4_eq m' c _ _ _ hn ha he bn ba be).trans ?_), hrest⟩
    show maes _ (m' ((c.tc : Thread Cert.ReferenceIdeal.nD Cert.ReferenceIdeal.τ).loc Cert.ReferenceIdeal.main_arg3)) _ (m' ((c.tc : Thread Cert.ReferenceIdeal.nD Cert.ReferenceIdeal.τ).loc Cert.ReferenceIdeal.main_arg4))
      _ (m' ((c.tc : Thread Cert.ReferenceIdeal.nD Cert.ReferenceIdeal.τ).loc Cert.ReferenceIdeal.main_arg5)) _ (m' ((c.tc : Thread Cert.ReferenceIdeal.nD Cert.ReferenceIdeal.τ).loc Cert.ReferenceIdeal.main_arg6)) = _
    rw [a3, a4, a5, a6]
    rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_pre, trivial, algebraic⟩

end Cert.Proof

end
